-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_GwMain (m : (ℓ : Loc Cert.GwMain.nD Cert.GwMain.τ Cert.GwMain.sig) → Buf (Elt Bits) ℓ) : Prop :=
  True

def Pre_GwMainIdeal (m : (ℓ : Loc Cert.GwMainIdeal.nD Cert.GwMainIdeal.τ Cert.GwMainIdeal.sig) → Buf (Elt Ideal) ℓ) : Prop :=
  True

def Pre_GwMainRefIdeal (m : (ℓ : Loc Cert.GwMainRefIdeal.nD Cert.GwMainRefIdeal.τ Cert.GwMainRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRefIdeal (m : (ℓ : Loc Cert.GwDownRefIdeal.nD Cert.GwDownRefIdeal.τ Cert.GwDownRefIdeal.sig) → Buf (Elt Ideal) ℓ) : Prop :=
  True

def Pre_Dhm (m : (ℓ : Loc Cert.Dhm.nD Cert.Dhm.τ Cert.Dhm.sig) → Buf (Elt Bits) ℓ) : Prop :=
  True

def Pre_DhmIdeal (m : (ℓ : Loc Cert.DhmIdeal.nD Cert.DhmIdeal.τ Cert.DhmIdeal.sig) → Buf (Elt Ideal) ℓ) : Prop :=
  True

def Pre_DhmRefIdeal (m : (ℓ : Loc Cert.DhmRefIdeal.nD Cert.DhmRefIdeal.τ Cert.DhmRefIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRefIdeal (m : (ℓ : Loc Cert.GwUpRefIdeal.nD Cert.GwUpRefIdeal.τ Cert.GwUpRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_GwA (m : (ℓ : Loc Cert.GwA.nD Cert.GwA.τ Cert.GwA.sig) → Buf (Elt Bits) ℓ) : Prop :=
  True

def Pre_GwAIdeal (m : (ℓ : Loc Cert.GwAIdeal.nD Cert.GwAIdeal.τ Cert.GwAIdeal.sig) → Buf (Elt Ideal) ℓ) : Prop :=
  True

def Pre_GwARefIdeal (m : (ℓ : Loc Cert.GwARefIdeal.nD Cert.GwARefIdeal.τ Cert.GwARefIdeal.sig) → Buf (Elt Ideal) ℓ) : Prop :=
  True

def Pre_Dyb (m : (ℓ : Loc Cert.Dyb.nD Cert.Dyb.τ Cert.Dyb.sig) → Buf (Elt Bits) ℓ) : Prop :=
  True

def Pre_DybIdeal (m : (ℓ : Loc Cert.DybIdeal.nD Cert.DybIdeal.τ Cert.DybIdeal.sig) → Buf (Elt Ideal) ℓ) : Prop :=
  True

def Pre_DybRefIdeal (m : (ℓ : Loc Cert.DybRefIdeal.nD Cert.DybRefIdeal.τ Cert.DybRefIdeal.sig) → Buf (Elt Ideal) ℓ) : Prop :=
  True

def Pre_GwB (m : (ℓ : Loc Cert.GwB.nD Cert.GwB.τ Cert.GwB.sig) → Buf (Elt Bits) ℓ) : Prop :=
  True

def Pre_GwBIdeal (m : (ℓ : Loc Cert.GwBIdeal.nD Cert.GwBIdeal.τ Cert.GwBIdeal.sig) → Buf (Elt Ideal) ℓ) : Prop :=
  True

def Pre_GwBRefIdeal (m : (ℓ : Loc Cert.GwBRefIdeal.nD Cert.GwBRefIdeal.τ Cert.GwBRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaRefIdeal (m : (ℓ : Loc Cert.PaRefIdeal.nD Cert.PaRefIdeal.τ Cert.PaRefIdeal.sig) → Buf (Elt Ideal) ℓ) : Prop :=
  True

def Pre_Pb (m : (ℓ : Loc Cert.Pb.nD Cert.Pb.τ Cert.Pb.sig) → Buf (Elt Bits) ℓ) : Prop :=
  True

def Pre_PbIdeal (m : (ℓ : Loc Cert.PbIdeal.nD Cert.PbIdeal.τ Cert.PbIdeal.sig) → Buf (Elt Ideal) ℓ) : Prop :=
  True

def Pre_PbRefIdeal (m : (ℓ : Loc Cert.PbRefIdeal.nD Cert.PbRefIdeal.τ Cert.PbRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GwMain [hGwMain : Cert.GwMain.Facts] : Prop :=
  ∀ (m : (ℓ : Loc Cert.GwMain.nD Cert.GwMain.τ Cert.GwMain.sig) → Buf (Elt Bits) ℓ) (g : Dev Cert.GwMain.nD → PrngReg), Pre_GwMain m →
    θ_run (Cert.GwMain.defs (F := Bits)) (onTc (τ := Cert.GwMain.τ) (Cert.GwMain.main (F := Bits))) ⟨m, fun _ => 0, g⟩ (fun r => (∀ c : Dev Cert.GwMain.nD,
      r.2.mem ((c.tc : Thread Cert.GwMain.nD Cert.GwMain.τ).loc Cert.GwMain.main_arg0) = m ((c.tc : Thread Cert.GwMain.nD Cert.GwMain.τ).loc Cert.GwMain.main_arg0)
      ∧ r.2.mem ((c.tc : Thread Cert.GwMain.nD Cert.GwMain.τ).loc Cert.GwMain.main_arg1) = m ((c.tc : Thread Cert.GwMain.nD Cert.GwMain.τ).loc Cert.GwMain.main_arg1))
      ∧ r.2.sem = fun _ => 0)

def quiescent_GwMainIdeal [hGwMainIdeal : Cert.GwMainIdeal.Facts] : Prop :=
  ∀ (m : (ℓ : Loc Cert.GwMainIdeal.nD Cert.GwMainIdeal.τ Cert.GwMainIdeal.sig) → Buf (Elt Ideal) ℓ) (g : Dev Cert.GwMainIdeal.nD → PrngReg), Pre_GwMainIdeal m →
    θ_run (Cert.GwMainIdeal.defs (F := Ideal)) (onTc (τ := Cert.GwMainIdeal.τ) (Cert.GwMainIdeal.main (F := Ideal))) ⟨m, fun _ => 0, g⟩ (fun r => (∀ c : Dev Cert.GwMainIdeal.nD,
      r.2.mem ((c.tc : Thread Cert.GwMainIdeal.nD Cert.GwMainIdeal.τ).loc Cert.GwMainIdeal.main_arg0) = m ((c.tc : Thread Cert.GwMainIdeal.nD Cert.GwMainIdeal.τ).loc Cert.GwMainIdeal.main_arg0)
      ∧ r.2.mem ((c.tc : Thread Cert.GwMainIdeal.nD Cert.GwMainIdeal.τ).loc Cert.GwMainIdeal.main_arg1) = m ((c.tc : Thread Cert.GwMainIdeal.nD Cert.GwMainIdeal.τ).loc Cert.GwMainIdeal.main_arg1))
      ∧ r.2.sem = fun _ => 0)

def quiescent_GwMainRefIdeal [hGwMainRefIdeal : Cert.GwMainRefIdeal.Facts] : Prop :=
  ∀ (m : (ℓ : Loc Cert.GwMainRefIdeal.nD Cert.GwMainRefIdeal.τ Cert.GwMainRefIdeal.sig) → Buf (Elt Ideal) ℓ) (g : Dev Cert.GwMainRefIdeal.nD → PrngReg), Pre_GwMainRefIdeal m →
    θ_run (Cert.GwMainRefIdeal.defs (F := Ideal)) (onTc (τ := Cert.GwMainRefIdeal.τ) (Cert.GwMainRefIdeal.main (F := Ideal))) ⟨m, fun _ => 0, g⟩ (fun r => (∀ c : Dev Cert.GwMainRefIdeal.nD,
      r.2.mem ((c.tc : Thread Cert.GwMainRefIdeal.nD Cert.GwMainRefIdeal.τ).loc Cert.GwMainRefIdeal.main_arg0) = m ((c.tc : Thread Cert.GwMainRefIdeal.nD Cert.GwMainRefIdeal.τ).loc Cert.GwMainRefIdeal.main_arg0)
      ∧ r.2.mem ((c.tc : Thread Cert.GwMainRefIdeal.nD Cert.GwMainRefIdeal.τ).loc Cert.GwMainRefIdeal.main_arg1) = m ((c.tc : Thread Cert.GwMainRefIdeal.nD Cert.GwMainRefIdeal.τ).loc Cert.GwMainRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRefIdeal [hGwDownRefIdeal : Cert.GwDownRefIdeal.Facts] : Prop :=
  ∀ (m : (ℓ : Loc Cert.GwDownRefIdeal.nD Cert.GwDownRefIdeal.τ Cert.GwDownRefIdeal.sig) → Buf (Elt Ideal) ℓ) (g : Dev Cert.GwDownRefIdeal.nD → PrngReg), Pre_GwDownRefIdeal m →
    θ_run (Cert.GwDownRefIdeal.defs (F := Ideal)) (onTc (τ := Cert.GwDownRefIdeal.τ) (Cert.GwDownRefIdeal.main (F := Ideal))) ⟨m, fun _ => 0, g⟩ (fun r => (∀ c : Dev Cert.GwDownRefIdeal.nD,
      r.2.mem ((c.tc : Thread Cert.GwDownRefIdeal.nD Cert.GwDownRefIdeal.τ).loc Cert.GwDownRefIdeal.main_arg0) = m ((c.tc : Thread Cert.GwDownRefIdeal.nD Cert.GwDownRefIdeal.τ).loc Cert.GwDownRefIdeal.main_arg0)
      ∧ r.2.mem ((c.tc : Thread Cert.GwDownRefIdeal.nD Cert.GwDownRefIdeal.τ).loc Cert.GwDownRefIdeal.main_arg1) = m ((c.tc : Thread Cert.GwDownRefIdeal.nD Cert.GwDownRefIdeal.τ).loc Cert.GwDownRefIdeal.main_arg1))
      ∧ r.2.sem = fun _ => 0)

def quiescent_Dhm [hDhm : Cert.Dhm.Facts] : Prop :=
  ∀ (m : (ℓ : Loc Cert.Dhm.nD Cert.Dhm.τ Cert.Dhm.sig) → Buf (Elt Bits) ℓ) (g : Dev Cert.Dhm.nD → PrngReg), Pre_Dhm m →
    θ_run (Cert.Dhm.defs (F := Bits)) (onTc (τ := Cert.Dhm.τ) (Cert.Dhm.main (F := Bits))) ⟨m, fun _ => 0, g⟩ (fun r => (∀ c : Dev Cert.Dhm.nD,
      r.2.mem ((c.tc : Thread Cert.Dhm.nD Cert.Dhm.τ).loc Cert.Dhm.main_arg0) = m ((c.tc : Thread Cert.Dhm.nD Cert.Dhm.τ).loc Cert.Dhm.main_arg0)
      ∧ r.2.mem ((c.tc : Thread Cert.Dhm.nD Cert.Dhm.τ).loc Cert.Dhm.main_arg1) = m ((c.tc : Thread Cert.Dhm.nD Cert.Dhm.τ).loc Cert.Dhm.main_arg1))
      ∧ r.2.sem = fun _ => 0)

def quiescent_DhmIdeal [hDhmIdeal : Cert.DhmIdeal.Facts] : Prop :=
  ∀ (m : (ℓ : Loc Cert.DhmIdeal.nD Cert.DhmIdeal.τ Cert.DhmIdeal.sig) → Buf (Elt Ideal) ℓ) (g : Dev Cert.DhmIdeal.nD → PrngReg), Pre_DhmIdeal m →
    θ_run (Cert.DhmIdeal.defs (F := Ideal)) (onTc (τ := Cert.DhmIdeal.τ) (Cert.DhmIdeal.main (F := Ideal))) ⟨m, fun _ => 0, g⟩ (fun r => (∀ c : Dev Cert.DhmIdeal.nD,
      r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
      ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1))
      ∧ r.2.sem = fun _ => 0)

def quiescent_DhmRefIdeal [hDhmRefIdeal : Cert.DhmRefIdeal.Facts] : Prop :=
  ∀ (m : (ℓ : Loc Cert.DhmRefIdeal.nD Cert.DhmRefIdeal.τ Cert.DhmRefIdeal.sig) → Buf (Elt Ideal) ℓ) (g : Dev Cert.DhmRefIdeal.nD → PrngReg), Pre_DhmRefIdeal m →
    θ_run (Cert.DhmRefIdeal.defs (F := Ideal)) (onTc (τ := Cert.DhmRefIdeal.τ) (Cert.DhmRefIdeal.main (F := Ideal))) ⟨m, fun _ => 0, g⟩ (fun r => (∀ c : Dev Cert.DhmRefIdeal.nD,
      r.2.mem ((c.tc : Thread Cert.DhmRefIdeal.nD Cert.DhmRefIdeal.τ).loc Cert.DhmRefIdeal.main_arg0) = m ((c.tc : Thread Cert.DhmRefIdeal.nD Cert.DhmRefIdeal.τ).loc Cert.DhmRefIdeal.main_arg0)
      ∧ r.2.mem ((c.tc : Thread Cert.DhmRefIdeal.nD Cert.DhmRefIdeal.τ).loc Cert.DhmRefIdeal.main_arg1) = m ((c.tc : Thread Cert.DhmRefIdeal.nD Cert.DhmRefIdeal.τ).loc Cert.DhmRefIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRefIdeal [hGwUpRefIdeal : Cert.GwUpRefIdeal.Facts] : Prop :=
  ∀ (m : (ℓ : Loc Cert.GwUpRefIdeal.nD Cert.GwUpRefIdeal.τ Cert.GwUpRefIdeal.sig) → Buf (Elt Ideal) ℓ) (g : Dev Cert.GwUpRefIdeal.nD → PrngReg), Pre_GwUpRefIdeal m →
    θ_run (Cert.GwUpRefIdeal.defs (F := Ideal)) (onTc (τ := Cert.GwUpRefIdeal.τ) (Cert.GwUpRefIdeal.main (F := Ideal))) ⟨m, fun _ => 0, g⟩ (fun r => (∀ c : Dev Cert.GwUpRefIdeal.nD,
      r.2.mem ((c.tc : Thread Cert.GwUpRefIdeal.nD Cert.GwUpRefIdeal.τ).loc Cert.GwUpRefIdeal.main_arg0) = m ((c.tc : Thread Cert.GwUpRefIdeal.nD Cert.GwUpRefIdeal.τ).loc Cert.GwUpRefIdeal.main_arg0)
      ∧ r.2.mem ((c.tc : Thread Cert.GwUpRefIdeal.nD Cert.GwUpRefIdeal.τ).loc Cert.GwUpRefIdeal.main_arg1) = m ((c.tc : Thread Cert.GwUpRefIdeal.nD Cert.GwUpRefIdeal.τ).loc Cert.GwUpRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_GwA [hGwA : Cert.GwA.Facts] : Prop :=
  ∀ (m : (ℓ : Loc Cert.GwA.nD Cert.GwA.τ Cert.GwA.sig) → Buf (Elt Bits) ℓ) (g : Dev Cert.GwA.nD → PrngReg), Pre_GwA m →
    θ_run (Cert.GwA.defs (F := Bits)) (onTc (τ := Cert.GwA.τ) (Cert.GwA.main (F := Bits))) ⟨m, fun _ => 0, g⟩ (fun r => (∀ c : Dev Cert.GwA.nD,
      r.2.mem ((c.tc : Thread Cert.GwA.nD Cert.GwA.τ).loc Cert.GwA.main_arg0) = m ((c.tc : Thread Cert.GwA.nD Cert.GwA.τ).loc Cert.GwA.main_arg0)
      ∧ r.2.mem ((c.tc : Thread Cert.GwA.nD Cert.GwA.τ).loc Cert.GwA.main_arg1) = m ((c.tc : Thread Cert.GwA.nD Cert.GwA.τ).loc Cert.GwA.main_arg1))
      ∧ r.2.sem = fun _ => 0)

def quiescent_GwAIdeal [hGwAIdeal : Cert.GwAIdeal.Facts] : Prop :=
  ∀ (m : (ℓ : Loc Cert.GwAIdeal.nD Cert.GwAIdeal.τ Cert.GwAIdeal.sig) → Buf (Elt Ideal) ℓ) (g : Dev Cert.GwAIdeal.nD → PrngReg), Pre_GwAIdeal m →
    θ_run (Cert.GwAIdeal.defs (F := Ideal)) (onTc (τ := Cert.GwAIdeal.τ) (Cert.GwAIdeal.main (F := Ideal))) ⟨m, fun _ => 0, g⟩ (fun r => (∀ c : Dev Cert.GwAIdeal.nD,
      r.2.mem ((c.tc : Thread Cert.GwAIdeal.nD Cert.GwAIdeal.τ).loc Cert.GwAIdeal.main_arg0) = m ((c.tc : Thread Cert.GwAIdeal.nD Cert.GwAIdeal.τ).loc Cert.GwAIdeal.main_arg0)
      ∧ r.2.mem ((c.tc : Thread Cert.GwAIdeal.nD Cert.GwAIdeal.τ).loc Cert.GwAIdeal.main_arg1) = m ((c.tc : Thread Cert.GwAIdeal.nD Cert.GwAIdeal.τ).loc Cert.GwAIdeal.main_arg1))
      ∧ r.2.sem = fun _ => 0)

def quiescent_GwARefIdeal [hGwARefIdeal : Cert.GwARefIdeal.Facts] : Prop :=
  ∀ (m : (ℓ : Loc Cert.GwARefIdeal.nD Cert.GwARefIdeal.τ Cert.GwARefIdeal.sig) → Buf (Elt Ideal) ℓ) (g : Dev Cert.GwARefIdeal.nD → PrngReg), Pre_GwARefIdeal m →
    θ_run (Cert.GwARefIdeal.defs (F := Ideal)) (onTc (τ := Cert.GwARefIdeal.τ) (Cert.GwARefIdeal.main (F := Ideal))) ⟨m, fun _ => 0, g⟩ (fun r => (∀ c : Dev Cert.GwARefIdeal.nD,
      r.2.mem ((c.tc : Thread Cert.GwARefIdeal.nD Cert.GwARefIdeal.τ).loc Cert.GwARefIdeal.main_arg0) = m ((c.tc : Thread Cert.GwARefIdeal.nD Cert.GwARefIdeal.τ).loc Cert.GwARefIdeal.main_arg0)
      ∧ r.2.mem ((c.tc : Thread Cert.GwARefIdeal.nD Cert.GwARefIdeal.τ).loc Cert.GwARefIdeal.main_arg1) = m ((c.tc : Thread Cert.GwARefIdeal.nD Cert.GwARefIdeal.τ).loc Cert.GwARefIdeal.main_arg1))
      ∧ r.2.sem = fun _ => 0)

def quiescent_Dyb [hDyb : Cert.Dyb.Facts] : Prop :=
  ∀ (m : (ℓ : Loc Cert.Dyb.nD Cert.Dyb.τ Cert.Dyb.sig) → Buf (Elt Bits) ℓ) (g : Dev Cert.Dyb.nD → PrngReg), Pre_Dyb m →
    θ_run (Cert.Dyb.defs (F := Bits)) (onTc (τ := Cert.Dyb.τ) (Cert.Dyb.main (F := Bits))) ⟨m, fun _ => 0, g⟩ (fun r => (∀ c : Dev Cert.Dyb.nD,
      r.2.mem ((c.tc : Thread Cert.Dyb.nD Cert.Dyb.τ).loc Cert.Dyb.main_arg0) = m ((c.tc : Thread Cert.Dyb.nD Cert.Dyb.τ).loc Cert.Dyb.main_arg0)
      ∧ r.2.mem ((c.tc : Thread Cert.Dyb.nD Cert.Dyb.τ).loc Cert.Dyb.main_arg1) = m ((c.tc : Thread Cert.Dyb.nD Cert.Dyb.τ).loc Cert.Dyb.main_arg1))
      ∧ r.2.sem = fun _ => 0)

def quiescent_DybIdeal [hDybIdeal : Cert.DybIdeal.Facts] : Prop :=
  ∀ (m : (ℓ : Loc Cert.DybIdeal.nD Cert.DybIdeal.τ Cert.DybIdeal.sig) → Buf (Elt Ideal) ℓ) (g : Dev Cert.DybIdeal.nD → PrngReg), Pre_DybIdeal m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ r.2.sem = fun _ => 0)

def quiescent_DybRefIdeal [hDybRefIdeal : Cert.DybRefIdeal.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1))
      ∧ r.2.sem = fun _ => 0)

def quiescent_GwB [hGwB : Cert.GwB.Facts] : Prop :=
  ∀ (m : (ℓ : Loc Cert.GwB.nD Cert.GwB.τ Cert.GwB.sig) → Buf (Elt Bits) ℓ) (g : Dev Cert.GwB.nD → PrngReg), Pre_GwB m →
    θ_run (Cert.GwB.defs (F := Bits)) (onTc (τ := Cert.GwB.τ) (Cert.GwB.main (F := Bits))) ⟨m, fun _ => 0, g⟩ (fun r => (∀ c : Dev Cert.GwB.nD,
      r.2.mem ((c.tc : Thread Cert.GwB.nD Cert.GwB.τ).loc Cert.GwB.main_arg0) = m ((c.tc : Thread Cert.GwB.nD Cert.GwB.τ).loc Cert.GwB.main_arg0)
      ∧ r.2.mem ((c.tc : Thread Cert.GwB.nD Cert.GwB.τ).loc Cert.GwB.main_arg1) = m ((c.tc : Thread Cert.GwB.nD Cert.GwB.τ).loc Cert.GwB.main_arg1))
      ∧ r.2.sem = fun _ => 0)

def quiescent_GwBIdeal [hGwBIdeal : Cert.GwBIdeal.Facts] : Prop :=
  ∀ (m : (ℓ : Loc Cert.GwBIdeal.nD Cert.GwBIdeal.τ Cert.GwBIdeal.sig) → Buf (Elt Ideal) ℓ) (g : Dev Cert.GwBIdeal.nD → PrngReg), Pre_GwBIdeal m →
    θ_run (Cert.GwBIdeal.defs (F := Ideal)) (onTc (τ := Cert.GwBIdeal.τ) (Cert.GwBIdeal.main (F := Ideal))) ⟨m, fun _ => 0, g⟩ (fun r => (∀ c : Dev Cert.GwBIdeal.nD,
      r.2.mem ((c.tc : Thread Cert.GwBIdeal.nD Cert.GwBIdeal.τ).loc Cert.GwBIdeal.main_arg0) = m ((c.tc : Thread Cert.GwBIdeal.nD Cert.GwBIdeal.τ).loc Cert.GwBIdeal.main_arg0)
      ∧ r.2.mem ((c.tc : Thread Cert.GwBIdeal.nD Cert.GwBIdeal.τ).loc Cert.GwBIdeal.main_arg1) = m ((c.tc : Thread Cert.GwBIdeal.nD Cert.GwBIdeal.τ).loc Cert.GwBIdeal.main_arg1))
      ∧ r.2.sem = fun _ => 0)

def quiescent_GwBRefIdeal [hGwBRefIdeal : Cert.GwBRefIdeal.Facts] : Prop :=
  ∀ (m : (ℓ : Loc Cert.GwBRefIdeal.nD Cert.GwBRefIdeal.τ Cert.GwBRefIdeal.sig) → Buf (Elt Ideal) ℓ) (g : Dev Cert.GwBRefIdeal.nD → PrngReg), Pre_GwBRefIdeal m →
    θ_run (Cert.GwBRefIdeal.defs (F := Ideal)) (onTc (τ := Cert.GwBRefIdeal.τ) (Cert.GwBRefIdeal.main (F := Ideal))) ⟨m, fun _ => 0, g⟩ (fun r => (∀ c : Dev Cert.GwBRefIdeal.nD,
      r.2.mem ((c.tc : Thread Cert.GwBRefIdeal.nD Cert.GwBRefIdeal.τ).loc Cert.GwBRefIdeal.main_arg0) = m ((c.tc : Thread Cert.GwBRefIdeal.nD Cert.GwBRefIdeal.τ).loc Cert.GwBRefIdeal.main_arg0)
      ∧ r.2.mem ((c.tc : Thread Cert.GwBRefIdeal.nD Cert.GwBRefIdeal.τ).loc Cert.GwBRefIdeal.main_arg1) = m ((c.tc : Thread Cert.GwBRefIdeal.nD Cert.GwBRefIdeal.τ).loc Cert.GwBRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ r.2.sem = fun _ => 0)

def quiescent_PaRefIdeal [hPaRefIdeal : Cert.PaRefIdeal.Facts] : Prop :=
  ∀ (m : (ℓ : Loc Cert.PaRefIdeal.nD Cert.PaRefIdeal.τ Cert.PaRefIdeal.sig) → Buf (Elt Ideal) ℓ) (g : Dev Cert.PaRefIdeal.nD → PrngReg), Pre_PaRefIdeal m →
    θ_run (Cert.PaRefIdeal.defs (F := Ideal)) (onTc (τ := Cert.PaRefIdeal.τ) (Cert.PaRefIdeal.main (F := Ideal))) ⟨m, fun _ => 0, g⟩ (fun r => (∀ c : Dev Cert.PaRefIdeal.nD,
      r.2.mem ((c.tc : Thread Cert.PaRefIdeal.nD Cert.PaRefIdeal.τ).loc Cert.PaRefIdeal.main_arg0) = m ((c.tc : Thread Cert.PaRefIdeal.nD Cert.PaRefIdeal.τ).loc Cert.PaRefIdeal.main_arg0)
      ∧ r.2.mem ((c.tc : Thread Cert.PaRefIdeal.nD Cert.PaRefIdeal.τ).loc Cert.PaRefIdeal.main_arg1) = m ((c.tc : Thread Cert.PaRefIdeal.nD Cert.PaRefIdeal.τ).loc Cert.PaRefIdeal.main_arg1))
      ∧ r.2.sem = fun _ => 0)

def quiescent_Pb [hPb : Cert.Pb.Facts] : Prop :=
  ∀ (m : (ℓ : Loc Cert.Pb.nD Cert.Pb.τ Cert.Pb.sig) → Buf (Elt Bits) ℓ) (g : Dev Cert.Pb.nD → PrngReg), Pre_Pb m →
    θ_run (Cert.Pb.defs (F := Bits)) (onTc (τ := Cert.Pb.τ) (Cert.Pb.main (F := Bits))) ⟨m, fun _ => 0, g⟩ (fun r => (∀ c : Dev Cert.Pb.nD,
      r.2.mem ((c.tc : Thread Cert.Pb.nD Cert.Pb.τ).loc Cert.Pb.main_arg0) = m ((c.tc : Thread Cert.Pb.nD Cert.Pb.τ).loc Cert.Pb.main_arg0)
      ∧ r.2.mem ((c.tc : Thread Cert.Pb.nD Cert.Pb.τ).loc Cert.Pb.main_arg1) = m ((c.tc : Thread Cert.Pb.nD Cert.Pb.τ).loc Cert.Pb.main_arg1))
      ∧ r.2.sem = fun _ => 0)

def quiescent_PbIdeal [hPbIdeal : Cert.PbIdeal.Facts] : Prop :=
  ∀ (m : (ℓ : Loc Cert.PbIdeal.nD Cert.PbIdeal.τ Cert.PbIdeal.sig) → Buf (Elt Ideal) ℓ) (g : Dev Cert.PbIdeal.nD → PrngReg), Pre_PbIdeal m →
    θ_run (Cert.PbIdeal.defs (F := Ideal)) (onTc (τ := Cert.PbIdeal.τ) (Cert.PbIdeal.main (F := Ideal))) ⟨m, fun _ => 0, g⟩ (fun r => (∀ c : Dev Cert.PbIdeal.nD,
      r.2.mem ((c.tc : Thread Cert.PbIdeal.nD Cert.PbIdeal.τ).loc Cert.PbIdeal.main_arg0) = m ((c.tc : Thread Cert.PbIdeal.nD Cert.PbIdeal.τ).loc Cert.PbIdeal.main_arg0)
      ∧ r.2.mem ((c.tc : Thread Cert.PbIdeal.nD Cert.PbIdeal.τ).loc Cert.PbIdeal.main_arg1) = m ((c.tc : Thread Cert.PbIdeal.nD Cert.PbIdeal.τ).loc Cert.PbIdeal.main_arg1))
      ∧ r.2.sem = fun _ => 0)

def quiescent_PbRefIdeal [hPbRefIdeal : Cert.PbRefIdeal.Facts] : Prop :=
  ∀ (m : (ℓ : Loc Cert.PbRefIdeal.nD Cert.PbRefIdeal.τ Cert.PbRefIdeal.sig) → Buf (Elt Ideal) ℓ) (g : Dev Cert.PbRefIdeal.nD → PrngReg), Pre_PbRefIdeal m →
    θ_run (Cert.PbRefIdeal.defs (F := Ideal)) (onTc (τ := Cert.PbRefIdeal.τ) (Cert.PbRefIdeal.main (F := Ideal))) ⟨m, fun _ => 0, g⟩ (fun r => (∀ c : Dev Cert.PbRefIdeal.nD,
      r.2.mem ((c.tc : Thread Cert.PbRefIdeal.nD Cert.PbRefIdeal.τ).loc Cert.PbRefIdeal.main_arg0) = m ((c.tc : Thread Cert.PbRefIdeal.nD Cert.PbRefIdeal.τ).loc Cert.PbRefIdeal.main_arg0)
      ∧ r.2.mem ((c.tc : Thread Cert.PbRefIdeal.nD Cert.PbRefIdeal.τ).loc Cert.PbRefIdeal.main_arg1) = m ((c.tc : Thread Cert.PbRefIdeal.nD Cert.PbRefIdeal.τ).loc Cert.PbRefIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GwMain_GwMainIdeal : Prop :=
  True

def algebraic_GwMainIdeal_GwMainRefIdeal [hGwMainIdeal : Cert.GwMainIdeal.Facts] [hGwMainRefIdeal : Cert.GwMainRefIdeal.Facts] : Prop :=
  ∀ (m : (ℓ : Loc Cert.GwMainIdeal.nD Cert.GwMainIdeal.τ Cert.GwMainIdeal.sig) → Buf (Elt Ideal) ℓ) (g : Dev Cert.GwMainIdeal.nD → PrngReg)
    (m' : (ℓ : Loc Cert.GwMainRefIdeal.nD Cert.GwMainRefIdeal.τ Cert.GwMainRefIdeal.sig) → Buf (Elt Ideal) ℓ) (g' : Dev Cert.GwMainRefIdeal.nD → PrngReg), Pre_GwMainIdeal m →
    (∀ c : Dev Cert.GwMainIdeal.nD,
      m' ((c.tc : Thread Cert.GwMainRefIdeal.nD Cert.GwMainRefIdeal.τ).loc Cert.GwMainRefIdeal.main_arg0) = m ((c.tc : Thread Cert.GwMainIdeal.nD Cert.GwMainIdeal.τ).loc Cert.GwMainIdeal.main_arg0)
      ∧ m' ((c.tc : Thread Cert.GwMainRefIdeal.nD Cert.GwMainRefIdeal.τ).loc Cert.GwMainRefIdeal.main_arg1) = m ((c.tc : Thread Cert.GwMainIdeal.nD Cert.GwMainIdeal.τ).loc Cert.GwMainIdeal.main_arg1)) →
    ∃ (v0 : (c : Dev Cert.GwMainIdeal.nD) → Buf (Elt Ideal) ((c.tc : Thread Cert.GwMainIdeal.nD Cert.GwMainIdeal.τ).loc Cert.GwMainIdeal.main_v0)),
      θ_run (Cert.GwMainIdeal.defs (F := Ideal)) (onTc (τ := Cert.GwMainIdeal.τ) (Cert.GwMainIdeal.main (F := Ideal))) ⟨m, fun _ => 0, g⟩ (fun r => ∀ c : Dev Cert.GwMainIdeal.nD,
          r.2.mem ((c.tc : Thread Cert.GwMainIdeal.nD Cert.GwMainIdeal.τ).loc Cert.GwMainIdeal.main_v0) = v0 c
          ∧ r.2.mem ((c.tc : Thread Cert.GwMainIdeal.nD Cert.GwMainIdeal.τ).loc Cert.GwMainIdeal.main_arg0) = m ((c.tc : Thread Cert.GwMainIdeal.nD Cert.GwMainIdeal.τ).loc Cert.GwMainIdeal.main_arg0)
          ∧ r.2.mem ((c.tc : Thread Cert.GwMainIdeal.nD Cert.GwMainIdeal.τ).loc Cert.GwMainIdeal.main_arg1) = m ((c.tc : Thread Cert.GwMainIdeal.nD Cert.GwMainIdeal.τ).loc Cert.GwMainIdeal.main_arg1))
      ∧ θ_run (Cert.GwMainRefIdeal.defs (F := Ideal)) (onTc (τ := Cert.GwMainRefIdeal.τ) (Cert.GwMainRefIdeal.main (F := Ideal))) ⟨m', fun _ => 0, g'⟩ (fun r => ∀ c : Dev Cert.GwMainRefIdeal.nD,
          r.2.mem ((c.tc : Thread Cert.GwMainRefIdeal.nD Cert.GwMainRefIdeal.τ).loc Cert.GwMainRefIdeal.main_v7) = v0 c
          ∧ r.2.mem ((c.tc : Thread Cert.GwMainRefIdeal.nD Cert.GwMainRefIdeal.τ).loc Cert.GwMainRefIdeal.main_arg0) = m' ((c.tc : Thread Cert.GwMainRefIdeal.nD Cert.GwMainRefIdeal.τ).loc Cert.GwMainRefIdeal.main_arg0)
          ∧ r.2.mem ((c.tc : Thread Cert.GwMainRefIdeal.nD Cert.GwMainRefIdeal.τ).loc Cert.GwMainRefIdeal.main_arg1) = m' ((c.tc : Thread Cert.GwMainRefIdeal.nD Cert.GwMainRefIdeal.τ).loc Cert.GwMainRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v2)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v10) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)) →
    ∃ (v0 : (c : Dev Cert.DupIdeal.nD) → Buf (Elt Ideal) ((c.tc : Thread Cert.DupIdeal.nD Cert.DupIdeal.τ).loc Cert.DupIdeal.main_v0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v14) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2))

def preserves_GwDown_GwDownIdeal : Prop :=
  True

def algebraic_GwDownIdeal_GwDownRefIdeal [hGwDownIdeal : Cert.GwDownIdeal.Facts] [hGwDownRefIdeal : Cert.GwDownRefIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRefIdeal.nD Cert.GwDownRefIdeal.τ Cert.GwDownRefIdeal.sig) → Buf (Elt Ideal) ℓ) (g' : Dev Cert.GwDownRefIdeal.nD → PrngReg), Pre_GwDownIdeal m →
    (∀ c : Dev Cert.GwDownIdeal.nD,
      m' ((c.tc : Thread Cert.GwDownRefIdeal.nD Cert.GwDownRefIdeal.τ).loc Cert.GwDownRefIdeal.main_arg0) = m ((c.tc : Thread Cert.GwDownIdeal.nD Cert.GwDownIdeal.τ).loc Cert.GwDownIdeal.main_arg0)
      ∧ m' ((c.tc : Thread Cert.GwDownRefIdeal.nD Cert.GwDownRefIdeal.τ).loc Cert.GwDownRefIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v4)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v4) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRefIdeal.defs (F := Ideal)) (onTc (τ := Cert.GwDownRefIdeal.τ) (Cert.GwDownRefIdeal.main (F := Ideal))) ⟨m', fun _ => 0, g'⟩ (fun r => ∀ c : Dev Cert.GwDownRefIdeal.nD,
          r.2.mem ((c.tc : Thread Cert.GwDownRefIdeal.nD Cert.GwDownRefIdeal.τ).loc Cert.GwDownRefIdeal.main_v7) = v0 c
          ∧ r.2.mem ((c.tc : Thread Cert.GwDownRefIdeal.nD Cert.GwDownRefIdeal.τ).loc Cert.GwDownRefIdeal.main_arg0) = m' ((c.tc : Thread Cert.GwDownRefIdeal.nD Cert.GwDownRefIdeal.τ).loc Cert.GwDownRefIdeal.main_arg0)
          ∧ r.2.mem ((c.tc : Thread Cert.GwDownRefIdeal.nD Cert.GwDownRefIdeal.τ).loc Cert.GwDownRefIdeal.main_arg1) = m' ((c.tc : Thread Cert.GwDownRefIdeal.nD Cert.GwDownRefIdeal.τ).loc Cert.GwDownRefIdeal.main_arg1))

def preserves_Dhm_DhmIdeal : Prop :=
  True

def algebraic_DhmIdeal_DhmRefIdeal [hDhmIdeal : Cert.DhmIdeal.Facts] [hDhmRefIdeal : Cert.DhmRefIdeal.Facts] : Prop :=
  ∀ (m : (ℓ : Loc Cert.DhmIdeal.nD Cert.DhmIdeal.τ Cert.DhmIdeal.sig) → Buf (Elt Ideal) ℓ) (g : Dev Cert.DhmIdeal.nD → PrngReg)
    (m' : (ℓ : Loc Cert.DhmRefIdeal.nD Cert.DhmRefIdeal.τ Cert.DhmRefIdeal.sig) → Buf (Elt Ideal) ℓ) (g' : Dev Cert.DhmRefIdeal.nD → PrngReg), Pre_DhmIdeal m →
    (∀ c : Dev Cert.DhmIdeal.nD,
      m' ((c.tc : Thread Cert.DhmRefIdeal.nD Cert.DhmRefIdeal.τ).loc Cert.DhmRefIdeal.main_arg0) = m ((c.tc : Thread Cert.DhmIdeal.nD Cert.DhmIdeal.τ).loc Cert.DhmIdeal.main_arg0)
      ∧ m' ((c.tc : Thread Cert.DhmRefIdeal.nD Cert.DhmRefIdeal.τ).loc Cert.DhmRefIdeal.main_arg1) = m ((c.tc : Thread Cert.DhmIdeal.nD Cert.DhmIdeal.τ).loc Cert.DhmIdeal.main_arg1)) →
    ∃ (v0 : (c : Dev Cert.DhmIdeal.nD) → Buf (Elt Ideal) ((c.tc : Thread Cert.DhmIdeal.nD Cert.DhmIdeal.τ).loc Cert.DhmIdeal.main_v0)),
      θ_run (Cert.DhmIdeal.defs (F := Ideal)) (onTc (τ := Cert.DhmIdeal.τ) (Cert.DhmIdeal.main (F := Ideal))) ⟨m, fun _ => 0, g⟩ (fun r => ∀ c : Dev Cert.DhmIdeal.nD,
          r.2.mem ((c.tc : Thread Cert.DhmIdeal.nD Cert.DhmIdeal.τ).loc Cert.DhmIdeal.main_v0) = v0 c
          ∧ r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
          ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1))
      ∧ θ_run (Cert.DhmRefIdeal.defs (F := Ideal)) (onTc (τ := Cert.DhmRefIdeal.τ) (Cert.DhmRefIdeal.main (F := Ideal))) ⟨m', fun _ => 0, g'⟩ (fun r => ∀ c : Dev Cert.DhmRefIdeal.nD,
          r.2.mem ((c.tc : Thread Cert.DhmRefIdeal.nD Cert.DhmRefIdeal.τ).loc Cert.DhmRefIdeal.main_v4) = v0 c
          ∧ r.2.mem ((c.tc : Thread Cert.DhmRefIdeal.nD Cert.DhmRefIdeal.τ).loc Cert.DhmRefIdeal.main_arg0) = m' ((c.tc : Thread Cert.DhmRefIdeal.nD Cert.DhmRefIdeal.τ).loc Cert.DhmRefIdeal.main_arg0)
          ∧ r.2.mem ((c.tc : Thread Cert.DhmRefIdeal.nD Cert.DhmRefIdeal.τ).loc Cert.DhmRefIdeal.main_arg1) = m' ((c.tc : Thread Cert.DhmRefIdeal.nD Cert.DhmRefIdeal.τ).loc Cert.DhmRefIdeal.main_arg1))

def preserves_GwUp_GwUpIdeal : Prop :=
  True

def algebraic_GwUpIdeal_GwUpRefIdeal [hGwUpIdeal : Cert.GwUpIdeal.Facts] [hGwUpRefIdeal : Cert.GwUpRefIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRefIdeal.nD Cert.GwUpRefIdeal.τ Cert.GwUpRefIdeal.sig) → Buf (Elt Ideal) ℓ) (g' : Dev Cert.GwUpRefIdeal.nD → PrngReg), Pre_GwUpIdeal m →
    (∀ c : Dev Cert.GwUpIdeal.nD,
      m' ((c.tc : Thread Cert.GwUpRefIdeal.nD Cert.GwUpRefIdeal.τ).loc Cert.GwUpRefIdeal.main_arg0) = m ((c.tc : Thread Cert.GwUpIdeal.nD Cert.GwUpIdeal.τ).loc Cert.GwUpIdeal.main_arg0)
      ∧ m' ((c.tc : Thread Cert.GwUpRefIdeal.nD Cert.GwUpRefIdeal.τ).loc Cert.GwUpRefIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRefIdeal.defs (F := Ideal)) (onTc (τ := Cert.GwUpRefIdeal.τ) (Cert.GwUpRefIdeal.main (F := Ideal))) ⟨m', fun _ => 0, g'⟩ (fun r => ∀ c : Dev Cert.GwUpRefIdeal.nD,
          r.2.mem ((c.tc : Thread Cert.GwUpRefIdeal.nD Cert.GwUpRefIdeal.τ).loc Cert.GwUpRefIdeal.main_v6) = v0 c
          ∧ r.2.mem ((c.tc : Thread Cert.GwUpRefIdeal.nD Cert.GwUpRefIdeal.τ).loc Cert.GwUpRefIdeal.main_arg0) = m' ((c.tc : Thread Cert.GwUpRefIdeal.nD Cert.GwUpRefIdeal.τ).loc Cert.GwUpRefIdeal.main_arg0)
          ∧ r.2.mem ((c.tc : Thread Cert.GwUpRefIdeal.nD Cert.GwUpRefIdeal.τ).loc Cert.GwUpRefIdeal.main_arg1) = m' ((c.tc : Thread Cert.GwUpRefIdeal.nD Cert.GwUpRefIdeal.τ).loc Cert.GwUpRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v3) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v5) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v0)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v0) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v4) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_GwA_GwAIdeal : Prop :=
  True

def algebraic_GwAIdeal_GwARefIdeal [hGwAIdeal : Cert.GwAIdeal.Facts] [hGwARefIdeal : Cert.GwARefIdeal.Facts] : Prop :=
  ∀ (m : (ℓ : Loc Cert.GwAIdeal.nD Cert.GwAIdeal.τ Cert.GwAIdeal.sig) → Buf (Elt Ideal) ℓ) (g : Dev Cert.GwAIdeal.nD → PrngReg)
    (m' : (ℓ : Loc Cert.GwARefIdeal.nD Cert.GwARefIdeal.τ Cert.GwARefIdeal.sig) → Buf (Elt Ideal) ℓ) (g' : Dev Cert.GwARefIdeal.nD → PrngReg), Pre_GwAIdeal m →
    (∀ c : Dev Cert.GwAIdeal.nD,
      m' ((c.tc : Thread Cert.GwARefIdeal.nD Cert.GwARefIdeal.τ).loc Cert.GwARefIdeal.main_arg0) = m ((c.tc : Thread Cert.GwAIdeal.nD Cert.GwAIdeal.τ).loc Cert.GwAIdeal.main_arg0)
      ∧ m' ((c.tc : Thread Cert.GwARefIdeal.nD Cert.GwARefIdeal.τ).loc Cert.GwARefIdeal.main_arg1) = m ((c.tc : Thread Cert.GwAIdeal.nD Cert.GwAIdeal.τ).loc Cert.GwAIdeal.main_arg1)) →
    ∃ (v0 : (c : Dev Cert.GwAIdeal.nD) → Buf (Elt Ideal) ((c.tc : Thread Cert.GwAIdeal.nD Cert.GwAIdeal.τ).loc Cert.GwAIdeal.main_v0)),
      θ_run (Cert.GwAIdeal.defs (F := Ideal)) (onTc (τ := Cert.GwAIdeal.τ) (Cert.GwAIdeal.main (F := Ideal))) ⟨m, fun _ => 0, g⟩ (fun r => ∀ c : Dev Cert.GwAIdeal.nD,
          r.2.mem ((c.tc : Thread Cert.GwAIdeal.nD Cert.GwAIdeal.τ).loc Cert.GwAIdeal.main_v0) = v0 c
          ∧ r.2.mem ((c.tc : Thread Cert.GwAIdeal.nD Cert.GwAIdeal.τ).loc Cert.GwAIdeal.main_arg0) = m ((c.tc : Thread Cert.GwAIdeal.nD Cert.GwAIdeal.τ).loc Cert.GwAIdeal.main_arg0)
          ∧ r.2.mem ((c.tc : Thread Cert.GwAIdeal.nD Cert.GwAIdeal.τ).loc Cert.GwAIdeal.main_arg1) = m ((c.tc : Thread Cert.GwAIdeal.nD Cert.GwAIdeal.τ).loc Cert.GwAIdeal.main_arg1))
      ∧ θ_run (Cert.GwARefIdeal.defs (F := Ideal)) (onTc (τ := Cert.GwARefIdeal.τ) (Cert.GwARefIdeal.main (F := Ideal))) ⟨m', fun _ => 0, g'⟩ (fun r => ∀ c : Dev Cert.GwARefIdeal.nD,
          r.2.mem ((c.tc : Thread Cert.GwARefIdeal.nD Cert.GwARefIdeal.τ).loc Cert.GwARefIdeal.main_v6) = v0 c
          ∧ r.2.mem ((c.tc : Thread Cert.GwARefIdeal.nD Cert.GwARefIdeal.τ).loc Cert.GwARefIdeal.main_arg0) = m' ((c.tc : Thread Cert.GwARefIdeal.nD Cert.GwARefIdeal.τ).loc Cert.GwARefIdeal.main_arg0)
          ∧ r.2.mem ((c.tc : Thread Cert.GwARefIdeal.nD Cert.GwARefIdeal.τ).loc Cert.GwARefIdeal.main_arg1) = m' ((c.tc : Thread Cert.GwARefIdeal.nD Cert.GwARefIdeal.τ).loc Cert.GwARefIdeal.main_arg1))

def preserves_Dyb_DybIdeal : Prop :=
  True

def algebraic_DybIdeal_DybRefIdeal [hDybIdeal : Cert.DybIdeal.Facts] [hDybRefIdeal : Cert.DybRefIdeal.Facts] : Prop :=
  ∀ (m : (ℓ : Loc Cert.DybIdeal.nD Cert.DybIdeal.τ Cert.DybIdeal.sig) → Buf (Elt Ideal) ℓ) (g : Dev Cert.DybIdeal.nD → PrngReg)
    (m' : (ℓ : Loc Cert.DybRefIdeal.nD Cert.DybRefIdeal.τ Cert.DybRefIdeal.sig) → Buf (Elt Ideal) ℓ) (g' : Dev Cert.DybRefIdeal.nD → PrngReg), Pre_DybIdeal m →
    (∀ c : Dev Cert.DybIdeal.nD,
      m' ((c.tc : Thread Cert.DybRefIdeal.nD Cert.DybRefIdeal.τ).loc Cert.DybRefIdeal.main_arg0) = m ((c.tc : Thread Cert.DybIdeal.nD Cert.DybIdeal.τ).loc Cert.DybIdeal.main_arg0)
      ∧ m' ((c.tc : Thread Cert.DybRefIdeal.nD Cert.DybRefIdeal.τ).loc Cert.DybRefIdeal.main_arg1) = m ((c.tc : Thread Cert.DybIdeal.nD Cert.DybIdeal.τ).loc Cert.DybIdeal.main_arg1)) →
    ∃ (v0 : (c : Dev Cert.DybIdeal.nD) → Buf (Elt Ideal) ((c.tc : Thread Cert.DybIdeal.nD Cert.DybIdeal.τ).loc Cert.DybIdeal.main_v0)),
      θ_run (Cert.DybIdeal.defs (F := Ideal)) (onTc (τ := Cert.DybIdeal.τ) (Cert.DybIdeal.main (F := Ideal))) ⟨m, fun _ => 0, g⟩ (fun r => ∀ c : Dev Cert.DybIdeal.nD,
          r.2.mem ((c.tc : Thread Cert.DybIdeal.nD Cert.DybIdeal.τ).loc Cert.DybIdeal.main_v0) = v0 c
          ∧ r.2.mem ((c.tc : Thread Cert.DybIdeal.nD Cert.DybIdeal.τ).loc Cert.DybIdeal.main_arg0) = m ((c.tc : Thread Cert.DybIdeal.nD Cert.DybIdeal.τ).loc Cert.DybIdeal.main_arg0)
          ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ θ_run (Cert.DybRefIdeal.defs (F := Ideal)) (onTc (τ := Cert.DybRefIdeal.τ) (Cert.DybRefIdeal.main (F := Ideal))) ⟨m', fun _ => 0, g'⟩ (fun r => ∀ c : Dev Cert.DybRefIdeal.nD,
          r.2.mem ((c.tc : Thread Cert.DybRefIdeal.nD Cert.DybRefIdeal.τ).loc Cert.DybRefIdeal.main_v4) = v0 c
          ∧ r.2.mem ((c.tc : Thread Cert.DybRefIdeal.nD Cert.DybRefIdeal.τ).loc Cert.DybRefIdeal.main_arg0) = m' ((c.tc : Thread Cert.DybRefIdeal.nD Cert.DybRefIdeal.τ).loc Cert.DybRefIdeal.main_arg0)
          ∧ r.2.mem ((c.tc : Thread Cert.DybRefIdeal.nD Cert.DybRefIdeal.τ).loc Cert.DybRefIdeal.main_arg1) = m' ((c.tc : Thread Cert.DybRefIdeal.nD Cert.DybRefIdeal.τ).loc Cert.DybRefIdeal.main_arg1))

def preserves_GwB_GwBIdeal : Prop :=
  True

def algebraic_GwBIdeal_GwBRefIdeal [hGwBIdeal : Cert.GwBIdeal.Facts] [hGwBRefIdeal : Cert.GwBRefIdeal.Facts] : Prop :=
  ∀ (m : (ℓ : Loc Cert.GwBIdeal.nD Cert.GwBIdeal.τ Cert.GwBIdeal.sig) → Buf (Elt Ideal) ℓ) (g : Dev Cert.GwBIdeal.nD → PrngReg)
    (m' : (ℓ : Loc Cert.GwBRefIdeal.nD Cert.GwBRefIdeal.τ Cert.GwBRefIdeal.sig) → Buf (Elt Ideal) ℓ) (g' : Dev Cert.GwBRefIdeal.nD → PrngReg), Pre_GwBIdeal m →
    (∀ c : Dev Cert.GwBIdeal.nD,
      m' ((c.tc : Thread Cert.GwBRefIdeal.nD Cert.GwBRefIdeal.τ).loc Cert.GwBRefIdeal.main_arg0) = m ((c.tc : Thread Cert.GwBIdeal.nD Cert.GwBIdeal.τ).loc Cert.GwBIdeal.main_arg0)
      ∧ m' ((c.tc : Thread Cert.GwBRefIdeal.nD Cert.GwBRefIdeal.τ).loc Cert.GwBRefIdeal.main_arg1) = m ((c.tc : Thread Cert.GwBIdeal.nD Cert.GwBIdeal.τ).loc Cert.GwBIdeal.main_arg1)) →
    ∃ (v0 : (c : Dev Cert.GwBIdeal.nD) → Buf (Elt Ideal) ((c.tc : Thread Cert.GwBIdeal.nD Cert.GwBIdeal.τ).loc Cert.GwBIdeal.main_v0)),
      θ_run (Cert.GwBIdeal.defs (F := Ideal)) (onTc (τ := Cert.GwBIdeal.τ) (Cert.GwBIdeal.main (F := Ideal))) ⟨m, fun _ => 0, g⟩ (fun r => ∀ c : Dev Cert.GwBIdeal.nD,
          r.2.mem ((c.tc : Thread Cert.GwBIdeal.nD Cert.GwBIdeal.τ).loc Cert.GwBIdeal.main_v0) = v0 c
          ∧ r.2.mem ((c.tc : Thread Cert.GwBIdeal.nD Cert.GwBIdeal.τ).loc Cert.GwBIdeal.main_arg0) = m ((c.tc : Thread Cert.GwBIdeal.nD Cert.GwBIdeal.τ).loc Cert.GwBIdeal.main_arg0)
          ∧ r.2.mem ((c.tc : Thread Cert.GwBIdeal.nD Cert.GwBIdeal.τ).loc Cert.GwBIdeal.main_arg1) = m ((c.tc : Thread Cert.GwBIdeal.nD Cert.GwBIdeal.τ).loc Cert.GwBIdeal.main_arg1))
      ∧ θ_run (Cert.GwBRefIdeal.defs (F := Ideal)) (onTc (τ := Cert.GwBRefIdeal.τ) (Cert.GwBRefIdeal.main (F := Ideal))) ⟨m', fun _ => 0, g'⟩ (fun r => ∀ c : Dev Cert.GwBRefIdeal.nD,
          r.2.mem ((c.tc : Thread Cert.GwBRefIdeal.nD Cert.GwBRefIdeal.τ).loc Cert.GwBRefIdeal.main_v6) = v0 c
          ∧ r.2.mem ((c.tc : Thread Cert.GwBRefIdeal.nD Cert.GwBRefIdeal.τ).loc Cert.GwBRefIdeal.main_arg0) = m' ((c.tc : Thread Cert.GwBRefIdeal.nD Cert.GwBRefIdeal.τ).loc Cert.GwBRefIdeal.main_arg0)
          ∧ r.2.mem ((c.tc : Thread Cert.GwBRefIdeal.nD Cert.GwBRefIdeal.τ).loc Cert.GwBRefIdeal.main_arg1) = m' ((c.tc : Thread Cert.GwBRefIdeal.nD Cert.GwBRefIdeal.τ).loc Cert.GwBRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Pa_PaIdeal : Prop :=
  True

def algebraic_PaIdeal_PaRefIdeal [hPaIdeal : Cert.PaIdeal.Facts] [hPaRefIdeal : Cert.PaRefIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaRefIdeal.nD Cert.PaRefIdeal.τ Cert.PaRefIdeal.sig) → Buf (Elt Ideal) ℓ) (g' : Dev Cert.PaRefIdeal.nD → PrngReg), Pre_PaIdeal m →
    (∀ c : Dev Cert.PaIdeal.nD,
      m' ((c.tc : Thread Cert.PaRefIdeal.nD Cert.PaRefIdeal.τ).loc Cert.PaRefIdeal.main_arg0) = m ((c.tc : Thread Cert.PaIdeal.nD Cert.PaIdeal.τ).loc Cert.PaIdeal.main_arg0)
      ∧ m' ((c.tc : Thread Cert.PaRefIdeal.nD Cert.PaRefIdeal.τ).loc Cert.PaRefIdeal.main_arg1) = m ((c.tc : Thread Cert.PaIdeal.nD Cert.PaIdeal.τ).loc Cert.PaIdeal.main_arg1)) →
    ∃ (v0 : (c : Dev Cert.PaIdeal.nD) → Buf (Elt Ideal) ((c.tc : Thread Cert.PaIdeal.nD Cert.PaIdeal.τ).loc Cert.PaIdeal.main_v0)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v0) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1))
      ∧ θ_run (Cert.PaRefIdeal.defs (F := Ideal)) (onTc (τ := Cert.PaRefIdeal.τ) (Cert.PaRefIdeal.main (F := Ideal))) ⟨m', fun _ => 0, g'⟩ (fun r => ∀ c : Dev Cert.PaRefIdeal.nD,
          r.2.mem ((c.tc : Thread Cert.PaRefIdeal.nD Cert.PaRefIdeal.τ).loc Cert.PaRefIdeal.main_v2) = v0 c
          ∧ r.2.mem ((c.tc : Thread Cert.PaRefIdeal.nD Cert.PaRefIdeal.τ).loc Cert.PaRefIdeal.main_arg0) = m' ((c.tc : Thread Cert.PaRefIdeal.nD Cert.PaRefIdeal.τ).loc Cert.PaRefIdeal.main_arg0)
          ∧ r.2.mem ((c.tc : Thread Cert.PaRefIdeal.nD Cert.PaRefIdeal.τ).loc Cert.PaRefIdeal.main_arg1) = m' ((c.tc : Thread Cert.PaRefIdeal.nD Cert.PaRefIdeal.τ).loc Cert.PaRefIdeal.main_arg1))

def preserves_Pb_PbIdeal : Prop :=
  True

def algebraic_PbIdeal_PbRefIdeal [hPbIdeal : Cert.PbIdeal.Facts] [hPbRefIdeal : Cert.PbRefIdeal.Facts] : Prop :=
  ∀ (m : (ℓ : Loc Cert.PbIdeal.nD Cert.PbIdeal.τ Cert.PbIdeal.sig) → Buf (Elt Ideal) ℓ) (g : Dev Cert.PbIdeal.nD → PrngReg)
    (m' : (ℓ : Loc Cert.PbRefIdeal.nD Cert.PbRefIdeal.τ Cert.PbRefIdeal.sig) → Buf (Elt Ideal) ℓ) (g' : Dev Cert.PbRefIdeal.nD → PrngReg), Pre_PbIdeal m →
    (∀ c : Dev Cert.PbIdeal.nD,
      m' ((c.tc : Thread Cert.PbRefIdeal.nD Cert.PbRefIdeal.τ).loc Cert.PbRefIdeal.main_arg0) = m ((c.tc : Thread Cert.PbIdeal.nD Cert.PbIdeal.τ).loc Cert.PbIdeal.main_arg0)
      ∧ m' ((c.tc : Thread Cert.PbRefIdeal.nD Cert.PbRefIdeal.τ).loc Cert.PbRefIdeal.main_arg1) = m ((c.tc : Thread Cert.PbIdeal.nD Cert.PbIdeal.τ).loc Cert.PbIdeal.main_arg1)) →
    ∃ (v0 : (c : Dev Cert.PbIdeal.nD) → Buf (Elt Ideal) ((c.tc : Thread Cert.PbIdeal.nD Cert.PbIdeal.τ).loc Cert.PbIdeal.main_v0)),
      θ_run (Cert.PbIdeal.defs (F := Ideal)) (onTc (τ := Cert.PbIdeal.τ) (Cert.PbIdeal.main (F := Ideal))) ⟨m, fun _ => 0, g⟩ (fun r => ∀ c : Dev Cert.PbIdeal.nD,
          r.2.mem ((c.tc : Thread Cert.PbIdeal.nD Cert.PbIdeal.τ).loc Cert.PbIdeal.main_v0) = v0 c
          ∧ r.2.mem ((c.tc : Thread Cert.PbIdeal.nD Cert.PbIdeal.τ).loc Cert.PbIdeal.main_arg0) = m ((c.tc : Thread Cert.PbIdeal.nD Cert.PbIdeal.τ).loc Cert.PbIdeal.main_arg0)
          ∧ r.2.mem ((c.tc : Thread Cert.PbIdeal.nD Cert.PbIdeal.τ).loc Cert.PbIdeal.main_arg1) = m ((c.tc : Thread Cert.PbIdeal.nD Cert.PbIdeal.τ).loc Cert.PbIdeal.main_arg1))
      ∧ θ_run (Cert.PbRefIdeal.defs (F := Ideal)) (onTc (τ := Cert.PbRefIdeal.τ) (Cert.PbRefIdeal.main (F := Ideal))) ⟨m', fun _ => 0, g'⟩ (fun r => ∀ c : Dev Cert.PbRefIdeal.nD,
          r.2.mem ((c.tc : Thread Cert.PbRefIdeal.nD Cert.PbRefIdeal.τ).loc Cert.PbRefIdeal.main_v2) = v0 c
          ∧ r.2.mem ((c.tc : Thread Cert.PbRefIdeal.nD Cert.PbRefIdeal.τ).loc Cert.PbRefIdeal.main_arg0) = m' ((c.tc : Thread Cert.PbRefIdeal.nD Cert.PbRefIdeal.τ).loc Cert.PbRefIdeal.main_arg0)
          ∧ r.2.mem ((c.tc : Thread Cert.PbRefIdeal.nD Cert.PbRefIdeal.τ).loc Cert.PbRefIdeal.main_arg1) = m' ((c.tc : Thread Cert.PbRefIdeal.nD Cert.PbRefIdeal.τ).loc Cert.PbRefIdeal.main_arg1))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamA_AdamAIdeal : Prop :=
  IdealRules.named_const.Statement Cert.AdamAIdeal.κ "c1" .f32 0x3FC48605#32 ((8388608 / 5463681 : ℝ) : EReal)
  ∧ IdealRules.named_const.Statement Cert.AdamAIdeal.κ "c2" .f32 0x42C8E6D3#32 ((268435456 / 2672307 : ℝ) : EReal)

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v23) = v0 c
          ∧ r.2.mem ((c.tc : Thread Cert.AdamARefIdeal.nD Cert.AdamARefIdeal.τ).loc Cert.AdamARefIdeal.main_v4) = v1 c
          ∧ r.2.mem ((c.tc : Thread Cert.AdamARefIdeal.nD Cert.AdamARefIdeal.τ).loc Cert.AdamARefIdeal.main_v10) = v2 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3))

def preserves_AdamB_AdamBIdeal : Prop :=
  IdealRules.named_const.Statement Cert.AdamBIdeal.κ "c1" .f32 0x3FC48605#32 ((8388608 / 5463681 : ℝ) : EReal)
  ∧ IdealRules.named_const.Statement Cert.AdamBIdeal.κ "c2" .f32 0x42C8E6D3#32 ((268435456 / 2672307 : ℝ) : EReal)

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v4) = v1 c
          ∧ r.2.mem ((c.tc : Thread Cert.AdamBRefIdeal.nD Cert.AdamBRefIdeal.τ).loc Cert.AdamBRefIdeal.main_v10) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v28)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v28) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v46) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v20) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def Claim : Prop :=
  ∃ (hKernel : Cert.Kernel.Facts) (hKernelIdeal : Cert.KernelIdeal.Facts) (hReferenceIdeal : Cert.ReferenceIdeal.Facts) (hGwMain : Cert.GwMain.Facts) (hGwMainIdeal : Cert.GwMainIdeal.Facts) (hGwMainRefIdeal : Cert.GwMainRefIdeal.Facts) (hDh : Cert.Dh.Facts) (hDhIdeal : Cert.DhIdeal.Facts) (hDhRefIdeal : Cert.DhRefIdeal.Facts) (hDup : Cert.Dup.Facts) (hDupIdeal : Cert.DupIdeal.Facts) (hDupRefIdeal : Cert.DupRefIdeal.Facts) (hGwDown : Cert.GwDown.Facts) (hGwDownIdeal : Cert.GwDownIdeal.Facts) (hGwDownRefIdeal : Cert.GwDownRefIdeal.Facts) (hDhm : Cert.Dhm.Facts) (hDhmIdeal : Cert.DhmIdeal.Facts) (hDhmRefIdeal : Cert.DhmRefIdeal.Facts) (hGwUp : Cert.GwUp.Facts) (hGwUpIdeal : Cert.GwUpIdeal.Facts) (hGwUpRefIdeal : Cert.GwUpRefIdeal.Facts) (hDmerged : Cert.Dmerged.Facts) (hDmergedIdeal : Cert.DmergedIdeal.Facts) (hDmergedRefIdeal : Cert.DmergedRefIdeal.Facts) (hGwOut : Cert.GwOut.Facts) (hGwOutIdeal : Cert.GwOutIdeal.Facts) (hGwOutRefIdeal : Cert.GwOutRefIdeal.Facts) (hDya : Cert.Dya.Facts) (hDyaIdeal : Cert.DyaIdeal.Facts) (hDyaRefIdeal : Cert.DyaRefIdeal.Facts) (hGwA : Cert.GwA.Facts) (hGwAIdeal : Cert.GwAIdeal.Facts) (hGwARefIdeal : Cert.GwARefIdeal.Facts) (hDyb : Cert.Dyb.Facts) (hDybIdeal : Cert.DybIdeal.Facts) (hDybRefIdeal : Cert.DybRefIdeal.Facts) (hGwB : Cert.GwB.Facts) (hGwBIdeal : Cert.GwBIdeal.Facts) (hGwBRefIdeal : Cert.GwBRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hPa : Cert.Pa.Facts) (hPaIdeal : Cert.PaIdeal.Facts) (hPaRefIdeal : Cert.PaRefIdeal.Facts) (hPb : Cert.Pb.Facts) (hPbIdeal : Cert.PbIdeal.Facts) (hPbRefIdeal : Cert.PbRefIdeal.Facts) (hAdamUp : Cert.AdamUp.Facts) (hAdamUpIdeal : Cert.AdamUpIdeal.Facts) (hAdamUpRefIdeal : Cert.AdamUpRefIdeal.Facts) (hAdamA : Cert.AdamA.Facts) (hAdamAIdeal : Cert.AdamAIdeal.Facts) (hAdamARefIdeal : Cert.AdamARefIdeal.Facts) (hAdamB : Cert.AdamB.Facts) (hAdamBIdeal : Cert.AdamBIdeal.Facts) (hAdamBRefIdeal : Cert.AdamBRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hNormBwd : Cert.NormBwd.Facts) (hNormBwdIdeal : Cert.NormBwdIdeal.Facts) (hNormBwdRefIdeal : Cert.NormBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GwMain (hGwMain := hGwMain)
    ∧ quiescent_GwMainIdeal (hGwMainIdeal := hGwMainIdeal)
    ∧ quiescent_GwMainRefIdeal (hGwMainRefIdeal := hGwMainRefIdeal)
    ∧ quiescent_Dh (hDh := hDh)
    ∧ quiescent_DhIdeal (hDhIdeal := hDhIdeal)
    ∧ quiescent_DhRefIdeal (hDhRefIdeal := hDhRefIdeal)
    ∧ quiescent_Dup (hDup := hDup)
    ∧ quiescent_DupIdeal (hDupIdeal := hDupIdeal)
    ∧ quiescent_DupRefIdeal (hDupRefIdeal := hDupRefIdeal)
    ∧ quiescent_GwDown (hGwDown := hGwDown)
    ∧ quiescent_GwDownIdeal (hGwDownIdeal := hGwDownIdeal)
    ∧ quiescent_GwDownRefIdeal (hGwDownRefIdeal := hGwDownRefIdeal)
    ∧ quiescent_Dhm (hDhm := hDhm)
    ∧ quiescent_DhmIdeal (hDhmIdeal := hDhmIdeal)
    ∧ quiescent_DhmRefIdeal (hDhmRefIdeal := hDhmRefIdeal)
    ∧ quiescent_GwUp (hGwUp := hGwUp)
    ∧ quiescent_GwUpIdeal (hGwUpIdeal := hGwUpIdeal)
    ∧ quiescent_GwUpRefIdeal (hGwUpRefIdeal := hGwUpRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_Dya (hDya := hDya)
    ∧ quiescent_DyaIdeal (hDyaIdeal := hDyaIdeal)
    ∧ quiescent_DyaRefIdeal (hDyaRefIdeal := hDyaRefIdeal)
    ∧ quiescent_GwA (hGwA := hGwA)
    ∧ quiescent_GwAIdeal (hGwAIdeal := hGwAIdeal)
    ∧ quiescent_GwARefIdeal (hGwARefIdeal := hGwARefIdeal)
    ∧ quiescent_Dyb (hDyb := hDyb)
    ∧ quiescent_DybIdeal (hDybIdeal := hDybIdeal)
    ∧ quiescent_DybRefIdeal (hDybRefIdeal := hDybRefIdeal)
    ∧ quiescent_GwB (hGwB := hGwB)
    ∧ quiescent_GwBIdeal (hGwBIdeal := hGwBIdeal)
    ∧ quiescent_GwBRefIdeal (hGwBRefIdeal := hGwBRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Pa (hPa := hPa)
    ∧ quiescent_PaIdeal (hPaIdeal := hPaIdeal)
    ∧ quiescent_PaRefIdeal (hPaRefIdeal := hPaRefIdeal)
    ∧ quiescent_Pb (hPb := hPb)
    ∧ quiescent_PbIdeal (hPbIdeal := hPbIdeal)
    ∧ quiescent_PbRefIdeal (hPbRefIdeal := hPbRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamA (hAdamA := hAdamA)
    ∧ quiescent_AdamAIdeal (hAdamAIdeal := hAdamAIdeal)
    ∧ quiescent_AdamARefIdeal (hAdamARefIdeal := hAdamARefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Proj (hProj := hProj)
    ∧ quiescent_ProjIdeal (hProjIdeal := hProjIdeal)
    ∧ quiescent_ProjRefIdeal (hProjRefIdeal := hProjRefIdeal)
    ∧ quiescent_Norm (hNorm := hNorm)
    ∧ quiescent_NormIdeal (hNormIdeal := hNormIdeal)
    ∧ quiescent_NormRefIdeal (hNormRefIdeal := hNormRefIdeal)
    ∧ quiescent_Gate (hGate := hGate)
    ∧ quiescent_GateIdeal (hGateIdeal := hGateIdeal)
    ∧ quiescent_GateRefIdeal (hGateRefIdeal := hGateRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GwMain_GwMainIdeal
    ∧ algebraic_GwMainIdeal_GwMainRefIdeal (hGwMainIdeal := hGwMainIdeal) (hGwMainRefIdeal := hGwMainRefIdeal)
    ∧ preserves_Dh_DhIdeal
    ∧ algebraic_DhIdeal_DhRefIdeal (hDhIdeal := hDhIdeal) (hDhRefIdeal := hDhRefIdeal)
    ∧ preserves_Dup_DupIdeal
    ∧ algebraic_DupIdeal_DupRefIdeal (hDupIdeal := hDupIdeal) (hDupRefIdeal := hDupRefIdeal)
    ∧ preserves_GwDown_GwDownIdeal
    ∧ algebraic_GwDownIdeal_GwDownRefIdeal (hGwDownIdeal := hGwDownIdeal) (hGwDownRefIdeal := hGwDownRefIdeal)
    ∧ preserves_Dhm_DhmIdeal
    ∧ algebraic_DhmIdeal_DhmRefIdeal (hDhmIdeal := hDhmIdeal) (hDhmRefIdeal := hDhmRefIdeal)
    ∧ preserves_GwUp_GwUpIdeal
    ∧ algebraic_GwUpIdeal_GwUpRefIdeal (hGwUpIdeal := hGwUpIdeal) (hGwUpRefIdeal := hGwUpRefIdeal)
    ∧ preserves_Dmerged_DmergedIdeal
    ∧ algebraic_DmergedIdeal_DmergedRefIdeal (hDmergedIdeal := hDmergedIdeal) (hDmergedRefIdeal := hDmergedRefIdeal)
    ∧ preserves_GwOut_GwOutIdeal
    ∧ algebraic_GwOutIdeal_GwOutRefIdeal (hGwOutIdeal := hGwOutIdeal) (hGwOutRefIdeal := hGwOutRefIdeal)
    ∧ preserves_Dya_DyaIdeal
    ∧ algebraic_DyaIdeal_DyaRefIdeal (hDyaIdeal := hDyaIdeal) (hDyaRefIdeal := hDyaRefIdeal)
    ∧ preserves_GwA_GwAIdeal
    ∧ algebraic_GwAIdeal_GwARefIdeal (hGwAIdeal := hGwAIdeal) (hGwARefIdeal := hGwARefIdeal)
    ∧ preserves_Dyb_DybIdeal
    ∧ algebraic_DybIdeal_DybRefIdeal (hDybIdeal := hDybIdeal) (hDybRefIdeal := hDybRefIdeal)
    ∧ preserves_GwB_GwBIdeal
    ∧ algebraic_GwBIdeal_GwBRefIdeal (hGwBIdeal := hGwBIdeal) (hGwBRefIdeal := hGwBRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Pa_PaIdeal
    ∧ algebraic_PaIdeal_PaRefIdeal (hPaIdeal := hPaIdeal) (hPaRefIdeal := hPaRefIdeal)
    ∧ preserves_Pb_PbIdeal
    ∧ algebraic_PbIdeal_PbRefIdeal (hPbIdeal := hPbIdeal) (hPbRefIdeal := hPbRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamA_AdamAIdeal
    ∧ algebraic_AdamAIdeal_AdamARefIdeal (hAdamAIdeal := hAdamAIdeal) (hAdamARefIdeal := hAdamARefIdeal)
    ∧ preserves_AdamB_AdamBIdeal
    ∧ algebraic_AdamBIdeal_AdamBRefIdeal (hAdamBIdeal := hAdamBIdeal) (hAdamBRefIdeal := hAdamBRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Proj_ProjIdeal
    ∧ algebraic_ProjIdeal_ProjRefIdeal (hProjIdeal := hProjIdeal) (hProjRefIdeal := hProjRefIdeal)
    ∧ preserves_Norm_NormIdeal
    ∧ algebraic_NormIdeal_NormRefIdeal (hNormIdeal := hNormIdeal) (hNormRefIdeal := hNormRefIdeal)
    ∧ preserves_Gate_GateIdeal
    ∧ algebraic_GateIdeal_GateRefIdeal (hGateIdeal := hGateIdeal) (hGateRefIdeal := hGateRefIdeal)
    ∧ preserves_NormBwd_NormBwdIdeal
    ∧ algebraic_NormBwdIdeal_NormBwdRefIdeal (hNormBwdIdeal := hNormBwdIdeal) (hNormBwdRefIdeal := hNormBwdRefIdeal)
-- ==== Pre_finite.lean ====
abbrev S2x2048x3072 : Shape := ⟨3, ![2, 2048, 3072]⟩
abbrev S16 : Shape := ⟨1, ![16]⟩
abbrev S4096x2048 : Shape := ⟨2, ![4096, 2048]⟩
abbrev S_ : Shape := ⟨0, ![]⟩

class Facts : Prop where
  bitsLt_bf16_f32 : FTy.bits .bf16 < FTy.bits .f32
  bcast_S_S2x2048x3072 : S_.BroadcastsInDim S2x2048x3072 (![] : Fin 0 → Fin S2x2048x3072.rank)
  bcast_S_S16 : S_.BroadcastsInDim S16 (![] : Fin 0 → Fin S16.rank)
  bcast_S_S4096x2048 : S_.BroadcastsInDim S4096x2048 (![] : Fin 0 → Fin S4096x2048.rank)

variable [Facts]

def fn {F : FTy → Type} [FloatOps F] (main_arg0 : FVec F S2x2048x3072 .bf16) (main_arg1 : FVec F S16 .f32) (main_arg2 : FVec F S4096x2048 .f32) : IVec S2x2048x3072 1 × IVec S16 1 × IVec S4096x2048 1 :=
  let main_v0 : FVec F S2x2048x3072 .f32 := (extf .f32 · bitsLt_bf16_f32) main_arg0
  let main_v1 : FVec F S2x2048x3072 .f32 := Host.absf main_v0
  let main_cst : FVec F S_ .f32 := constant S_ .f32 0x7F800000#32
  let main_v2 : FVec F S2x2048x3072 .f32 := broadcastInDim S2x2048x3072 ![] bcast_S_S2x2048x3072 main_cst
  let main_v3 : IVec S2x2048x3072 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  (main_v3, main_v6, main_v9)
-- ==== Kernel.lean ====
abbrev S2x2048x3072 : Shape := ⟨3, ![2, 2048, 3072]⟩
abbrev S16 : Shape := ⟨1, ![16]⟩
abbrev S4096x2048 : Shape := ⟨2, ![4096, 2048]⟩
abbrev S2x2048x2048 : Shape := ⟨3, ![2, 2048, 2048]⟩
abbrev S2x2048x512 : Shape := ⟨3, ![2, 2048, 512]⟩
abbrev S2x2048x16x128 : Shape := ⟨4, ![2, 2048, 16, 128]⟩
abbrev S2x2048x4x128 : Shape := ⟨4, ![2, 2048, 4, 128]⟩
abbrev S2x2048x4x4x128 : Shape := ⟨5, ![2, 2048, 4, 4, 128]⟩
abbrev S2x4x2048x2048x4 : Shape := ⟨5, ![2, 4, 2048, 2048, 4]⟩
abbrev S2x4x4x2048x2048 : Shape := ⟨5, ![2, 4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x1x2048x2048 : Shape := ⟨5, ![1, 1, 1, 2048, 2048]⟩
abbrev S2x4x4x2048 : Shape := ⟨4, ![2, 4, 4, 2048]⟩
abbrev S2x4x4x2048x1 : Shape := ⟨5, ![2, 4, 4, 2048, 1]⟩
abbrev S1x4x4x1 : Shape := ⟨4, ![1, 4, 4, 1]⟩
abbrev S2x4x128x4x2048 : Shape := ⟨5, ![2, 4, 128, 4, 2048]⟩
abbrev S2x2048x16 : Shape := ⟨3, ![2, 2048, 16]⟩
abbrev S4096x16 : Shape := ⟨2, ![4096, 16]⟩
abbrev S2x16x2048x1 : Shape := ⟨4, ![2, 16, 2048, 1]⟩
abbrev S2x2048x1x16 : Shape := ⟨4, ![2, 2048, 1, 16]⟩
abbrev S2x1x2048x16 : Shape := ⟨4, ![2, 1, 2048, 16]⟩
abbrev S2x16x2048 : Shape := ⟨3, ![2, 16, 2048]⟩
abbrev S1x128x2048 : Shape := ⟨3, ![1, 128, 2048]⟩
abbrev S1x128x512 : Shape := ⟨3, ![1, 128, 512]⟩
abbrev S1x16x128x1 : Shape := ⟨4, ![1, 16, 128, 1]⟩
abbrev S128x384 : Shape := ⟨2, ![128, 384]⟩
abbrev S1x128x128 : Shape := ⟨3, ![1, 128, 128]⟩
abbrev S128x128 : Shape := ⟨2, ![128, 128]⟩
abbrev S384x128 : Shape := ⟨2, ![384, 128]⟩
abbrev S1x1x128x1 : Shape := ⟨4, ![1, 1, 128, 1]⟩
abbrev S128x1 : Shape := ⟨2, ![128, 1]⟩

abbrev nBuf : Space → Nat
  | .hbm => 78
  | .vmem => 22
  | .smem => 0
  | _ => 0

abbrev bufTy : (tb : Table) → Fin (tcTables nBuf tb) → BufTy
  | .hbm, ⟨0, _⟩ => ⟨S2x2048x3072, .bf16⟩
  | .hbm, ⟨1, _⟩ => ⟨S16, .f32⟩
  | .hbm, ⟨2, _⟩ => ⟨S4096x2048, .f32⟩
  | .hbm, ⟨3, _⟩ => ⟨S2x2048x3072, .f32⟩
  | .hbm, ⟨4, _⟩ => ⟨S2x2048x2048, .f32⟩
  | .hbm, ⟨5, _⟩ => ⟨S2x2048x512, .f32⟩
  | .hbm, ⟨6, _⟩ => ⟨S2x2048x512, .f32⟩
  | .hbm, ⟨7, _⟩ => ⟨S2x2048x16x128, .f32⟩
  | .hbm, ⟨8, _⟩ => ⟨S2x2048x4x128, .f32⟩
  | .hbm, ⟨9, _⟩ => ⟨S2x2048x4x128, .f32⟩
  | .hbm, ⟨10, _⟩ => ⟨S2x2048x4x4x128, .f32⟩
  | .hbm, ⟨11, _⟩ => ⟨S2x4x2048x2048x4, .f32⟩
  | .hbm, ⟨12, _⟩ => ⟨S2x4x4x2048x2048, .f32⟩
  | .hbm, ⟨13, _⟩ => ⟨S_, .f32⟩
  | .hbm, ⟨14, _⟩ => ⟨S2x4x4x2048x2048, .f32⟩
  | .hbm, ⟨15, _⟩ => ⟨S2x4x4x2048x2048, .f32⟩
  | .hbm, ⟨16, _⟩ => ⟨S2048, .i32⟩
  | .hbm, ⟨17, _⟩ => ⟨S2048x1, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S1x1x1x2048x2048, .i1⟩
  | .hbm, ⟨27, _⟩ => ⟨S_, .f32⟩
  | .hbm, ⟨28, _⟩ => ⟨S_, .f32⟩
  | .hbm, ⟨29, _⟩ => ⟨S2x4x4x2048x2048, .i1⟩
  | .hbm, ⟨30, _⟩ => ⟨S2x4x4x2048x2048, .f32⟩
  | .hbm, ⟨31, _⟩ => ⟨S2x4x4x2048x2048, .f32⟩
  | .hbm, ⟨32, _⟩ => ⟨S_, .f32⟩
  | .hbm, ⟨33, _⟩ => ⟨S2x4x4x2048, .f32⟩
  | .hbm, ⟨34, _⟩ => ⟨S2x4x4x2048x1, .f32⟩
  | .hbm, ⟨35, _⟩ => ⟨S2x4x4x2048x2048, .f32⟩
  | .hbm, ⟨36, _⟩ => ⟨S2x4x4x2048x2048, .f32⟩
  | .hbm, ⟨37, _⟩ => ⟨S2x4x4x2048x2048, .f32⟩
  | .hbm, ⟨38, _⟩ => ⟨S_, .f32⟩
  | .hbm, ⟨39, _⟩ => ⟨S2x4x4x2048, .f32⟩
  | .hbm, ⟨40, _⟩ => ⟨S2x4x4x2048x1, .f32⟩
  | .hbm, ⟨41, _⟩ => ⟨S2x4x4x2048x1, .f32⟩
  | .hbm, ⟨42, _⟩ => ⟨S2x4x4x2048x1, .f32⟩
  | .hbm, ⟨43, _⟩ => ⟨S2x4x4x2048, .f32⟩
  | .hbm, ⟨44, _⟩ => ⟨S1x4x4x1, .f32⟩
  | .hbm, ⟨45, _⟩ => ⟨S2x4x4x2048, .f32⟩
  | .hbm, ⟨46, _⟩ => ⟨S2x4x4x2048, .f32⟩
  | .hbm, ⟨47, _⟩ => ⟨S2x4x4x2048, .f32⟩
  | .hbm, ⟨48, _⟩ => ⟨S2x4x4x2048, .f32⟩
  | .hbm, ⟨49, _⟩ => ⟨S2x4x4x2048, .i1⟩
  | .hbm, ⟨50, _⟩ => ⟨S2x4x4x2048, .f32⟩
  | .hbm, ⟨51, _⟩ => ⟨S2x4x4x2048, .f32⟩
  | .hbm, ⟨52, _⟩ => ⟨S2x4x4x2048, .f32⟩
  | .hbm, ⟨53, _⟩ => ⟨S2x4x4x2048, .f32⟩
  | .hbm, ⟨54, _⟩ => ⟨S2x4x4x2048, .f32⟩
  | .hbm, ⟨55, _⟩ => ⟨S2x4x4x2048, .f32⟩
  | .hbm, ⟨56, _⟩ => ⟨S2x4x4x2048, .f32⟩
  | .hbm, ⟨57, _⟩ => ⟨S2x4x4x2048, .f32⟩
  | .hbm, ⟨58, _⟩ => ⟨S2x4x4x2048x1, .f32⟩
  | .hbm, ⟨59, _⟩ => ⟨S2x4x4x2048x2048, .f32⟩
  | .hbm, ⟨60, _⟩ => ⟨S2x4x4x2048x2048, .f32⟩
  | .hbm, ⟨61, _⟩ => ⟨S2x4x4x2048x2048, .f32⟩
  | .hbm, ⟨62, _⟩ => ⟨S2x4x128x4x2048, .f32⟩
  | .hbm, ⟨63, _⟩ => ⟨S2x2048x4x4x128, .f32⟩
  | .hbm, ⟨64, _⟩ => ⟨S2x2048x16x128, .f32⟩
  | .hbm, ⟨65, _⟩ => ⟨S2x2048x16x128, .f32⟩
  | .hbm, ⟨66, _⟩ => ⟨S2x2048x16x128, .f32⟩
  | .hbm, ⟨67, _⟩ => ⟨S_, .f32⟩
  | .hbm, ⟨68, _⟩ => ⟨S2x2048x16, .f32⟩
  | .hbm, ⟨69, _⟩ => ⟨S4096x16, .f32⟩
  | .hbm, ⟨70, _⟩ => ⟨S2x16x2048x1, .f32⟩
  | .hbm, ⟨71, _⟩ => ⟨S2x2048x1x16, .f32⟩
  | .hbm, ⟨72, _⟩ => ⟨S2x1x2048x16, .f32⟩
  | .hbm, ⟨73, _⟩ => ⟨S2x2048x16, .f32⟩
  | .hbm, ⟨74, _⟩ => ⟨S2x16x2048, .f32⟩
  | .hbm, ⟨75, _⟩ => ⟨S2x16x2048x1, .f32⟩
  | .hbm, ⟨76, _⟩ => ⟨S2x2048x2048, .f32⟩
  | .hbm, ⟨77, _⟩ => ⟨S2x2048x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x2048, .f32⟩
  | .local _ .vmem, ⟨15, _⟩ => ⟨S1x128x2048, .f32⟩
  | .local _ .vmem, ⟨16, _⟩ => ⟨S1x16x128x1, .f32⟩
  | .local _ .vmem, ⟨17, _⟩ => ⟨S1x16x128x1, .f32⟩
  | .local _ .vmem, ⟨18, _⟩ => ⟨S1x16x128x1, .f32⟩
  | .local _ .vmem, ⟨19, _⟩ => ⟨S1x16x128x1, .f32⟩
  | .local _ .vmem, ⟨20, _⟩ => ⟨S1x128x2048, .bf16⟩
  | .local _ .vmem, ⟨21, _⟩ => ⟨S1x128x2048, .bf16⟩
  | _, _ => ⟨S2x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_3 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c4_i32 : BitVec 32 := 4#32
  let c0_i32 : BitVec 32 := 0#32
  ![arg0.toNat, v1.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c5_i32 : BitVec 32 := 5#32
  let c0_i32 : BitVec 32 := 0#32
  ![arg0.toNat, v1.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2048x3072 : Shape := ⟨3, ![2, 2048, 3072]⟩
abbrev S16 : Shape := ⟨1, ![16]⟩
abbrev S4096x2048 : Shape := ⟨2, ![4096, 2048]⟩
abbrev S2x2048x2048 : Shape := ⟨3, ![2, 2048, 2048]⟩
abbrev S2x2048x512 : Shape := ⟨3, ![2, 2048, 512]⟩
abbrev S2x2048x16x128 : Shape := ⟨4, ![2, 2048, 16, 128]⟩
abbrev S2x2048x4x128 : Shape := ⟨4, ![2, 2048, 4, 128]⟩
abbrev S2x2048x4x4x128 : Shape := ⟨5, ![2, 2048, 4, 4, 128]⟩
abbrev S2x4x2048x2048x4 : Shape := ⟨5, ![2, 4, 2048, 2048, 4]⟩
abbrev S2x4x4x2048x2048 : Shape := ⟨5, ![2, 4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x1x2048x2048 : Shape := ⟨5, ![1, 1, 1, 2048, 2048]⟩
abbrev S2x4x4x2048 : Shape := ⟨4, ![2, 4, 4, 2048]⟩
abbrev S2x4x4x2048x1 : Shape := ⟨5, ![2, 4, 4, 2048, 1]⟩
abbrev S1x4x4x1 : Shape := ⟨4, ![1, 4, 4, 1]⟩
abbrev S2x4x128x4x2048 : Shape := ⟨5, ![2, 4, 128, 4, 2048]⟩
abbrev S2x4x128x2048 : Shape := ⟨4, ![2, 4, 128, 2048]⟩
abbrev S2x4x2048x4x128 : Shape := ⟨5, ![2, 4, 2048, 4, 128]⟩
abbrev S2x4x2048x128 : Shape := ⟨4, ![2, 4, 2048, 128]⟩

abbrev nBuf : Space → Nat
  | .hbm => 141
  | .vmem => 0
  | .smem => 0
  | _ => 0

abbrev hbmTy0_0 (i : Nat) : BufTy := match i % 128 with
  | 0 => ⟨S2x2048x3072, .bf16⟩
  | 1 => ⟨S16, .f32⟩
  | 2 => ⟨S4096x2048, .f32⟩
  | 3 => ⟨S2x2048x3072, .f32⟩
  | 4 => ⟨S2x2048x2048, .f32⟩
  | 5 => ⟨S2x2048x512, .f32⟩
  | 6 => ⟨S2x2048x512, .f32⟩
  | 7 => ⟨S2x2048x16x128, .f32⟩
  | 8 => ⟨S2x2048x4x128, .f32⟩
  | 9 => ⟨S2x2048x4x128, .f32⟩
  | 10 => ⟨S2x2048x16x128, .f32⟩
  | 11 => ⟨S2x2048x4x4x128, .f32⟩
  | 12 => ⟨S2x4x2048x2048x4, .f32⟩
  | 13 => ⟨S2x4x4x2048x2048, .f32⟩
  | 14 => ⟨S_, .f32⟩
  | 15 => ⟨S2x4x4x2048x2048, .f32⟩
  | 16 => ⟨S2x4x4x2048x2048, .f32⟩
  | 17 => ⟨S2048, .i32⟩
  | 18 => ⟨S2048x1, .i32⟩
  | 19 => ⟨S1x2048, .i32⟩
  | 20 => ⟨S2048x2048, .i32⟩
  | 21 => ⟨S2048x2048, .i32⟩
  | 22 => ⟨S2048x2048, .i32⟩
  | 23 => ⟨S2048x2048, .i32⟩
  | 24 => ⟨S_, .i32⟩
  | 25 => ⟨S2048x2048, .i32⟩
  | 26 => ⟨S2048x2048, .i1⟩
  | 27 => ⟨S1x1x1x2048x2048, .i1⟩
  | 28 => ⟨S_, .f32⟩
  | 29 => ⟨S_, .f32⟩
  | 30 => ⟨S2x4x4x2048x2048, .i1⟩
  | 31 => ⟨S2x4x4x2048x2048, .f32⟩
  | 32 => ⟨S2x4x4x2048x2048, .f32⟩
  | 33 => ⟨S_, .f32⟩
  | 34 => ⟨S2x4x4x2048x2048, .f32⟩
  | 35 => ⟨S_, .f32⟩
  | 36 => ⟨S2x4x4x2048, .f32⟩
  | 37 => ⟨S2x4x4x2048x1, .f32⟩
  | 38 => ⟨S2x4x4x2048x2048, .f32⟩
  | 39 => ⟨S2x4x4x2048x2048, .i1⟩
  | 40 => ⟨S2x4x4x2048x2048, .f32⟩
  | 41 => ⟨S_, .f32⟩
  | 42 => ⟨S2x4x4x2048, .f32⟩
  | 43 => ⟨S2x4x4x2048x1, .f32⟩
  | 44 => ⟨S2x4x4x2048x2048, .f32⟩
  | 45 => ⟨S2x4x4x2048x2048, .f32⟩
  | 46 => ⟨S2x4x4x2048x2048, .f32⟩
  | 47 => ⟨S_, .f32⟩
  | 48 => ⟨S2x4x4x2048, .f32⟩
  | 49 => ⟨S2x4x4x2048x1, .f32⟩
  | 50 => ⟨S2x4x4x2048x1, .f32⟩
  | 51 => ⟨S2x4x4x2048x1, .f32⟩
  | 52 => ⟨S2x4x4x2048, .f32⟩
  | 53 => ⟨S1x4x4x1, .f32⟩
  | 54 => ⟨S_, .f32⟩
  | 55 => ⟨S1x4x4x1, .f32⟩
  | 56 => ⟨S2x4x4x2048, .f32⟩
  | 57 => ⟨S2x4x4x2048, .f32⟩
  | 58 => ⟨S2x4x4x2048, .f32⟩
  | 59 => ⟨S2x4x4x2048, .f32⟩
  | 60 => ⟨S2x4x4x2048, .i1⟩
  | 61 => ⟨S2x4x4x2048, .f32⟩
  | 62 => ⟨S2x4x4x2048, .f32⟩
  | 63 => ⟨S2x4x4x2048, .f32⟩
  | 64 => ⟨S2x4x4x2048, .f32⟩
  | 65 => ⟨S2x4x4x2048, .f32⟩
  | 66 => ⟨S2x4x4x2048, .f32⟩
  | 67 => ⟨S2x4x4x2048, .f32⟩
  | 68 => ⟨S2x4x4x2048, .f32⟩
  | 69 => ⟨S_, .f32⟩
  | 70 => ⟨S2x4x4x2048, .f32⟩
  | 71 => ⟨S2x4x4x2048, .i1⟩
  | 72 => ⟨S_, .f32⟩
  | 73 => ⟨S2x4x4x2048, .f32⟩
  | 74 => ⟨S2x4x4x2048, .f32⟩
  | 75 => ⟨S_, .f32⟩
  | 76 => ⟨S2x4x4x2048, .f32⟩
  | 77 => ⟨S2x4x4x2048, .i1⟩
  | 78 => ⟨S_, .f32⟩
  | 79 => ⟨S2x4x4x2048, .f32⟩
  | 80 => ⟨S2x4x4x2048, .f32⟩
  | 81 => ⟨S2x4x4x2048, .f32⟩
  | 82 => ⟨S2x4x4x2048, .f32⟩
  | 83 => ⟨S_, .f32⟩
  | 84 => ⟨S1x4x4x1, .f32⟩
  | 85 => ⟨S1x4x4x1, .i1⟩
  | 86 => ⟨S_, .f32⟩
  | 87 => ⟨S1x4x4x1, .f32⟩
  | 88 => ⟨S1x4x4x1, .f32⟩
  | 89 => ⟨S_, .f32⟩
  | 90 => ⟨S2x4x4x2048, .f32⟩
  | 91 => ⟨S2x4x4x2048, .i1⟩
  | 92 => ⟨S_, .f32⟩
  | 93 => ⟨S2x4x4x2048, .f32⟩
  | 94 => ⟨S2x4x4x2048, .f32⟩
  | 95 => ⟨S2x4x4x2048, .f32⟩
  | 96 => ⟨S2x4x4x2048, .f32⟩
  | 97 => ⟨S2x4x4x2048, .f32⟩
  | 98 => ⟨S2x4x4x2048, .f32⟩
  | 99 => ⟨S2x4x4x2048, .f32⟩
  | 100 => ⟨S2x4x4x2048x1, .f32⟩
  | 101 => ⟨S2x4x4x2048x2048, .f32⟩
  | 102 => ⟨S2x4x4x2048x2048, .f32⟩
  | 103 => ⟨S2x4x4x2048x2048, .f32⟩
  | 104 => ⟨S2x4x128x4x2048, .f32⟩
  | 105 => ⟨S2x2048x4x4x128, .f32⟩
  | 106 => ⟨S2x2048x16x128, .f32⟩
  | 107 => ⟨S2x2048x4x4x128, .f32⟩
  | 108 => ⟨S2x4x128x4x2048, .f32⟩
  | 109 => ⟨S2x4x4x2048x2048, .f32⟩
  | 110 => ⟨S2x4x128x2048, .f32⟩
  | 111 => ⟨S2x2048x4x128, .f32⟩
  | 112 => ⟨S2x4x4x2048x2048, .f32⟩
  | 113 => ⟨S2x4x4x2048x2048, .f32⟩
  | 114 => ⟨S_, .f32⟩
  | 115 => ⟨S2x4x4x2048, .f32⟩
  | 116 => ⟨S2x4x4x2048x1, .f32⟩
  | 117 => ⟨S_, .f32⟩
  | 118 => ⟨S2x4x4x2048, .f32⟩
  | 119 => ⟨S2x4x4x2048, .f32⟩
  | 120 => ⟨S2x4x4x2048x1, .f32⟩
  | 121 => ⟨S2x4x4x2048x1, .f32⟩
  | 122 => ⟨S_, .f32⟩
  | 123 => ⟨S2x4x4x2048, .f32⟩
  | 124 => ⟨S2x4x4x2048x2048, .f32⟩
  | 125 => ⟨S2x4x4x2048x2048, .f32⟩
  | 126 => ⟨S2x4x4x2048x2048, .f32⟩
  | 127 => ⟨S_, .f32⟩
  | _ => ⟨S2x2048x3072, .bf16⟩

abbrev hbmTy0_1 (i : Nat) : BufTy := match i % 128 with
  | 0 => ⟨S2x4x4x2048x2048, .f32⟩
  | 1 => ⟨S2x4x4x2048x2048, .f32⟩
  | 2 => ⟨S_, .f32⟩
  | 3 => ⟨S2x4x4x2048x2048, .f32⟩
  | 4 => ⟨S2x4x4x2048x2048, .f32⟩
  | 5 => ⟨S2x4x2048x2048x4, .f32⟩
  | 6 => ⟨S2x4x2048x4x128, .f32⟩
  | 7 => ⟨S2x2048x4x4x128, .f32⟩
  | 8 => ⟨S2x4x2048x128, .f32⟩
  | 9 => ⟨S2x2048x4x128, .f32⟩
  | 10 => ⟨S2x2048x16x128, .f32⟩
  | 11 => ⟨S2x2048x2048, .f32⟩
  | 12 => ⟨S2x2048x2048, .bf16⟩
  | _ => ⟨S2x2048x3072, .bf16⟩

abbrev hbmTy (i : Nat) : BufTy := match i / 128 with
  | 0 => hbmTy0_0 i
  | 1 => hbmTy0_1 i
  | _ => ⟨S2x2048x3072, .bf16⟩

abbrev bufTy : (tb : Table) → Fin (tcTables nBuf tb) → BufTy
  | .hbm, ⟨i, _⟩ => hbmTy i
  | _, _ => ⟨S2x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_v23_1 : Ref sig .tc := ⟨.hbm, 30, rfl⟩
abbrev main_call0_v2 : Ref sig .tc := ⟨.hbm, 31, rfl⟩
abbrev main_v23_0 : Ref sig .tc := ⟨.hbm, 32, rfl⟩
abbrev main_call0_cst : Ref sig .tc := ⟨.hbm, 33, rfl⟩
abbrev main_v23_2 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_13 : Ref sig .tc := ⟨.hbm, 114, rfl⟩
abbrev main_v91 : Ref sig .tc := ⟨.hbm, 115, rfl⟩
abbrev main_v92 : Ref sig .tc := ⟨.hbm, 116, rfl⟩
abbrev main_cst_14 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_15 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_call1_cst : Ref sig .tc := ⟨.hbm, 127, rfl⟩
abbrev main_call1_v0 : Ref sig .tc := ⟨.hbm, 128, rfl⟩
abbrev main_v101 : Ref sig .tc := ⟨.hbm, 129, rfl⟩
abbrev main_cst_16 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩

abbrev nD : Nat := 1
abbrev τ : Topo := Topo.v7x

variable {F : FTy → Type} [FloatOps F]
-- ==== GwMain.lean ====
abbrev S4096x2048 : Shape := ⟨2, ![4096, 2048]⟩
abbrev S4096x24576 : Shape := ⟨2, ![4096, 24576]⟩
abbrev S24576x2048 : Shape := ⟨2, ![24576, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x24576, .bf16⟩
  | .hbm, ⟨2, _⟩ => ⟨S24576x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![24, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwMainRefIdeal.lean ====
abbrev S4096x2048 : Shape := ⟨2, ![4096, 2048]⟩
abbrev S4096x24576 : Shape := ⟨2, ![4096, 24576]⟩
abbrev S_ : Shape := ⟨0, ![]⟩
abbrev S2048x24576 : Shape := ⟨2, ![2048, 24576]⟩
abbrev S24576x2048 : Shape := ⟨2, ![24576, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x24576, .bf16⟩
  | .hbm, ⟨2, _⟩ => ⟨S_, .f32⟩
  | .hbm, ⟨3, _⟩ => ⟨S2048x24576, .f32⟩
  | .hbm, ⟨4, _⟩ => ⟨S4096x24576, .f32⟩
  | .hbm, ⟨5, _⟩ => ⟨S4096x2048, .f32⟩
  | .hbm, ⟨6, _⟩ => ⟨S4096x24576, .f32⟩
  | .hbm, ⟨7, _⟩ => ⟨S24576x2048, .f32⟩
  | .hbm, ⟨8, _⟩ => ⟨S2048x24576, .f32⟩
  | .hbm, ⟨9, _⟩ => ⟨S24576x2048, .f32⟩
  | .hbm, ⟨10, _⟩ => ⟨S24576x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh.lean ====
abbrev S4096x24576 : Shape := ⟨2, ![4096, 24576]⟩
abbrev S4096x64 : Shape := ⟨2, ![4096, 64]⟩
abbrev S24576x2048 : Shape := ⟨2, ![24576, 2048]⟩
abbrev S64x2048 : Shape := ⟨2, ![64, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x24576, .bf16⟩
  | .hbm, ⟨1, _⟩ => ⟨S4096x64, .f32⟩
  | .hbm, ⟨2, _⟩ => ⟨S24576x2048, .bf16⟩
  | .hbm, ⟨3, _⟩ => ⟨S64x2048, .bf16⟩
  | .hbm, ⟨4, _⟩ => ⟨S64x2048, .f32⟩
  | .hbm, ⟨5, _⟩ => ⟨S4096x2048, .f32⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S4096x24576 : Shape := ⟨2, ![4096, 24576]⟩
abbrev S4096x64 : Shape := ⟨2, ![4096, 64]⟩
abbrev S24576x2048 : Shape := ⟨2, ![24576, 2048]⟩
abbrev S64x2048 : Shape := ⟨2, ![64, 2048]⟩
abbrev S_ : Shape := ⟨0, ![]⟩
abbrev S4096x2048 : Shape := ⟨2, ![4096, 2048]⟩
abbrev S2048x24576 : Shape := ⟨2, ![2048, 24576]⟩
abbrev S2048x64 : Shape := ⟨2, ![2048, 64]⟩

abbrev nBuf : Space → Nat
  | .hbm => 16
  | .vmem => 0
  | .smem => 0
  | _ => 0

abbrev bufTy : (tb : Table) → Fin (tcTables nBuf tb) → BufTy
  | .hbm, ⟨0, _⟩ => ⟨S4096x24576, .bf16⟩
  | .hbm, ⟨1, _⟩ => ⟨S4096x64, .f32⟩
  | .hbm, ⟨2, _⟩ => ⟨S24576x2048, .bf16⟩
  | .hbm, ⟨3, _⟩ => ⟨S64x2048, .bf16⟩
  | .hbm, ⟨4, _⟩ => ⟨S_, .f32⟩
  | .hbm, ⟨5, _⟩ => ⟨S4096x2048, .f32⟩
  | .hbm, ⟨6, _⟩ => ⟨S4096x24576, .f32⟩
  | .hbm, ⟨7, _⟩ => ⟨S24576x2048, .f32⟩
  | .hbm, ⟨8, _⟩ => ⟨S2048x24576, .f32⟩
  | .hbm, ⟨9, _⟩ => ⟨S4096x24576, .f32⟩
  | .hbm, ⟨10, _⟩ => ⟨S64x2048, .f32⟩
  | .hbm, ⟨11, _⟩ => ⟨S2048x64, .f32⟩
  | .hbm, ⟨12, _⟩ => ⟨S4096x64, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Dup.lean ====
abbrev S4096x8192 : Shape := ⟨2, ![4096, 8192]⟩
abbrev S4096x2048 : Shape := ⟨2, ![4096, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S8192x2048, .bf16⟩
  | .hbm, ⟨3, _⟩ => ⟨S4096x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DupRefIdeal.lean ====
abbrev S4096x8192 : Shape := ⟨2, ![4096, 8192]⟩
abbrev S4096x2048 : Shape := ⟨2, ![4096, 2048]⟩
abbrev S8192x2048 : Shape := ⟨2, ![8192, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S8192x2048, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== GwDown.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwDownRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .f32⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dhm.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhmRefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S2048x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwUp.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwUpRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S4096x2048, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dmerged.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GwOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dya.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwA.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwARefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dyb.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S1024x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwB.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwBRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x1024, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Pa.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PaRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pb.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PbRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamUp.lean ====
abbrev S2x2048x2048 : Shape := ⟨3, ![2, 2048, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpIdeal.lean ====
abbrev S2x2048x2048 : Shape := ⟨3, ![2, 2048, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpRefIdeal.lean ====
abbrev S2x2048x2048 : Shape := ⟨3, ![2, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2x2048x2048, .f32⟩
  | .hbm, ⟨4, _⟩ => ⟨S_, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S_, .f32⟩
  | .hbm, ⟨20, _⟩ => ⟨S2x2048x2048, .f32⟩
  | .hbm, ⟨21, _⟩ => ⟨S2x2048x2048, .f32⟩
  | .hbm, ⟨22, _⟩ => ⟨S_, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamA.lean ====
abbrev S2x512x2048 : Shape := ⟨3, ![2, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamAIdeal.lean ====
abbrev S2x512x2048 : Shape := ⟨3, ![2, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamARefIdeal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamB.lean ====
abbrev S2x1024x512 : Shape := ⟨3, ![2, 1024, 512]⟩
abbrev S1x256x512 : Shape := ⟨3, ![1, 256, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamBIdeal.lean ====
abbrev S2x1024x512 : Shape := ⟨3, ![2, 1024, 512]⟩
abbrev S1x256x512 : Shape := ⟨3, ![1, 256, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamBRefIdeal.lean ====
abbrev S2x1024x512 : Shape := ⟨3, ![2, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x6160x2048 : Shape := ⟨3, ![2, 6160, 2048]⟩
abbrev S1x80x2048 : Shape := ⟨3, ![1, 80, 2048]⟩
abbrev S80x2048 : Shape := ⟨2, ![80, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x6160x2048, .f32⟩
  | .hbm, ⟨1, _⟩ => ⟨S2x6160x2048, .f32⟩
  | .hbm, ⟨2, _⟩ => ⟨S2x6160x2048, .f32⟩
  | .hbm, ⟨3, _⟩ => ⟨S2x6160x2048, .f32⟩
  | .hbm, ⟨4, _⟩ => ⟨S2x6160x2048, .f32⟩
  | .hbm, ⟨5, _⟩ => ⟨S2x6160x2048, .f32⟩
  | .hbm, ⟨6, _⟩ => ⟨S2x6160x2048, .f32⟩
  | .local _ .vmem, ⟨0, _⟩ => ⟨S1x80x2048, .f32⟩
  | .local _ .vmem, ⟨1, _⟩ => ⟨S1x80x2048, .f32⟩
  | .local _ .vmem, ⟨2, _⟩ => ⟨S1x80x2048, .f32⟩
  | .local _ .vmem, ⟨3, _⟩ => ⟨S1x80x2048, .f32⟩
  | .local _ .vmem, ⟨4, _⟩ => ⟨S1x80x2048, .f32⟩
  | .local _ .vmem, ⟨5, _⟩ => ⟨S1x80x2048, .f32⟩
  | .local _ .vmem, ⟨6, _⟩ => ⟨S1x80x2048, .f32⟩
  | .local _ .vmem, ⟨7, _⟩ => ⟨S1x80x2048, .f32⟩
  | .local _ .vmem, ⟨8, _⟩ => ⟨S1x80x2048, .f32⟩
  | .local _ .vmem, ⟨9, _⟩ => ⟨S1x80x2048, .f32⟩
  | .local _ .vmem, ⟨10, _⟩ => ⟨S1x80x2048, .f32⟩
  | .local _ .vmem, ⟨11, _⟩ => ⟨S1x80x2048, .f32⟩
  | .local _ .vmem, ⟨12, _⟩ => ⟨S1x80x2048, .f32⟩
  | .local _ .vmem, ⟨13, _⟩ => ⟨S1x80x2048, .f32⟩
  | _, _ => ⟨S2x6160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 77], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x80x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x80x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x80x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInIdeal.lean ====
abbrev S2x6160x2048 : Shape := ⟨3, ![2, 6160, 2048]⟩
abbrev S1x80x2048 : Shape := ⟨3, ![1, 80, 2048]⟩
abbrev S80x2048 : Shape := ⟨2, ![80, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x6160x2048, .f32⟩
  | .hbm, ⟨1, _⟩ => ⟨S2x6160x2048, .f32⟩
  | .hbm, ⟨2, _⟩ => ⟨S2x6160x2048, .f32⟩
  | .hbm, ⟨3, _⟩ => ⟨S2x6160x2048, .f32⟩
  | .hbm, ⟨4, _⟩ => ⟨S2x6160x2048, .f32⟩
  | .hbm, ⟨5, _⟩ => ⟨S2x6160x2048, .f32⟩
  | .hbm, ⟨6, _⟩ => ⟨S2x6160x2048, .f32⟩
  | .local _ .vmem, ⟨0, _⟩ => ⟨S1x80x2048, .f32⟩
  | .local _ .vmem, ⟨1, _⟩ => ⟨S1x80x2048, .f32⟩
  | .local _ .vmem, ⟨2, _⟩ => ⟨S1x80x2048, .f32⟩
  | .local _ .vmem, ⟨3, _⟩ => ⟨S1x80x2048, .f32⟩
  | .local _ .vmem, ⟨4, _⟩ => ⟨S1x80x2048, .f32⟩
  | .local _ .vmem, ⟨5, _⟩ => ⟨S1x80x2048, .f32⟩
  | .local _ .vmem, ⟨6, _⟩ => ⟨S1x80x2048, .f32⟩
  | .local _ .vmem, ⟨7, _⟩ => ⟨S1x80x2048, .f32⟩
  | .local _ .vmem, ⟨8, _⟩ => ⟨S1x80x2048, .f32⟩
  | .local _ .vmem, ⟨9, _⟩ => ⟨S1x80x2048, .f32⟩
  | .local _ .vmem, ⟨10, _⟩ => ⟨S1x80x2048, .f32⟩
  | .local _ .vmem, ⟨11, _⟩ => ⟨S1x80x2048, .f32⟩
  | .local _ .vmem, ⟨12, _⟩ => ⟨S1x80x2048, .f32⟩
  | .local _ .vmem, ⟨13, _⟩ => ⟨S1x80x2048, .f32⟩
  | _, _ => ⟨S2x6160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨2, ![2, 77], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x80x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x80x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x80x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x80x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x80x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInRefIdeal.lean ====
abbrev S2x6160x2048 : Shape := ⟨3, ![2, 6160, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6160x2048, .f32⟩
  | .hbm, ⟨1, _⟩ => ⟨S2x6160x2048, .f32⟩
  | .hbm, ⟨2, _⟩ => ⟨S2x6160x2048, .f32⟩
  | .hbm, ⟨3, _⟩ => ⟨S2x6160x2048, .f32⟩
  | .hbm, ⟨4, _⟩ => ⟨S_, .f32⟩
  | .hbm, ⟨5, _⟩ => ⟨S2x6160x2048, .f32⟩
  | .hbm, ⟨6, _⟩ => ⟨S2x6160x2048, .f32⟩
  | .hbm, ⟨7, _⟩ => ⟨S_, .f32⟩
  | .hbm, ⟨8, _⟩ => ⟨S2x6160x2048, .f32⟩
  | .hbm, ⟨9, _⟩ => ⟨S2x6160x2048, .f32⟩
  | .hbm, ⟨10, _⟩ => ⟨S2x6160x2048, .f32⟩
  | .hbm, ⟨11, _⟩ => ⟨S_, .f32⟩
  | .hbm, ⟨12, _⟩ => ⟨S2x6160x2048, .f32⟩
  | .hbm, ⟨13, _⟩ => ⟨S2x6160x2048, .f32⟩
  | .hbm, ⟨14, _⟩ => ⟨S2x6160x2048, .f32⟩
  | .hbm, ⟨15, _⟩ => ⟨S_, .f32⟩
  | .hbm, ⟨16, _⟩ => ⟨S2x6160x2048, .f32⟩
  | .hbm, ⟨17, _⟩ => ⟨S2x6160x2048, .f32⟩
  | .hbm, ⟨18, _⟩ => ⟨S2x6160x2048, .f32⟩
  | .hbm, ⟨19, _⟩ => ⟨S_, .f32⟩
  | .hbm, ⟨20, _⟩ => ⟨S2x6160x2048, .f32⟩
  | .hbm, ⟨21, _⟩ => ⟨S2x6160x2048, .f32⟩
  | .hbm, ⟨22, _⟩ => ⟨S_, .f32⟩
  | .hbm, ⟨23, _⟩ => ⟨S2x6160x2048, .f32⟩
  | .hbm, ⟨24, _⟩ => ⟨S2x6160x2048, .f32⟩
  | .hbm, ⟨25, _⟩ => ⟨S2x6160x2048, .f32⟩
  | .hbm, ⟨26, _⟩ => ⟨S_, .f32⟩
  | .hbm, ⟨27, _⟩ => ⟨S2x6160x2048, .f32⟩
  | .hbm, ⟨28, _⟩ => ⟨S2x6160x2048, .f32⟩
  | .hbm, ⟨29, _⟩ => ⟨S2x6160x2048, .f32⟩
  | .hbm, ⟨30, _⟩ => ⟨S_, .f32⟩
  | .hbm, ⟨31, _⟩ => ⟨S2x6160x2048, .f32⟩
  | .hbm, ⟨32, _⟩ => ⟨S2x6160x2048, .f32⟩
  | .hbm, ⟨33, _⟩ => ⟨S2x6160x2048, .f32⟩
  | .hbm, ⟨34, _⟩ => ⟨S_, .f32⟩
  | .hbm, ⟨35, _⟩ => ⟨S2x6160x2048, .f32⟩
  | .hbm, ⟨36, _⟩ => ⟨S2x6160x2048, .f32⟩
  | _, _ => ⟨S2x6160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x264x128 : Shape := ⟨3, ![1, 264, 128]⟩
abbrev S1x8x128 : Shape := ⟨3, ![1, 8, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S1x264x128, .f32⟩
  | .hbm, ⟨1, _⟩ => ⟨S1x264x128, .f32⟩
  | .hbm, ⟨2, _⟩ => ⟨S1x264x128, .f32⟩
  | .hbm, ⟨3, _⟩ => ⟨S1x264x128, .f32⟩
  | .hbm, ⟨4, _⟩ => ⟨S1x264x128, .f32⟩
  | .hbm, ⟨5, _⟩ => ⟨S1x264x128, .f32⟩
  | .hbm, ⟨6, _⟩ => ⟨S1x264x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | _, _ => ⟨S1x264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSmallRefIdeal.lean ====
abbrev S1x264x128 : Shape := ⟨3, ![1, 264, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x264x128, .f32⟩
  | .hbm, ⟨1, _⟩ => ⟨S1x264x128, .f32⟩
  | .hbm, ⟨2, _⟩ => ⟨S1x264x128, .f32⟩
  | .hbm, ⟨3, _⟩ => ⟨S1x264x128, .f32⟩
  | .hbm, ⟨4, _⟩ => ⟨S_, .f32⟩
  | .hbm, ⟨5, _⟩ => ⟨S1x264x128, .f32⟩
  | .hbm, ⟨6, _⟩ => ⟨S1x264x128, .f32⟩
  | .hbm, ⟨7, _⟩ => ⟨S_, .f32⟩
  | .hbm, ⟨8, _⟩ => ⟨S1x264x128, .f32⟩
  | .hbm, ⟨9, _⟩ => ⟨S1x264x128, .f32⟩
  | .hbm, ⟨10, _⟩ => ⟨S1x264x128, .f32⟩
  | .hbm, ⟨11, _⟩ => ⟨S_, .f32⟩
  | .hbm, ⟨12, _⟩ => ⟨S1x264x128, .f32⟩
  | .hbm, ⟨13, _⟩ => ⟨S1x264x128, .f32⟩
  | .hbm, ⟨14, _⟩ => ⟨S1x264x128, .f32⟩
  | .hbm, ⟨15, _⟩ => ⟨S_, .f32⟩
  | .hbm, ⟨16, _⟩ => ⟨S1x264x128, .f32⟩
  | .hbm, ⟨17, _⟩ => ⟨S1x264x128, .f32⟩
  | .hbm, ⟨18, _⟩ => ⟨S1x264x128, .f32⟩
  | .hbm, ⟨19, _⟩ => ⟨S_, .f32⟩
  | .hbm, ⟨20, _⟩ => ⟨S1x264x128, .f32⟩
  | .hbm, ⟨21, _⟩ => ⟨S1x264x128, .f32⟩
  | .hbm, ⟨22, _⟩ => ⟨S_, .f32⟩
  | .hbm, ⟨23, _⟩ => ⟨S1x264x128, .f32⟩
  | .hbm, ⟨24, _⟩ => ⟨S1x264x128, .f32⟩
  | .hbm, ⟨25, _⟩ => ⟨S1x264x128, .f32⟩
  | .hbm, ⟨26, _⟩ => ⟨S_, .f32⟩
  | .hbm, ⟨27, _⟩ => ⟨S1x264x128, .f32⟩
  | .hbm, ⟨28, _⟩ => ⟨S1x264x128, .f32⟩
  | .hbm, ⟨29, _⟩ => ⟨S1x264x128, .f32⟩
  | .hbm, ⟨30, _⟩ => ⟨S_, .f32⟩
  | .hbm, ⟨31, _⟩ => ⟨S1x264x128, .f32⟩
  | .hbm, ⟨32, _⟩ => ⟨S1x264x128, .f32⟩
  | .hbm, ⟨33, _⟩ => ⟨S1x264x128, .f32⟩
  | .hbm, ⟨34, _⟩ => ⟨S_, .f32⟩
  | .hbm, ⟨35, _⟩ => ⟨S1x264x128, .f32⟩
  | .hbm, ⟨36, _⟩ => ⟨S1x264x128, .f32⟩
  | _, _ => ⟨S1x264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proj.lean ====
abbrev S4096x2048 : Shape := ⟨2, ![4096, 2048]⟩
abbrev S24576x2048 : Shape := ⟨2, ![24576, 2048]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S4096x24576 : Shape := ⟨2, ![4096, 24576]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 39
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S24576x2048, .bf16⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S2048, .f32⟩
  | .hbm, ⟨17, _⟩ => ⟨S2048x1, .f32⟩
  | .hbm, ⟨18, _⟩ => ⟨S1x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S_, .f32⟩
  | .hbm, ⟨25, _⟩ => ⟨S2048x16, .f32⟩
  | .hbm, ⟨26, _⟩ => ⟨S2048x16, .f32⟩
  | .hbm, ⟨27, _⟩ => ⟨S_, .f32⟩
  | .hbm, ⟨28, _⟩ => ⟨S2048x96, .f32⟩
  | .hbm, ⟨29, _⟩ => ⟨S_, .f32⟩
  | .hbm, ⟨30, _⟩ => ⟨S2048x16, .f32⟩
  | .hbm, ⟨31, _⟩ => ⟨S_, .f32⟩
  | .hbm, ⟨32, _⟩ => ⟨S2048x96, .f32⟩
  | .hbm, ⟨33, _⟩ => ⟨S2048x96, .f32⟩
  | .hbm, ⟨34, _⟩ => ⟨S2048x128, .f32⟩
  | .hbm, ⟨35, _⟩ => ⟨S2048x16, .f32⟩
  | .hbm, ⟨36, _⟩ => ⟨S2048x128, .f32⟩
  | .hbm, ⟨37, _⟩ => ⟨S2048x128, .f32⟩
  | .hbm, ⟨38, _⟩ => ⟨S4096x24576, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 24, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg1 : BitVec 32 := BitVec.ofNat 32 (i 1).val
  let c8_i32 : BitVec 32 := 8#32
  let v15 : BitVec 32 := Scalar.muli arg1 c8_i32
  let c140_i32 : BitVec 32 := 140#32
  let v16 : BitVec 1 := Scalar.cmpi .slt v15 c140_i32
  let c1_i32 : BitVec 32 := 1#32
  let v17 : BitVec 32 := Scalar.addi arg1 c1_i32
  let c8_i32_12 : BitVec 32 := 8#32
  let v18 : BitVec 32 := Scalar.muli v17 c8_i32_12
  let c48_i32 : BitVec 32 := 48#32
  let v19 : BitVec 1 := Scalar.cmpi .sgt v18 c48_i32
  let v20 : BitVec 1 := Scalar.andi v16 v19
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c8_i32 : BitVec 32 := 8#32
  let v15 : BitVec 32 := Scalar.muli arg1 c8_i32
  let c140_i32 : BitVec 32 := 140#32
  let v16 : BitVec 1 := Scalar.cmpi .slt v15 c140_i32
  let c1_i32 : BitVec 32 := 1#32
  let v17 : BitVec 32 := Scalar.addi arg1 c1_i32
  let c8_i32_12 : BitVec 32 := 8#32
  let v18 : BitVec 32 := Scalar.muli v17 c8_i32_12
  let c48_i32 : BitVec 32 := 48#32
  let v19 : BitVec 1 := Scalar.cmpi .sgt v18 c48_i32
  let v20 : BitVec 1 := Scalar.andi v16 v19
  let v_true : BitVec 1 := 1#1
  let v23 : BitVec 1 := Scalar.xori v20 v_true
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ProjRefIdeal.lean ====
abbrev S4096x2048 : Shape := ⟨2, ![4096, 2048]⟩
abbrev S24576x2048 : Shape := ⟨2, ![24576, 2048]⟩
abbrev S2048x24576 : Shape := ⟨2, ![2048, 24576]⟩
abbrev S4096x24576 : Shape := ⟨2, ![4096, 24576]⟩
abbrev S2x2048x192x128 : Shape := ⟨4, ![2, 2048, 192, 128]⟩
abbrev S2x2048x92x128 : Shape := ⟨4, ![2, 2048, 92, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S2x2048x92x32 : Shape := ⟨4, ![2, 2048, 92, 32]⟩
abbrev S2x2048x92x16 : Shape := ⟨4, ![2, 2048, 92, 16]⟩
abbrev S2x2048x92x96 : Shape := ⟨4, ![2, 2048, 92, 96]⟩
abbrev S2x2048x48x128 : Shape := ⟨4, ![2, 2048, 48, 128]⟩
abbrev S2x2048x52x128 : Shape := ⟨4, ![2, 2048, 52, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S24576x2048, .bf16⟩
  | .hbm, ⟨2, _⟩ => ⟨S4096x2048, .f32⟩
  | .hbm, ⟨3, _⟩ => ⟨S24576x2048, .f32⟩
  | .hbm, ⟨4, _⟩ => ⟨S2048x24576, .f32⟩
  | .hbm, ⟨5, _⟩ => ⟨S4096x24576, .f32⟩
  | .hbm, ⟨6, _⟩ => ⟨S2x2048x192x128, .f32⟩
  | .hbm, ⟨7, _⟩ => ⟨S2x2048x92x128, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S1x2048x1x16, .f32⟩
  | .hbm, ⟨31, _⟩ => ⟨S1x2048x1x16, .f32⟩
  | .hbm, ⟨32, _⟩ => ⟨S2x2048x92x32, .f32⟩
  | .hbm, ⟨33, _⟩ => ⟨S2x2048x92x16, .f32⟩
  | .hbm, ⟨34, _⟩ => ⟨S2x2048x92x16, .f32⟩
  | .hbm, ⟨35, _⟩ => ⟨S2x2048x92x16, .f32⟩
  | .hbm, ⟨36, _⟩ => ⟨S2x2048x92x16, .f32⟩
  | .hbm, ⟨37, _⟩ => ⟨S2x2048x92x16, .f32⟩
  | .hbm, ⟨38, _⟩ => ⟨S2x2048x92x16, .f32⟩
  | .hbm, ⟨39, _⟩ => ⟨S2x2048x92x16, .f32⟩
  | .hbm, ⟨40, _⟩ => ⟨S2x2048x92x16, .f32⟩
  | .hbm, ⟨41, _⟩ => ⟨S2x2048x92x16, .f32⟩
  | .hbm, ⟨42, _⟩ => ⟨S2x2048x92x16, .f32⟩
  | .hbm, ⟨43, _⟩ => ⟨S2x2048x92x16, .f32⟩
  | .hbm, ⟨44, _⟩ => ⟨S2x2048x92x16, .f32⟩
  | .hbm, ⟨45, _⟩ => ⟨S2x2048x92x32, .f32⟩
  | .hbm, ⟨46, _⟩ => ⟨S2x2048x92x96, .f32⟩
  | .hbm, ⟨47, _⟩ => ⟨S2x2048x92x128, .f32⟩
  | .hbm, ⟨48, _⟩ => ⟨S2x2048x48x128, .f32⟩
  | .hbm, ⟨49, _⟩ => ⟨S2x2048x52x128, .f32⟩
  | .hbm, ⟨50, _⟩ => ⟨S2x2048x192x128, .f32⟩
  | .hbm, ⟨51, _⟩ => ⟨S4096x24576, .f32⟩
  | .hbm, ⟨52, _⟩ => ⟨S4096x24576, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Gate.lean ====
abbrev S4096x2048 : Shape := ⟨2, ![4096, 2048]⟩
abbrev S4096x24576 : Shape := ⟨2, ![4096, 24576]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x24576, .bf16⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S4096x2048 : Shape := ⟨2, ![4096, 2048]⟩
abbrev S4096x24576 : Shape := ⟨2, ![4096, 24576]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x24576, .bf16⟩
  | .hbm, ⟨4, _⟩ => ⟨S4096x6144, .bf16⟩
  | .hbm, ⟨5, _⟩ => ⟨S4096x6144, .f32⟩
  | .hbm, ⟨6, _⟩ => ⟨S4096x6144, .f32⟩
  | .hbm, ⟨7, _⟩ => ⟨S4096x6144, .f32⟩
  | .hbm, ⟨8, _⟩ => ⟨S_, .f32⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S4096x3x2048, .f32⟩
  | .hbm, ⟨15, _⟩ => ⟨S4096x1x2048, .f32⟩
  | .hbm, ⟨16, _⟩ => ⟨S4096x2048, .f32⟩
  | .hbm, ⟨17, _⟩ => ⟨S4096x2048, .f32⟩
  | .hbm, ⟨18, _⟩ => ⟨S4096x1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Mm.GwMain.lean ====
/- The gradient of the in-projection's weight: what the blocked product of the transposed incoming gradient with the
   normed input leaves, and that this is the reference's derivative. -/
module

public import proofs.«01_k».proof.Proof.Gen.GwMainIdeal.Value
public import proofs.«01_k».proof.Proof.Gen.GwMainRefIdeal.Run
public import proofs.«01_k».proof.Proof.Gen.GwMainRefIdeal.Read
public import Idealize.ShloMosaic.Lib.Pipeline.ValueKit
public import Idealize.ShloMosaic.Lib.Pointwise

@[expose] public section

set_option maxRecDepth 16384

noncomputable section

namespace Cert.GwMainIdeal.Final

open Cert.GwMainIdeal Cert.GwMainIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed at the first step of a run. -/
theorem zeroed (j : S1024x1024.Idx) : k0_pay1 (F := Ideal) j = 0 := by pointwise [k0_pay1]

/-- One step adds the products of its block of tokens. -/
theorem stepped (acc : Vec Ideal S1024x1024 .f32) (x y : Vec Ideal S2048x1024 .bf16) (j : S1024x1024.Idx) :
    k0_pay2 acc x y j = acc j + ∑ k : Fin 2048, (x (ix2 k (j 0)) : EReal) * y (ix2 k (j 1)) := by
  pointwise [k0_pay2]

/-- The last step writes the accumulator. -/
theorem written (acc : Vec Ideal S1024x1024 .f32) (j : S1024x1024.Idx) : k0_pay3 acc j = acc j := by pointwise [k0_pay3]

/-- The block that each window reads or writes at each point. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The reference's derivative, entry by entry: the sum over the tokens. -/
theorem reference_at (X0 : (⟨S4096x2048, .bf16⟩ : BufTy).Contents (Elt Ideal)) (X1 : (⟨S4096x24576, .bf16⟩ : BufTy).Contents (Elt Ideal)) (i : S24576x2048.Idx) :
    Cert.GwMainRefIdeal.Read.val_main_v7 X0 X1 i
      = ∑ k : Fin 4096, (X1 (ix2 k (i 0)) : EReal) * X0 (ix2 k (i 1)) := by
  pointwise [Cert.GwMainRefIdeal.Read.val_main_v7, Cert.GwMainRefIdeal.Read.val_main_v6, Cert.GwMainRefIdeal.Read.val_main_v5,
    Cert.GwMainRefIdeal.Read.val_main_v4, Cert.GwMainRefIdeal.Read.val_main_v2, Cert.GwMainRefIdeal.Read.val_main_v1]

/-- The kernel's result is the reference's. -/
theorem final (c : Dev nD) : (dats m 0 c).arrAt 2 cfg0.N
    = Cert.GwMainRefIdeal.Read.val_main_v7 (V m c main_arg0) (V m c main_arg1) := by
  refine (dats m 0 c).arrAt_eq_of_covers 2 _ (by decide +kernel) fun t hf y => ?_
  have ht : t.val % 2 = 1 := (flush0_2 t).mp hf
  have same : (outsAt0 m c t.val t.isLt).1 y = (outsAt0 m c t.val t.isLt).2 y := by
    rw [outsAt0_B m c t (by omega) ht]
    frame_out
    rw [written]
  blk_simp
  rw [after0_2]
  refine same.trans ?_
  rw [Pipeline.eq_sum_fin_of_reset_step_apply_of_flush (fun n h => (outsAt0 m c n h).2) 2 (fun _ => 0) _
    (fun t h j => by
      rw [outsAt0_A m c t h (by omega)]; frame_out; rw [stepped, zeroed])
    (fun t h j => by
      rw [outsAt0_B m c t h (by omega)]; frame_out; rw [stepped]; exact congrArg (· + _) (congrFun (Memref.IsWhole.read_unread _ _) j))
    t ((flush0_2 t).mp hf) _, zero_add, reference_at]
  refine Fin.sum_mul_add_congr fun s k hl => ?_
  have htN : t.val < 96 := t.isLt
  congr 1
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.GwMainIdeal.Final
-- ==== Proof.Mm.Dh.lean ====
/- The gradient of the normed input of a layer: what the blocked product of the incoming gradient with the
   in-projection's weight, added to the part through dt, leaves, and that this is the reference's derivative. -/
module

public import proofs.«01_k».proof.Proof.Gen.DhIdeal.Value
public import proofs.«01_k».proof.Proof.Gen.DhRefIdeal.Run
public import proofs.«01_k».proof.Proof.Gen.DhRefIdeal.Read
public import Idealize.ShloMosaic.Lib.Pipeline.ValueKit
public import Idealize.ShloMosaic.Lib.Pointwise

@[expose] public section

set_option maxRecDepth 16384

noncomputable section

namespace Cert.DhIdeal.Final

open Cert.DhIdeal Cert.DhIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed at the first step of a run. -/
theorem zeroed (j : S1024x1024.Idx) : k0_pay1 (F := Ideal) j = 0 := by pointwise [k0_pay1]

/-- One step adds the products of its block of columns of the projection. -/
theorem stepped (acc : Vec Ideal S1024x1024 .f32) (x : Vec Ideal S1024x2048 .bf16) (y : Vec Ideal S2048x1024 .bf16) (j : S1024x1024.Idx) :
    k0_pay2 acc x y j = acc j + ∑ k : Fin 2048, (x (ix2 (j 0) k) : EReal) * y (ix2 k (j 1)) := by
  pointwise [k0_pay2]

/-- The last step adds the part through dt. -/
theorem written (acc a : Vec Ideal S1024x1024 .f32) (j : S1024x1024.Idx) : k0_pay3 acc a j = acc j + a j := by pointwise [k0_pay3]

/-- The block that each window reads or writes at each point. -/
theorem idx : ∀ t : Fin cfg0.N, win0_0.index t = ![t.val / 24, t.val % 12] ∧ win0_1.index t = ![t.val % 12, t.val / 12 % 2]
    ∧ win0_2.index t = ![t.val / 24, t.val / 12 % 2] ∧ win0_3.index t = ![t.val / 24, t.val / 12 % 2] :=
  (by decide +kernel : ∀ t : Fin grid0.N, _)

/-- The reference's derivative, entry by entry: the part through dt and the sum over the columns of the projection. -/
theorem reference_at (X0 : (⟨S4096x24576, .bf16⟩ : BufTy).Contents (Elt Ideal)) (X1 : (⟨S4096x64, .f32⟩ : BufTy).Contents (Elt Ideal))
    (X2 : (⟨S24576x2048, .bf16⟩ : BufTy).Contents (Elt Ideal)) (X3 : (⟨S64x2048, .bf16⟩ : BufTy).Contents (Elt Ideal)) (i : S4096x2048.Idx) :
    Cert.DhRefIdeal.Read.val_main_v10 X0 X1 X2 X3 i = (∑ k : Fin 64, (X1 (ix2 (i 0) k) : EReal) * X3 (ix2 k (i 1)))
      + ∑ k : Fin 24576, (X0 (ix2 (i 0) k) : EReal) * X2 (ix2 k (i 1)) := by
  pointwise [Cert.DhRefIdeal.Read.val_main_v10, Cert.DhRefIdeal.Read.val_main_v9, Cert.DhRefIdeal.Read.val_main_v8, Cert.DhRefIdeal.Read.val_main_v6, Cert.DhRefIdeal.Read.val_main_v5, Cert.DhRefIdeal.Read.val_main_v3, Cert.DhRefIdeal.Read.val_main_v2, Cert.DhRefIdeal.Read.val_main_v1]

/-- The part through dt. -/
def dtPart (d : FVec Ideal S4096x64 .f32) (w : FVec Ideal S64x2048 .bf16) : FVec Ideal S4096x2048 .f32 :=
  Host.dotGeneral dot_S4096x64_S64x2048_S4096x2048_1_0_0_1_n_n none d (extf .f32 w bitsLt_bf16_f32)

theorem dtPart_at (d : FVec Ideal S4096x64 .f32) (w : FVec Ideal S64x2048 .bf16) (i : S4096x2048.Idx) :
    dtPart d w i = ∑ k : Fin 64, (d (ix2 (i 0) k) : EReal) * w (ix2 k (i 1)) := by
  pointwise [dtPart]

/-- The part through dt that the host prepares for the kernel. -/
theorem host_dt (c : Dev nD) : V m c main_v1 = dtPart (m ((c : Thread nD τ).loc main_arg1)) (m ((c : Thread nD τ).loc main_arg3)) := by
  unfold V
  after_results
  rfl

/-- The kernel's result is the reference's. -/
theorem final (c : Dev nD) : (dats m 0 c).arrAt 3 cfg0.N
    = Cert.DhRefIdeal.Read.val_main_v10 (V m c main_arg0) (V m c main_arg1) (V m c main_arg2) (V m c main_arg3) := by
  refine (dats m 0 c).arrAt_eq_of_covers 3 _ (by decide +kernel) fun t hf y => ?_
  have ht : t.val % 12 = 11 := (flush0_3 t).mp hf
  have same : (outsAt0 m c t.val t.isLt).1 y = (outsAt0 m c t.val t.isLt).2 y + iblk m c 2 t y := by
    rw [outsAt0_C m c t (by omega) ht]
    frame_out
    rw [written]
  blk_simp
  rw [after0_3]
  refine same.trans ?_
  rw [Pipeline.eq_sum_fin_of_reset_step_apply_of_flush (fun n h => (outsAt0 m c n h).2) 12 (fun _ => 0) _
    (fun t h j => by
      rw [outsAt0_A m c t h (by omega)]; frame_out; rw [stepped, zeroed])
    (fun t h j => by
      by_cases h3 : t.val % 12 = 11
      · rw [outsAt0_C m c t h h3]; frame_out; rw [stepped]; exact congrArg (· + _) (congrFun (Memref.IsWhole.read_unread _ _) j)
      · rw [outsAt0_B m c t h h3]; frame_out; rw [stepped]; exact congrArg (· + _) (congrFun (Memref.IsWhole.read_unread _ _) j))
    t ((flush0_3 t).mp hf) _, zero_add, reference_at]
  refine (add_comm _ _).trans (congrArg₂ (· + ·) ?_ ?_)
  · have key : ∀ A : FVec Ideal S4096x2048 .f32, ((cfg0.win 2).blk t).view.read (Elt Ideal) A y = A (((cfg0.win 3).blk t).view.emb y) := by
      intro A
      blk_ext [idx t]
    exact (key _).trans ((congrFun (host_dt m c) _).trans ((dtPart_at _ _ _).trans (by rw [V_main_arg1, V_main_arg3])))
  refine Fin.sum_mul_add_congr fun s k hl => ?_
  have htN : t.val < 96 := t.isLt
  congr 1
  · blk_point [iblk, V, idx t, idx ⟨_, Pipeline.run_point_lt_of_flush t ((flush0_3 t).mp hf) s⟩]
  · blk_point [iblk, V, idx t, idx ⟨_, Pipeline.run_point_lt_of_flush t ((flush0_3 t).mp hf) s⟩]

end Cert.DhIdeal.Final
-- ==== Proof.Mm.Dup.lean ====
/- The gradient of the up-projection's output: what the product of the incoming gradient with the transposed weight, times
   the derivative of the squared rectifier, leaves, and that this is the reference's derivative. -/
module

public import proofs.«01_k».proof.Proof.Gen.DupIdeal.Value
public import proofs.«01_k».proof.Proof.Gen.DupRefIdeal.Run
public import proofs.«01_k».proof.Proof.Gen.DupRefIdeal.Read
public import Idealize.ShloMosaic.Lib.Pipeline.ValueKit
public import Idealize.ShloMosaic.Lib.Pointwise

@[expose] public section

set_option maxRecDepth 16384

noncomputable section

namespace Cert.DupIdeal.Final

open Cert.DupIdeal Cert.DupIdeal.Gen Idealize.ShloMosaic Idealize.ShloMosaic.TcCoe Idealize.SL.Sem
open Idealize.ShloMosaic.Pipeline (Dat)

/-- The accumulator is zeroed at the first step of a run. -/
theorem zeroed (j : S1024x1024.Idx) : k0_pay1 (F := Ideal) j = 0 := by pointwise [k0_pay1]

/-- One step adds the products of its block of columns. -/
theorem stepped (acc : Vec Ideal S1024x1024 .f32) (x : Vec Ideal S1024x2048 .f32) (y : Vec Ideal S1024x2048 .bf16) (j : S1024x1024.Idx) :
    k0_pay2 acc x y j = acc j + ∑ k : Fin 2048, (x (ix2 (j 0) k) : EReal) * y (ix2 (j 1) k) := by
  pointwise [k0_pay2]

/-- The literal two. -/
abbrev two : EReal := Ideal.ofBits .f32 0x40000000#32

/-- The last step multiplies by the derivative of the squared rectifier. -/
theorem written (acc : Vec Ideal S1024x1024 .f32) (u : Vec Ideal S1024x1024 .bf16) (j : S1024x1024.Idx) :
    k0_pay3 acc u j = (acc j * two * max (u j : EReal) 0 : EReal) := by
  pointwise [k0_pay3]

/-- Where the rectifier is off both sides are zero; where it is on they differ by the order of the factors. -/
theorem times_relu (a u : EReal) : a * two * max u 0 = if 0 < u then a * (two * max u 0) else 0 := by
  split
  · exact mul_assoc _ _ _
  · rename_i h
    rw [max_eq_right (not_lt.mp h), mul_zero]

/-- The block that each window reads or writes at each point. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] :=
  (by decide +kernel : ∀ t : Fin grid0.N, _)

/-- The reference's derivative, entry by entry. -/
theorem reference_at (X0 : (⟨S4096x8192, .bf16⟩ : BufTy).Contents (Elt Ideal)) (X1 : (⟨S4096x2048, .f32⟩ : BufTy).Contents (Elt Ideal))
    (X2 : (⟨S8192x2048, .bf16⟩ : BufTy).Contents (Elt Ideal)) (i : S4096x8192.Idx) :
    Cert.DupRefIdeal.Read.val_main_v14 X0 X1 X2 i
      = if (0 : EReal) < X0 i then (∑ k : Fin 2048, (X1 (ix2 (i 0) k) : EReal) * X2 (ix2 (i 1) k)) * (two * max (X0 i : EReal) 0) else 0 := by
  pointwise [Cert.DupRefIdeal.Read.val_main_v14, Cert.DupRefIdeal.Read.val_main_v13, Cert.DupRefIdeal.Read.val_main_v12, Cert.DupRefIdeal.Read.val_main_cst_2, Cert.DupRefIdeal.Read.val_main_v11, Cert.DupRefIdeal.Read.val_main_v10, Cert.DupRefIdeal.Read.val_main_v8, Cert.DupRefIdeal.Read.val_main_v7, Cert.DupRefIdeal.Read.val_main_v6, Cert.DupRefIdeal.Read.val_main_cst_1, Cert.DupRefIdeal.Read.val_main_v3, Cert.DupRefIdeal.Read.val_main_v2, Cert.DupRefIdeal.Read.val_main_cst,
    Cert.DupRefIdeal.Read.val_main_v1, Cert.DupRefIdeal.Read.val_main_call0_v0, Cert.DupRefIdeal.Read.val_main_call0_cst, Cert.DupRefIdeal.Read.val_main_v0]

variable (m : (ℓ : Loc nD τ sig) → Buf (Elt Ideal) ℓ)

/-- The kernel's result is the reference's. -/
theorem final (c : Dev nD) : (dats m 0 c).arrAt 3 cfg0.N
    = Cert.DupRefIdeal.Read.val_main_v14 (V m c main_arg0) (V m c main_arg1) (V m c main_arg2) := by
  refine (dats m 0 c).arrAt_eq_of_covers 3 _ (by decide +kernel) fun t hf y => ?_
  blk_simp
  rw [after0_3]
  unfold Gen.outsAt0
  frame_out
  rw [written, stepped, zeroed, zero_add, reference_at]
  refine (congrArg₂ (fun a u : EReal => a * two * max u 0) ?_ ?_).trans (times_relu _ _)
  · refine Fin.sum_fin_congr fun k => ?_
    congr 1
    · blk_point [iblk, V, idx t]
    · blk_point [iblk, V, idx t]
  · blk_point [iblk, V, idx t]

end Cert.DupIdeal.Final
-- ==== Proof.Mm.GwDown.lean ====
/- The gradient of the down-projection's weight: what the blocked product of the transposed activation with the incoming
   gradient leaves, and that this is the reference's derivative. -/
module

public import proofs.«01_k».proof.Proof.Gen.GwDownIdeal.Value
public import proofs.«01_k».proof.Proof.Gen.GwDownRefIdeal.Run
public import proofs.«01_k».proof.Proof.Gen.GwDownRefIdeal.Read
public import Idealize.ShloMosaic.Lib.Pipeline.ValueKit
public import Idealize.ShloMosaic.Lib.Pointwise

@[expose] public section

set_option maxRecDepth 16384

noncomputable section

namespace Cert.GwDownIdeal.Final

open Cert.GwDownIdeal Cert.GwDownIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed at the first step of a run. -/
theorem zeroed (j : S1024x1024.Idx) : k0_pay1 (F := Ideal) j = 0 := by pointwise [k0_pay1]

/-- One step adds the products of its block of tokens. -/
theorem stepped (acc : Vec Ideal S1024x1024 .f32) (x : Vec Ideal S2048x1024 .bf16) (y : Vec Ideal S2048x1024 .f32) (j : S1024x1024.Idx) :
    k0_pay2 acc x y j = acc j + ∑ k : Fin 2048, (x (ix2 k (j 0)) : EReal) * y (ix2 k (j 1)) := by
  pointwise [k0_pay2]

/-- The last step writes the accumulator. -/
theorem written (acc : Vec Ideal S1024x1024 .f32) (j : S1024x1024.Idx) : k0_pay3 acc j = acc j := by pointwise [k0_pay3]

/-- The block that each window reads or writes at each point. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The reference's derivative, entry by entry: the sum over the tokens. -/
theorem reference_at (X0 : (⟨S4096x8192, .bf16⟩ : BufTy).Contents (Elt Ideal)) (X1 : (⟨S4096x2048, .f32⟩ : BufTy).Contents (Elt Ideal)) (i : S8192x2048.Idx) :
    Cert.GwDownRefIdeal.Read.val_main_v7 X0 X1 i
      = ∑ k : Fin 4096, (X1 (ix2 k (i 1)) : EReal) * (max (X0 (ix2 k (i 0)) : EReal) 0 * max (X0 (ix2 k (i 0)) : EReal) 0) := by
  pointwise [Cert.GwDownRefIdeal.Read.val_main_v7, Cert.GwDownRefIdeal.Read.val_main_v6, Cert.GwDownRefIdeal.Read.val_main_v5, Cert.GwDownRefIdeal.Read.val_main_v3, Cert.GwDownRefIdeal.Read.val_main_v2, Cert.GwDownRefIdeal.Read.val_main_v1, Cert.GwDownRefIdeal.Read.val_main_call0_v0, Cert.GwDownRefIdeal.Read.val_main_call0_cst]

/-- The square of the rectified up-projection. -/
def act (u : FVec Ideal S4096x8192 .bf16) : FVec Ideal S4096x8192 .bf16 :=
  truncf .bf16 (Cert.GwDownRefIdeal.Read.val_main_v3 (F := Ideal) u : FVec Ideal S4096x8192 .f32) bitsLt_bf16_f32

theorem act_at (u : FVec Ideal S4096x8192 .bf16) (i : S4096x8192.Idx) :
    act u i = (max (u i : EReal) 0 * max (u i : EReal) 0 : EReal) := by
  pointwise [act, Cert.GwDownRefIdeal.Read.val_main_v3, Cert.GwDownRefIdeal.Read.val_main_v2, Cert.GwDownRefIdeal.Read.val_main_v1,
    Cert.GwDownRefIdeal.Read.val_main_call0_v0, Cert.GwDownRefIdeal.Read.val_main_call0_cst]

/-- The activation that the host prepares for the kernel. -/
theorem host_act (c : Dev nD) : V m c main_v3 = act (m ((c : Thread nD τ).loc main_arg0)) := by
  show StableHlo.after (hostOps0 ++ (hostOps0_1 ++ (hostOps0_2 ++ []))) _ _ = _
  rw [List.append_nil, StableHlo.after_append, StableHlo.after_append]
  after_results
  rfl

/-- The kernel's result is the reference's. -/
theorem final (c : Dev nD) : (dats m 0 c).arrAt 2 cfg0.N
    = Cert.GwDownRefIdeal.Read.val_main_v7 (V m c main_arg0) (V m c main_arg1) := by
  refine (dats m 0 c).arrAt_eq_of_covers 2 _ (by decide +kernel) fun t hf y => ?_
  have ht : t.val % 2 = 1 := (flush0_2 t).mp hf
  have same : (outsAt0 m c t.val t.isLt).1 y = (outsAt0 m c t.val t.isLt).2 y := by
    rw [outsAt0_B m c t (by omega) ht]
    frame_out
    rw [written]
  blk_simp
  rw [after0_2]
  refine same.trans ?_
  rw [Pipeline.eq_sum_fin_of_reset_step_apply_of_flush (fun n h => (outsAt0 m c n h).2) 2 (fun _ => 0) _
    (fun t h j => by
      rw [outsAt0_A m c t h (by omega)]; frame_out; rw [stepped, zeroed])
    (fun t h j => by
      rw [outsAt0_B m c t h (by omega)]; frame_out; rw [stepped]; exact congrArg (· + _) (congrFun (Memref.IsWhole.read_unread _ _) j))
    t ((flush0_2 t).mp hf) _, zero_add, reference_at]
  refine Fin.sum_mul_add_congr fun s k hl => ?_
  have htN : t.val < 32 := t.isLt
  refine (congrArg₂ (· * ·) ?_ ?_).trans (mul_comm _ _)
  · have key : ∀ A : FVec Ideal S4096x8192 .bf16, ((cfg0.win 0).blk ⟨2 * (t.val / 2) + s.val, Pipeline.run_point_lt_of_flush t ((flush0_2 t).mp hf) s⟩).view.read (Elt Ideal) A (ix2 k (y 0)) = A (ix2 ⟨s.val * 2048 + k.val, hl⟩ (((cfg0.win 2).blk t).view.emb y 0)) := by
      intro A
      blk_ext [idx t, idx ⟨_, Pipeline.run_point_lt_of_flush t ((flush0_2 t).mp hf) s⟩]
    exact (key _).trans ((congrFun (host_act m c) _).trans ((act_at _ _).trans (by rw [V_main_arg0])))
  · blk_point [iblk, V, idx t, idx ⟨_, Pipeline.run_point_lt_of_flush t ((flush0_2 t).mp hf) s⟩]

end Cert.GwDownIdeal.Final
-- ==== Proof.Mm.Dhm.lean ====
/- The gradient of the feed-forward's normed input: what the blocked product of the incoming gradient with the transposed
   weight leaves, and that this is the reference's derivative. -/
module

public import proofs.«01_k».proof.Proof.Gen.DhmIdeal.Value
public import proofs.«01_k».proof.Proof.Gen.DhmRefIdeal.Run
public import proofs.«01_k».proof.Proof.Gen.DhmRefIdeal.Read
public import Idealize.ShloMosaic.Lib.Pipeline.ValueKit
public import Idealize.ShloMosaic.Lib.Pointwise

@[expose] public section

set_option maxRecDepth 16384

noncomputable section

namespace Cert.DhmIdeal.Final

open Cert.DhmIdeal Cert.DhmIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed at the first step of a run. -/
theorem zeroed (j : S1024x1024.Idx) : k0_pay1 (F := Ideal) j = 0 := by pointwise [k0_pay1]

/-- One step adds the products of its block of columns. -/
theorem stepped (acc : Vec Ideal S1024x1024 .f32) (x y : Vec Ideal S1024x2048 .bf16) (j : S1024x1024.Idx) :
    k0_pay2 acc x y j = acc j + ∑ k : Fin 2048, (x (ix2 (j 0) k) : EReal) * y (ix2 (j 1) k) := by
  pointwise [k0_pay2]

/-- The block that each window reads or writes at each point. -/
theorem idx : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, _)

/-- The reference's derivative, entry by entry: the sum over the hidden columns. -/
theorem reference_at (X0 : (⟨S4096x8192, .bf16⟩ : BufTy).Contents (Elt Ideal)) (X1 : (⟨S2048x8192, .bf16⟩ : BufTy).Contents (Elt Ideal)) (i : S4096x2048.Idx) :
    Cert.DhmRefIdeal.Read.val_main_v4 X0 X1 i = ∑ k : Fin 8192, (X0 (ix2 (i 0) k) : EReal) * X1 (ix2 (i 1) k) := by
  pointwise [Cert.DhmRefIdeal.Read.val_main_v4, Cert.DhmRefIdeal.Read.val_main_v2, Cert.DhmRefIdeal.Read.val_main_v1]

/-- The kernel's result is the reference's. -/
theorem final (c : Dev nD) : (dats m 0 c).arrAt 2 cfg0.N
    = Cert.DhmRefIdeal.Read.val_main_v4 (V m c main_arg0) (V m c main_arg1) := by
  refine (dats m 0 c).arrAt_eq_of_covers 2 _ (by decide +kernel) fun t hf y => ?_
  have ht : t.val % 4 = 3 := (flush0_2 t).mp hf
  have same : (outsAt0 m c t.val t.isLt).1 y = (outsAt0 m c t.val t.isLt).2 y := by
    rw [outsAt0_C m c t (by omega) ht]
    frame_out
  blk_simp
  rw [after0_2]
  refine same.trans ?_
  rw [Pipeline.eq_sum_fin_of_reset_step_apply_of_flush (fun n h => (outsAt0 m c n h).2) 4 (fun _ => 0) _
    (fun t h j => by
      rw [outsAt0_A m c t h (by omega)]; frame_out; rw [stepped, zeroed])
    (fun t h j => by
      by_cases h3 : t.val % 4 = 3
      · rw [outsAt0_C m c t h h3]; frame_out; rw [stepped]; exact congrArg (· + _) (congrFun (Memref.IsWhole.read_unread _ _) j)
      · rw [outsAt0_B m c t h h3]; frame_out; rw [stepped]; exact congrArg (· + _) (congrFun (Memref.IsWhole.read_unread _ _) j))
    t ((flush0_2 t).mp hf) _, zero_add, reference_at]
  refine Fin.sum_mul_add_congr fun s k hl => ?_
  have htN : t.val < 32 := t.isLt
  congr 1
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.DhmIdeal.Final
-- ==== Proof.Mm.GwUp.lean ====
/- The gradient of the up-projection's weight: what the blocked product of the transposed normed input with the incoming
   gradient leaves, and that this is the reference's derivative. -/
module

public import proofs.«01_k».proof.Proof.Gen.GwUpIdeal.Value
public import proofs.«01_k».proof.Proof.Gen.GwUpRefIdeal.Run
public import proofs.«01_k».proof.Proof.Gen.GwUpRefIdeal.Read
public import Idealize.ShloMosaic.Lib.Pipeline.ValueKit
public import Idealize.ShloMosaic.Lib.Pointwise

@[expose] public section

set_option maxRecDepth 16384

noncomputable section

namespace Cert.GwUpIdeal.Final

open Cert.GwUpIdeal Cert.GwUpIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed at the first step of a run. -/
theorem zeroed (j : S1024x1024.Idx) : k0_pay1 (F := Ideal) j = 0 := by pointwise [k0_pay1]

/-- One step adds the products of its block of tokens. -/
theorem stepped (acc : Vec Ideal S1024x1024 .f32) (x y : Vec Ideal S2048x1024 .bf16) (j : S1024x1024.Idx) :
    k0_pay2 acc x y j = acc j + ∑ k : Fin 2048, (x (ix2 k (j 0)) : EReal) * y (ix2 k (j 1)) := by
  pointwise [k0_pay2]

/-- The last step writes the accumulator. -/
theorem written (acc : Vec Ideal S1024x1024 .f32) (j : S1024x1024.Idx) : k0_pay3 acc j = acc j := by pointwise [k0_pay3]

/-- The block that each window reads or writes at each point. -/
theorem idx : ∀ t : Fin cfg0.N, win0_0.index t = ![t.val % 2, t.val / 16] ∧ win0_1.index t = ![t.val % 2, t.val / 2 % 8]
    ∧ win0_2.index t = ![t.val / 16, t.val / 2 % 8] :=
  (by decide +kernel : ∀ t : Fin grid0.N, _)

/-- The reference's derivative, entry by entry: the sum over the tokens. -/
theorem reference_at (X0 : (⟨S4096x2048, .bf16⟩ : BufTy).Contents (Elt Ideal)) (X1 : (⟨S4096x8192, .bf16⟩ : BufTy).Contents (Elt Ideal)) (i : S2048x8192.Idx) :
    Cert.GwUpRefIdeal.Read.val_main_v6 X0 X1 i
      = ∑ k : Fin 4096, (X1 (ix2 k (i 1)) : EReal) * X0 (ix2 k (i 0)) := by
  pointwise [Cert.GwUpRefIdeal.Read.val_main_v6, Cert.GwUpRefIdeal.Read.val_main_v5,
    Cert.GwUpRefIdeal.Read.val_main_v4, Cert.GwUpRefIdeal.Read.val_main_v2, Cert.GwUpRefIdeal.Read.val_main_v1]

/-- The kernel's result is the reference's. -/
theorem final (c : Dev nD) : (dats m 0 c).arrAt 2 cfg0.N
    = Cert.GwUpRefIdeal.Read.val_main_v6 (V m c main_arg0) (V m c main_arg1) := by
  refine (dats m 0 c).arrAt_eq_of_covers 2 _ (by decide +kernel) fun t hf y => ?_
  have ht : t.val % 2 = 1 := (flush0_2 t).mp hf
  have same : (outsAt0 m c t.val t.isLt).1 y = (outsAt0 m c t.val t.isLt).2 y := by
    rw [outsAt0_B m c t (by omega) ht]
    frame_out
    rw [written]
  blk_simp
  rw [after0_2]
  refine same.trans ?_
  rw [Pipeline.eq_sum_fin_of_reset_step_apply_of_flush (fun n h => (outsAt0 m c n h).2) 2 (fun _ => 0) _
    (fun t h j => by
      rw [outsAt0_A m c t h (by omega)]; frame_out; rw [stepped, zeroed])
    (fun t h j => by
      rw [outsAt0_B m c t h (by omega)]; frame_out; rw [stepped]; exact congrArg (· + _) (congrFun (Memref.IsWhole.read_unread _ _) j))
    t ((flush0_2 t).mp hf) _, zero_add, reference_at]
  refine Fin.sum_mul_add_congr fun s k hl => ?_
  have htN : t.val < 32 := t.isLt
  refine (congrArg₂ (· * ·) ?_ ?_).trans (mul_comm _ _)
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.GwUpIdeal.Final
-- ==== Proof.Mm.Dmerged.lean ====
/- The gradient of the merged branches: the product of the incoming gradient with the transposed output weight is the
   reference's derivative. -/
module

public import proofs.«01_k».proof.Proof.Gen.DmergedIdeal.Value
public import proofs.«01_k».proof.Proof.Gen.DmergedRefIdeal.Run
public import proofs.«01_k».proof.Proof.Gen.DmergedRefIdeal.Read
public import Idealize.ShloMosaic.Lib.Pipeline.ValueKit
public import Idealize.ShloMosaic.Lib.Pointwise

@[expose] public section

set_option maxRecDepth 16384

noncomputable section

namespace Cert.DmergedIdeal.Final

open Cert.DmergedIdeal Cert.DmergedIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .f32) (y : Vec Ideal S1024x2048 .bf16) (j : S1024x1024.Idx) :
    k0_pay2 acc x y j = acc j + ∑ k : Fin 2048, (x (ix2 (j 0) k) : EReal) * y (ix2 (j 1) k) := by
  pointwise [k0_pay2]

/-- The block that each window reads or writes at each point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- The reference's derivative, entry by entry. -/
theorem reference_at (X0 : (⟨S4096x2048, .f32⟩ : BufTy).Contents (Elt Ideal)) (X1 : (⟨S2048x2048, .bf16⟩ : BufTy).Contents (Elt Ideal)) (i : S4096x2048.Idx) :
    Cert.DmergedRefIdeal.Read.val_main_v3 X0 X1 i = ∑ k : Fin 2048, (X0 (ix2 (i 0) k) : EReal) * X1 (ix2 (i 1) k) := by
  pointwise [Cert.DmergedRefIdeal.Read.val_main_v0, Cert.DmergedRefIdeal.Read.val_main_v1, Cert.DmergedRefIdeal.Read.val_main_v2, Cert.DmergedRefIdeal.Read.val_main_v3]

/-- The kernel's result is the reference's. -/
theorem final (c : Dev nD) : (dats m 0 c).arrAt 2 cfg0.N
    = Cert.DmergedRefIdeal.Read.val_main_v3 (V m c main_arg0) (V m c main_arg1) := by
  refine (dats m 0 c).arrAt_eq_of_covers 2 _ (by decide +kernel) fun t hf y => ?_
  blk_simp
  rw [after0_2]
  unfold Gen.outsAt0
  frame_out
  rw [stepped, zeroed, zero_add, reference_at]
  refine Fin.sum_fin_congr fun k => ?_
  congr 1
  · blk_point [iblk, V, idx t]
  · blk_point [iblk, V, idx t]

end Cert.DmergedIdeal.Final
-- ==== Proof.Mm.GwOut.lean ====
/- The gradient of the output weight: the blocked product of the transposed merged branches with the incoming gradient is the
   reference's derivative. -/
module

public import proofs.«01_k».proof.Proof.Gen.GwOutIdeal.Value
public import proofs.«01_k».proof.Proof.Gen.GwOutRefIdeal.Run
public import proofs.«01_k».proof.Proof.Gen.GwOutRefIdeal.Read
public import Idealize.ShloMosaic.Lib.Pipeline.ValueKit
public import Idealize.ShloMosaic.Lib.Pointwise

@[expose] public section

set_option maxRecDepth 16384

noncomputable section

namespace Cert.GwOutIdeal.Final

open Cert.GwOutIdeal Cert.GwOutIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- One step adds the products of its block of tokens. -/
theorem stepped (acc : Vec Ideal S1024x1024 .f32) (x : Vec Ideal S2048x1024 .bf16) (y : Vec Ideal S2048x1024 .f32) (j : S1024x1024.Idx) :
    k0_pay2 acc x y j = acc j + ∑ k : Fin 2048, (x (ix2 k (j 0)) : EReal) * y (ix2 k (j 1)) := by
  pointwise [k0_pay2]

/-- The last step writes the accumulator. -/
theorem written (acc : Vec Ideal S1024x1024 .f32) (j : S1024x1024.Idx) : k0_pay3 acc j = acc j := by pointwise [k0_pay3]

/-- The block that each window reads or writes at each point. -/
theorem idx : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

/-- The reference's derivative, entry by entry: the sum over the tokens. -/
theorem reference_at (X0 : (⟨S4096x2048, .bf16⟩ : BufTy).Contents (Elt Ideal)) (X1 : (⟨S4096x2048, .f32⟩ : BufTy).Contents (Elt Ideal)) (i : S2048x2048.Idx) :
    Cert.GwOutRefIdeal.Read.val_main_v5 X0 X1 i = ∑ k : Fin 4096, (X1 (ix2 k (i 1)) : EReal) * X0 (ix2 k (i 0)) := by
  pointwise [Cert.GwOutRefIdeal.Read.val_main_v0, Cert.GwOutRefIdeal.Read.val_main_v1, Cert.GwOutRefIdeal.Read.val_main_v2, Cert.GwOutRefIdeal.Read.val_main_v3, Cert.GwOutRefIdeal.Read.val_main_v4, Cert.GwOutRefIdeal.Read.val_main_v5]

/-- The kernel's result is the reference's. -/
theorem final (c : Dev nD) : (dats m 0 c).arrAt 2 cfg0.N
    = Cert.GwOutRefIdeal.Read.val_main_v5 (V m c main_arg0) (V m c main_arg1) := by
  refine (dats m 0 c).arrAt_eq_of_covers 2 _ (by decide +kernel) fun t hf y => ?_
  have ht : t.val % 2 = 1 := (flush0_2 t).mp hf
  have same : (outsAt0 m c t.val t.isLt).1 y = (outsAt0 m c t.val t.isLt).2 y := by
    rw [outsAt0_B m c t (by omega) ht]
    frame_out
    rw [written]
  blk_simp
  rw [after0_2]
  refine same.trans ?_
  rw [Pipeline.eq_sum_fin_of_reset_step_apply_of_flush (fun n h => (outsAt0 m c n h).2) 2 (fun _ => 0) _
    (fun t h j => by
      rw [outsAt0_A m c t h (by omega)]; frame_out; rw [stepped, zeroed])
    (fun t h j => by
      rw [outsAt0_B m c t h (by omega)]; frame_out; rw [stepped]; exact congrArg (· + _) (congrFun (Memref.IsWhole.read_unread _ _) j))
    t ((flush0_2 t).mp hf) _, zero_add, reference_at]
  refine Fin.sum_mul_add_congr fun s k hl => ?_
  have htN : t.val < 8 := t.isLt
  refine (congrArg₂ (· * ·) ?_ ?_).trans (mul_comm _ _)
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.GwOutIdeal.Final
-- ==== Proof.Mm.Dya.lean ====
/- The gradient of a branch's output: the product of the incoming gradient with the branch's transposed weight is the
   reference's derivative. -/
module

public import proofs.«01_k».proof.Proof.Gen.DyaIdeal.Value
public import proofs.«01_k».proof.Proof.Gen.DyaRefIdeal.Run
public import proofs.«01_k».proof.Proof.Gen.DyaRefIdeal.Read
public import Idealize.ShloMosaic.Lib.Pipeline.ValueKit
public import Idealize.ShloMosaic.Lib.Pointwise

@[expose] public section

set_option maxRecDepth 16384

noncomputable section

namespace Cert.DyaIdeal.Final

open Cert.DyaIdeal Cert.DyaIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .bf16) (y : Vec Ideal S1024x2048 .bf16) (j : S1024x1024.Idx) :
    k0_pay2 acc x y j = acc j + ∑ k : Fin 2048, (x (ix2 (j 0) k) : EReal) * y (ix2 (j 1) k) := by
  pointwise [k0_pay2]

/-- The block that each window reads or writes at each point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- The reference's derivative, entry by entry. -/
theorem reference_at (X0 : (⟨S4096x2048, .bf16⟩ : BufTy).Contents (Elt Ideal)) (X1 : (⟨S2048x2048, .bf16⟩ : BufTy).Contents (Elt Ideal)) (i : S4096x2048.Idx) :
    Cert.DyaRefIdeal.Read.val_main_v4 X0 X1 i = ∑ k : Fin 2048, (X0 (ix2 (i 0) k) : EReal) * X1 (ix2 (i 1) k) := by
  pointwise [Cert.DyaRefIdeal.Read.val_main_v0, Cert.DyaRefIdeal.Read.val_main_v1, Cert.DyaRefIdeal.Read.val_main_v2, Cert.DyaRefIdeal.Read.val_main_v3, Cert.DyaRefIdeal.Read.val_main_v4]

/-- The kernel's result is the reference's. -/
theorem final (c : Dev nD) : (dats m 0 c).arrAt 2 cfg0.N
    = Cert.DyaRefIdeal.Read.val_main_v4 (V m c main_arg0) (V m c main_arg1) := by
  refine (dats m 0 c).arrAt_eq_of_covers 2 _ (by decide +kernel) fun t hf y => ?_
  blk_simp
  rw [after0_2]
  unfold Gen.outsAt0
  frame_out
  rw [stepped, zeroed, zero_add, reference_at]
  refine Fin.sum_fin_congr fun k => ?_
  congr 1
  · blk_point [iblk, V, idx t]
  · blk_point [iblk, V, idx t]

end Cert.DyaIdeal.Final
-- ==== Proof.Mm.GwA.lean ====
/- The gradient of a branch's weight: the blocked product of the transposed branch with the incoming gradient is the
   reference's derivative. -/
module

public import proofs.«01_k».proof.Proof.Gen.GwAIdeal.Value
public import proofs.«01_k».proof.Proof.Gen.GwARefIdeal.Run
public import proofs.«01_k».proof.Proof.Gen.GwARefIdeal.Read
public import Idealize.ShloMosaic.Lib.Pipeline.ValueKit
public import Idealize.ShloMosaic.Lib.Pointwise

@[expose] public section

set_option maxRecDepth 16384

noncomputable section

namespace Cert.GwAIdeal.Final

open Cert.GwAIdeal Cert.GwAIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- One step adds the products of its block of tokens. -/
theorem stepped (acc : Vec Ideal S1024x1024 .f32) (x : Vec Ideal S2048x1024 .bf16) (y : Vec Ideal S2048x1024 .bf16) (j : S1024x1024.Idx) :
    k0_pay2 acc x y j = acc j + ∑ k : Fin 2048, (x (ix2 k (j 0)) : EReal) * y (ix2 k (j 1)) := by
  pointwise [k0_pay2]

/-- The last step writes the accumulator. -/
theorem written (acc : Vec Ideal S1024x1024 .f32) (j : S1024x1024.Idx) : k0_pay3 acc j = acc j := by pointwise [k0_pay3]

/-- The block that each window reads or writes at each point. -/
theorem idx : ∀ t : Fin cfg0.N, win0_0.index t = ![t.val % 2, t.val / 4]
    ∧ win0_1.index t = ![t.val % 2, t.val / 2 % 2]
    ∧ win0_2.index t = ![t.val / 4, t.val / 2 % 2] :=
  (by decide +kernel : ∀ t : Fin grid0.N, _)

/-- The reference's derivative, entry by entry: the sum over the tokens. -/
theorem reference_at (X0 : (⟨S4096x2048, .bf16⟩ : BufTy).Contents (Elt Ideal)) (X1 : (⟨S4096x2048, .bf16⟩ : BufTy).Contents (Elt Ideal)) (i : S2048x2048.Idx) :
    Cert.GwARefIdeal.Read.val_main_v6 X0 X1 i = ∑ k : Fin 4096, (X1 (ix2 k (i 1)) : EReal) * X0 (ix2 k (i 0)) := by
  pointwise [Cert.GwARefIdeal.Read.val_main_v0, Cert.GwARefIdeal.Read.val_main_v1, Cert.GwARefIdeal.Read.val_main_v2, Cert.GwARefIdeal.Read.val_main_v3, Cert.GwARefIdeal.Read.val_main_v4, Cert.GwARefIdeal.Read.val_main_v5, Cert.GwARefIdeal.Read.val_main_v6]

/-- The kernel's result is the reference's. -/
theorem final (c : Dev nD) : (dats m 0 c).arrAt 2 cfg0.N
    = Cert.GwARefIdeal.Read.val_main_v6 (V m c main_arg0) (V m c main_arg1) := by
  refine (dats m 0 c).arrAt_eq_of_covers 2 _ (by decide +kernel) fun t hf y => ?_
  have ht : t.val % 2 = 1 := (flush0_2 t).mp hf
  have same : (outsAt0 m c t.val t.isLt).1 y = (outsAt0 m c t.val t.isLt).2 y := by
    rw [outsAt0_B m c t (by omega) ht]
    frame_out
    rw [written]
  blk_simp
  rw [after0_2]
  refine same.trans ?_
  rw [Pipeline.eq_sum_fin_of_reset_step_apply_of_flush (fun n h => (outsAt0 m c n h).2) 2 (fun _ => 0) _
    (fun t h j => by
      rw [outsAt0_A m c t h (by omega)]; frame_out; rw [stepped, zeroed])
    (fun t h j => by
      rw [outsAt0_B m c t h (by omega)]; frame_out; rw [stepped]; exact congrArg (· + _) (congrFun (Memref.IsWhole.read_unread _ _) j))
    t ((flush0_2 t).mp hf) _, zero_add, reference_at]
  refine Fin.sum_mul_add_congr fun s k hl => ?_
  have htN : t.val < 8 := t.isLt
  refine (congrArg₂ (· * ·) ?_ ?_).trans (mul_comm _ _)
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.GwAIdeal.Final
-- ==== Proof.Mm.Dyb.lean ====
/- The gradient of the dilated branch's output: the product of the incoming gradient with the branch's transposed weight is
   the reference's derivative. -/
module

public import proofs.«01_k».proof.Proof.Gen.DybIdeal.Value
public import proofs.«01_k».proof.Proof.Gen.DybRefIdeal.Run
public import proofs.«01_k».proof.Proof.Gen.DybRefIdeal.Read
public import Idealize.ShloMosaic.Lib.Pipeline.ValueKit
public import Idealize.ShloMosaic.Lib.Pointwise

@[expose] public section

set_option maxRecDepth 16384

noncomputable section

namespace Cert.DybIdeal.Final

open Cert.DybIdeal Cert.DybIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .bf16) (y : Vec Ideal S1024x2048 .bf16) (j : S1024x1024.Idx) :
    k0_pay2 acc x y j = acc j + ∑ k : Fin 2048, (x (ix2 (j 0) k) : EReal) * y (ix2 (j 1) k) := by
  pointwise [k0_pay2]

/-- The block that each window reads or writes at each point. -/
theorem idx : ∀ t : Fin cfg0.N, win0_0.index t = ![t.val, 0]
    ∧ win0_1.index t = ![0, 0]
    ∧ win0_2.index t = ![t.val, 0] :=
  (by decide +kernel : ∀ t : Fin grid0.N, _)

/-- The reference's derivative, entry by entry. -/
theorem reference_at (X0 : (⟨S4096x2048, .bf16⟩ : BufTy).Contents (Elt Ideal)) (X1 : (⟨S1024x2048, .bf16⟩ : BufTy).Contents (Elt Ideal)) (i : S4096x1024.Idx) :
    Cert.DybRefIdeal.Read.val_main_v4 X0 X1 i = ∑ k : Fin 2048, (X0 (ix2 (i 0) k) : EReal) * X1 (ix2 (i 1) k) := by
  pointwise [Cert.DybRefIdeal.Read.val_main_v0, Cert.DybRefIdeal.Read.val_main_v1, Cert.DybRefIdeal.Read.val_main_v2, Cert.DybRefIdeal.Read.val_main_v3, Cert.DybRefIdeal.Read.val_main_v4]

/-- The kernel's result is the reference's. -/
theorem final (c : Dev nD) : (dats m 0 c).arrAt 2 cfg0.N
    = Cert.DybRefIdeal.Read.val_main_v4 (V m c main_arg0) (V m c main_arg1) := by
  refine (dats m 0 c).arrAt_eq_of_covers 2 _ (by decide +kernel) fun t hf y => ?_
  blk_simp
  rw [after0_2]
  unfold Gen.outsAt0
  frame_out
  rw [stepped, zeroed, zero_add, reference_at]
  refine Fin.sum_fin_congr fun k => ?_
  congr 1
  · blk_point [iblk, V, idx t]
  · blk_point [iblk, V, idx t]

end Cert.DybIdeal.Final
-- ==== Proof.Mm.GwB.lean ====
/- The gradient of the dilated branch's weight: the blocked product of the transposed branch with the incoming gradient is the
   reference's derivative. -/
module

public import proofs.«01_k».proof.Proof.Gen.GwBIdeal.Value
public import proofs.«01_k».proof.Proof.Gen.GwBRefIdeal.Run
public import proofs.«01_k».proof.Proof.Gen.GwBRefIdeal.Read
public import Idealize.ShloMosaic.Lib.Pipeline.ValueKit
public import Idealize.ShloMosaic.Lib.Pointwise

@[expose] public section

set_option maxRecDepth 16384

noncomputable section

namespace Cert.GwBIdeal.Final

open Cert.GwBIdeal Cert.GwBIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- One step adds the products of its block of tokens. -/
theorem stepped (acc : Vec Ideal S1024x1024 .f32) (x : Vec Ideal S2048x1024 .bf16) (y : Vec Ideal S2048x1024 .bf16) (j : S1024x1024.Idx) :
    k0_pay2 acc x y j = acc j + ∑ k : Fin 2048, (x (ix2 k (j 0)) : EReal) * y (ix2 k (j 1)) := by
  pointwise [k0_pay2]

/-- The last step writes the accumulator. -/
theorem written (acc : Vec Ideal S1024x1024 .f32) (j : S1024x1024.Idx) : k0_pay3 acc j = acc j := by pointwise [k0_pay3]

/-- The block that each window reads or writes at each point. -/
theorem idx : ∀ t : Fin cfg0.N, win0_0.index t = ![t.val % 2, 0]
    ∧ win0_1.index t = ![t.val % 2, t.val / 2]
    ∧ win0_2.index t = ![0, t.val / 2] :=
  (by decide +kernel : ∀ t : Fin grid0.N, _)

/-- The reference's derivative, entry by entry: the sum over the tokens. -/
theorem reference_at (X0 : (⟨S4096x1024, .bf16⟩ : BufTy).Contents (Elt Ideal)) (X1 : (⟨S4096x2048, .bf16⟩ : BufTy).Contents (Elt Ideal)) (i : S1024x2048.Idx) :
    Cert.GwBRefIdeal.Read.val_main_v6 X0 X1 i = ∑ k : Fin 4096, (X1 (ix2 k (i 1)) : EReal) * X0 (ix2 k (i 0)) := by
  pointwise [Cert.GwBRefIdeal.Read.val_main_v0, Cert.GwBRefIdeal.Read.val_main_v1, Cert.GwBRefIdeal.Read.val_main_v2, Cert.GwBRefIdeal.Read.val_main_v3, Cert.GwBRefIdeal.Read.val_main_v4, Cert.GwBRefIdeal.Read.val_main_v5, Cert.GwBRefIdeal.Read.val_main_v6]

/-- The kernel's result is the reference's. -/
theorem final (c : Dev nD) : (dats m 0 c).arrAt 2 cfg0.N
    = Cert.GwBRefIdeal.Read.val_main_v6 (V m c main_arg0) (V m c main_arg1) := by
  refine (dats m 0 c).arrAt_eq_of_covers 2 _ (by decide +kernel) fun t hf y => ?_
  have ht : t.val % 2 = 1 := (flush0_2 t).mp hf
  have same : (outsAt0 m c t.val t.isLt).1 y = (outsAt0 m c t.val t.isLt).2 y := by
    rw [outsAt0_B m c t (by omega) ht]
    frame_out
    rw [written]
  blk_simp
  rw [after0_2]
  refine same.trans ?_
  rw [Pipeline.eq_sum_fin_of_reset_step_apply_of_flush (fun n h => (outsAt0 m c n h).2) 2 (fun _ => 0) _
    (fun t h j => by
      rw [outsAt0_A m c t h (by omega)]; frame_out; rw [stepped, zeroed])
    (fun t h j => by
      rw [outsAt0_B m c t h (by omega)]; frame_out; rw [stepped]; exact congrArg (· + _) (congrFun (Memref.IsWhole.read_unread _ _) j))
    t ((flush0_2 t).mp hf) _, zero_add, reference_at]
  refine Fin.sum_mul_add_congr fun s k hl => ?_
  have htN : t.val < 4 := t.isLt
  refine (congrArg₂ (· * ·) ?_ ?_).trans (mul_comm _ _)
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.GwBIdeal.Final
-- ==== Proof.Mm.Up.lean ====
/- The up-projection and its squared rectifier: the blocked product is the whole product, and the activation its square. -/
module

public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit
public import Idealize.ShloMosaic.Lib.Pointwise

@[expose] public section

set_option maxRecDepth 16384

noncomputable section

namespace Cert.UpIdeal.Final

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .bf16) (y : Vec Ideal S2048x1024 .bf16) (j : S1024x1024.Idx) :
    k0_pay2 acc x y j = acc j + ∑ k : Fin 2048, (x (ix2 (j 0) k) : EReal) * y (ix2 k (j 1)) := by
  pointwise [k0_pay2]

/-- The first output is the product. -/
theorem written (acc : Vec Ideal S1024x1024 .f32) (j : S1024x1024.Idx) : k0_pay3 acc j = acc j := by pointwise [k0_pay3]

/-- The second is the square of its positive part. -/
theorem squared (acc : Vec Ideal S1024x1024 .f32) (j : S1024x1024.Idx) :
    k0_pay4 acc j = (max (acc j : EReal) 0 * max (acc j : EReal) 0 : EReal) := by
  pointwise [k0_pay4]

/-- The block that each window reads or writes at each point. -/
theorem idx : ∀ t : Fin cfg0.N, win0_0.index t = ![t.val / 8, 0]
    ∧ win0_1.index t = ![0, t.val % 8]
    ∧ win0_2.index t = ![t.val / 8, t.val % 8]
    ∧ win0_3.index t = ![t.val / 8, t.val % 8] :=
  (by decide +kernel : ∀ t : Fin grid0.N, _)

/-- The reference's product, entry by entry. -/
theorem reference_at (X0 : (⟨S4096x2048, .bf16⟩ : BufTy).Contents (Elt Ideal)) (X1 : (⟨S2048x8192, .bf16⟩ : BufTy).Contents (Elt Ideal)) (i : S4096x8192.Idx) :
    Cert.UpRefIdeal.Read.val_main_v3 X0 X1 i = ∑ k : Fin 2048, (X0 (ix2 (i 0) k) : EReal) * X1 (ix2 k (i 1)) := by
  pointwise [Cert.UpRefIdeal.Read.val_main_v0, Cert.UpRefIdeal.Read.val_main_v1, Cert.UpRefIdeal.Read.val_main_v2, Cert.UpRefIdeal.Read.val_main_v3]

/-- The reference's activation in terms of its product. -/
theorem reference_squared (X0 : (⟨S4096x2048, .bf16⟩ : BufTy).Contents (Elt Ideal)) (X1 : (⟨S2048x8192, .bf16⟩ : BufTy).Contents (Elt Ideal)) (i : S4096x8192.Idx) :
    Cert.UpRefIdeal.Read.val_main_v6 X0 X1 i = (max (∑ k : Fin 2048, (X0 (ix2 (i 0) k) : EReal) * X1 (ix2 k (i 1))) 0
      * max (∑ k : Fin 2048, (X0 (ix2 (i 0) k) : EReal) * X1 (ix2 k (i 1))) 0 : EReal) := by
  pointwise [Cert.UpRefIdeal.Read.val_main_v6, Cert.UpRefIdeal.Read.val_main_v5, Cert.UpRefIdeal.Read.val_main_v4, Cert.UpRefIdeal.Read.val_main_call0_v0, Cert.UpRefIdeal.Read.val_main_call0_cst, Cert.UpRefIdeal.Read.val_main_v2, Cert.UpRefIdeal.Read.val_main_v1, Cert.UpRefIdeal.Read.val_main_v0]

/-- The kernel's first result is the reference's. -/
theorem final (c : Dev nD) : (dats m 0 c).arrAt 2 cfg0.N
    = Cert.UpRefIdeal.Read.val_main_v3 (V m c main_arg0) (V m c main_arg1) := by
  refine (dats m 0 c).arrAt_eq_of_covers 2 _ (by decide +kernel) fun t hf y => ?_
  blk_simp
  rw [after0_2]
  unfold Gen.outsAt0
  frame_out
  rw [written, stepped, zeroed, zero_add, reference_at]
  refine Fin.sum_fin_congr fun k => ?_
  congr 1
  · blk_point [iblk, V, idx t]
  · blk_point [iblk, V, idx t]

/-- And the second. -/
theorem final_act (c : Dev nD) : (dats m 0 c).arrAt 3 cfg0.N
    = Cert.UpRefIdeal.Read.val_main_v6 (V m c main_arg0) (V m c main_arg1) := by
  refine (dats m 0 c).arrAt_eq_of_covers 3 _ (by decide +kernel) fun t hf y => ?_
  blk_simp
  rw [after0_3]
  unfold Gen.outsAt0
  frame_out
  rw [squared, stepped, zeroed, zero_add, reference_squared]
  refine congrArg (fun a : EReal => max a 0 * max a 0) (Fin.sum_fin_congr fun k => ?_)
  congr 1
  · blk_point [iblk, V, idx t]
  · blk_point [iblk, V, idx t]

end Cert.UpIdeal.Final
-- ==== Proof.Mm.Down.lean ====
/- The down-projection with the residual: the blocked product plus the residual's block is the whole sum. -/
module

public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit
public import Idealize.ShloMosaic.Lib.Pointwise

@[expose] public section

set_option maxRecDepth 16384

noncomputable section

namespace Cert.DownIdeal.Final

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- One step adds the products of its block of columns. -/
theorem stepped (acc : Vec Ideal S1024x1024 .f32) (x : Vec Ideal S1024x2048 .bf16) (y : Vec Ideal S2048x1024 .bf16) (j : S1024x1024.Idx) :
    k0_pay2 acc x y j = acc j + ∑ k : Fin 2048, (x (ix2 (j 0) k) : EReal) * y (ix2 k (j 1)) := by
  pointwise [k0_pay2]

/-- The last step adds the residual. -/
theorem written (acc a : Vec Ideal S1024x1024 .f32) (j : S1024x1024.Idx) : k0_pay3 acc a j = acc j + a j := by pointwise [k0_pay3]

/-- The block that each window reads or writes at each point. -/
theorem idx : ∀ t : Fin cfg0.N, win0_0.index t = ![t.val / 8, t.val % 4]
    ∧ win0_1.index t = ![t.val % 4, t.val / 4 % 2]
    ∧ win0_2.index t = ![t.val / 8, t.val / 4 % 2]
    ∧ win0_3.index t = ![t.val / 8, t.val / 4 % 2] :=
  (by decide +kernel : ∀ t : Fin grid0.N, _)

/-- The reference's sum, entry by entry. -/
theorem reference_at (X0 : (⟨S4096x8192, .bf16⟩ : BufTy).Contents (Elt Ideal)) (X1 : (⟨S8192x2048, .bf16⟩ : BufTy).Contents (Elt Ideal))
    (X2 : (⟨S4096x2048, .f32⟩ : BufTy).Contents (Elt Ideal)) (i : S4096x2048.Idx) :
    Cert.DownRefIdeal.Read.val_main_v3 X0 X1 X2 i = X2 i + ∑ k : Fin 8192, (X0 (ix2 (i 0) k) : EReal) * X1 (ix2 k (i 1)) := by
  pointwise [Cert.DownRefIdeal.Read.val_main_v0, Cert.DownRefIdeal.Read.val_main_v1, Cert.DownRefIdeal.Read.val_main_v2, Cert.DownRefIdeal.Read.val_main_v3]

/-- The kernel's result is the reference's. -/
theorem final (c : Dev nD) : (dats m 0 c).arrAt 3 cfg0.N
    = Cert.DownRefIdeal.Read.val_main_v3 (V m c main_arg0) (V m c main_arg1) (V m c main_arg2) := by
  refine (dats m 0 c).arrAt_eq_of_covers 3 _ (by decide +kernel) fun t hf y => ?_
  have ht : t.val % 4 = 3 := (flush0_3 t).mp hf
  have same : (outsAt0 m c t.val t.isLt).1 y = (outsAt0 m c t.val t.isLt).2 y + iblk m c 2 t y := by
    rw [outsAt0_C m c t (by omega) ht]
    frame_out
    rw [written]
  blk_simp
  rw [after0_3]
  refine same.trans ?_
  rw [Pipeline.eq_sum_fin_of_reset_step_apply_of_flush (fun n h => (outsAt0 m c n h).2) 4 (fun _ => 0) _
    (fun t h j => by
      rw [outsAt0_A m c t h (by omega)]; frame_out; rw [stepped, zeroed])
    (fun t h j => by
      by_cases h3 : t.val % 4 = 3
      · rw [outsAt0_C m c t h h3]; frame_out; rw [stepped]; exact congrArg (· + _) (congrFun (Memref.IsWhole.read_unread _ _) j)
      · rw [outsAt0_B m c t h h3]; frame_out; rw [stepped]; exact congrArg (· + _) (congrFun (Memref.IsWhole.read_unread _ _) j))
    t ((flush0_3 t).mp hf) _, zero_add, reference_at]
  have htN : t.val < 32 := t.isLt
  refine (add_comm _ _).trans (congrArg₂ (· + ·) ?_ ?_)
  · blk_point [iblk, V, idx t]
  refine Fin.sum_mul_add_congr fun s k hl => ?_
  congr 1
  · blk_point [iblk, V, idx t, idx ⟨_, Pipeline.run_point_lt_of_flush t ((flush0_3 t).mp hf) s⟩]
  · blk_point [iblk, V, idx t, idx ⟨_, Pipeline.run_point_lt_of_flush t ((flush0_3 t).mp hf) s⟩]

end Cert.DownIdeal.Final
-- ==== Proof.Mm.Out.lean ====
/- The output projection with the residual: the blocked product plus the residual's block is the whole sum. -/
module

public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Pointwise

@[expose] public section

set_option maxRecDepth 16384

noncomputable section

namespace Cert.OutIdeal.Final

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .bf16) (y : Vec Ideal S2048x1024 .bf16) (j : S1024x1024.Idx) :
    k0_pay2 acc x y j = acc j + ∑ k : Fin 2048, (x (ix2 (j 0) k) : EReal) * y (ix2 k (j 1)) := by
  pointwise [k0_pay2]

/-- The array that is added comes last. -/
theorem written (acc a : Vec Ideal S1024x1024 .f32) (j : S1024x1024.Idx) : k0_pay3 acc a j = acc j + a j := by pointwise [k0_pay3]

/-- The block that each window reads or writes at each point. -/
theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

/-- The reference's sum, entry by entry. -/
theorem reference_at (X0 : (⟨S4096x2048, .bf16⟩ : BufTy).Contents (Elt Ideal)) (X1 : (⟨S2048x2048, .bf16⟩ : BufTy).Contents (Elt Ideal)) (X2 : (⟨S4096x2048, .f32⟩ : BufTy).Contents (Elt Ideal)) (i : S4096x2048.Idx) :
    Cert.OutRefIdeal.Read.val_main_v3 X0 X1 X2 i = X2 i + ∑ k : Fin 2048, (X0 (ix2 (i 0) k) : EReal) * X1 (ix2 k (i 1)) := by
  pointwise [Cert.OutRefIdeal.Read.val_main_v0, Cert.OutRefIdeal.Read.val_main_v1, Cert.OutRefIdeal.Read.val_main_v2, Cert.OutRefIdeal.Read.val_main_v3]

/-- The kernel's result is the reference's. -/
theorem final (c : Dev nD) : (dats m 0 c).arrAt 3 cfg0.N
    = Cert.OutRefIdeal.Read.val_main_v3 (V m c main_arg0) (V m c main_arg1) (V m c main_arg2) := by
  refine (dats m 0 c).arrAt_eq_of_covers 3 _ (by decide +kernel) fun t hf y => ?_
  blk_simp
  rw [after0_3]
  unfold Gen.outsAt0
  frame_out
  rw [written, stepped, zeroed, zero_add, reference_at]
  refine (add_comm (_ : EReal) _).trans (congrArg₂ (fun a b : EReal => a + b) ?_ ?_)
  · blk_point [iblk, V, idx t]
  refine Fin.sum_fin_congr fun k => ?_
  congr 1
  · blk_point [iblk, V, idx t]
  · blk_point [iblk, V, idx t]

end Cert.OutIdeal.Final
-- ==== Proof.Mm.Pa.lean ====
/- A branch's projection: the blocked product is the whole product. -/
module

public import proofs.«01_k».proof.Proof.Gen.PaIdeal.Value
public import proofs.«01_k».proof.Proof.Gen.PaRefIdeal.Run
public import proofs.«01_k».proof.Proof.Gen.PaRefIdeal.Read
public import Idealize.ShloMosaic.Lib.Pipeline.ValueKit
public import Idealize.ShloMosaic.Lib.Pointwise

@[expose] public section

set_option maxRecDepth 16384

noncomputable section

namespace Cert.PaIdeal.Final

open Cert.PaIdeal Cert.PaIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .bf16) (y : Vec Ideal S2048x1024 .bf16) (j : S1024x1024.Idx) :
    k0_pay2 acc x y j = acc j + ∑ k : Fin 2048, (x (ix2 (j 0) k) : EReal) * y (ix2 k (j 1)) := by
  pointwise [k0_pay2]

/-- The block that each window reads or writes at each point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The reference's product, entry by entry. -/
theorem reference_at (X0 : (⟨S4096x2048, .bf16⟩ : BufTy).Contents (Elt Ideal)) (X1 : (⟨S2048x2048, .bf16⟩ : BufTy).Contents (Elt Ideal)) (i : S4096x2048.Idx) :
    Cert.PaRefIdeal.Read.val_main_v2 X0 X1 i = ∑ k : Fin 2048, (X0 (ix2 (i 0) k) : EReal) * X1 (ix2 k (i 1)) := by
  pointwise [Cert.PaRefIdeal.Read.val_main_v0, Cert.PaRefIdeal.Read.val_main_v1, Cert.PaRefIdeal.Read.val_main_v2]

/-- The kernel's result is the reference's. -/
theorem final (c : Dev nD) : (dats m 0 c).arrAt 2 cfg0.N
    = Cert.PaRefIdeal.Read.val_main_v2 (V m c main_arg0) (V m c main_arg1) := by
  refine (dats m 0 c).arrAt_eq_of_covers 2 _ (by decide +kernel) fun t hf y => ?_
  blk_simp
  rw [after0_2]
  unfold Gen.outsAt0
  frame_out
  rw [stepped, zeroed, zero_add, reference_at]
  refine Fin.sum_fin_congr fun k => ?_
  congr 1
  · blk_point [iblk, V, idx t]
  · blk_point [iblk, V, idx t]

end Cert.PaIdeal.Final
-- ==== Proof.Mm.Pb.lean ====
/- The dilated branch's projection: the blocked product is the whole product. -/
module

public import proofs.«01_k».proof.Proof.Gen.PbIdeal.Value
public import proofs.«01_k».proof.Proof.Gen.PbRefIdeal.Run
public import proofs.«01_k».proof.Proof.Gen.PbRefIdeal.Read
public import Idealize.ShloMosaic.Lib.Pipeline.ValueKit
public import Idealize.ShloMosaic.Lib.Pointwise

@[expose] public section

set_option maxRecDepth 16384

noncomputable section

namespace Cert.PbIdeal.Final

open Cert.PbIdeal Cert.PbIdeal.Gen Idealize.ShloMosaic Idealize.ShloMosaic.TcCoe Idealize.SL.Sem
open Idealize.ShloMosaic.Pipeline (Dat)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x1024 .bf16) (y : Vec Ideal S1024x1024 .bf16) (j : S1024x1024.Idx) :
    k0_pay2 acc x y j = acc j + ∑ k : Fin 1024, (x (ix2 (j 0) k) : EReal) * y (ix2 k (j 1)) := by
  pointwise [k0_pay2]

/-- The block that each window reads or writes at each point. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The reference's product, entry by entry. -/
theorem reference_at (X0 : (⟨S4096x1024, .bf16⟩ : BufTy).Contents (Elt Ideal)) (X1 : (⟨S1024x2048, .bf16⟩ : BufTy).Contents (Elt Ideal)) (i : S4096x2048.Idx) :
    Cert.PbRefIdeal.Read.val_main_v2 X0 X1 i = ∑ k : Fin 1024, (X0 (ix2 (i 0) k) : EReal) * X1 (ix2 k (i 1)) := by
  pointwise [Cert.PbRefIdeal.Read.val_main_v0, Cert.PbRefIdeal.Read.val_main_v1, Cert.PbRefIdeal.Read.val_main_v2]

/-- The kernel's result is the reference's. -/
theorem final (c : Dev nD) : (dats m 0 c).arrAt 2 cfg0.N
    = Cert.PbRefIdeal.Read.val_main_v2 (V m c main_arg0) (V m c main_arg1) := by
  refine (dats m 0 c).arrAt_eq_of_covers 2 _ (by decide +kernel) fun t hf y => ?_
  blk_simp
  rw [after0_2]
  unfold Gen.outsAt0
  frame_out
  rw [stepped, zeroed, zero_add, reference_at]
  refine Fin.sum_fin_congr fun k => ?_
  congr 1
  · blk_point [iblk, V, idx t]
  · blk_point [iblk, V, idx t]

end Cert.PbIdeal.Final
-- ==== Proof.Mm.ProjRef.lean ====
/- The reference's in-projection with the rotary positions, entry by entry. -/
module

public import proofs.«01_k».proof.Proof.Gen.ProjRefIdeal.Run
public import proofs.«01_k».proof.Proof.Gen.ProjRefIdeal.Read
public import Idealize.ShloMosaic.Lib.Pipeline.ValueKit
public import Idealize.ShloMosaic.Lib.Pointwise

@[expose] public section

set_option maxRecDepth 16384

noncomputable section

namespace Cert.ProjRefIdeal.Turn

open Cert.ProjRefIdeal Cert.ProjRefIdeal.Gen Cert.ProjRefIdeal.Read Idealize.ShloMosaic Idealize.ShloMosaic.TcCoe Idealize.SL.Sem

variable (X0 : (⟨S4096x2048, .bf16⟩ : BufTy).Contents (Elt Ideal)) (X1 : (⟨S24576x2048, .bf16⟩ : BufTy).Contents (Elt Ideal))

/-- The product of a row of the residual and a row of the weight. -/
@[irreducible] def prod (r : Fin 4096) (q : Fin 24576) : EReal := ∑ k : Fin 2048, (X0 (ix2 r k) : EReal) * X1 (ix2 q k)

/-- The cosines of the angles. -/
@[irreducible] def cosT : FVec Ideal S2048x16 .f32 := val_main_v22 (F := Ideal)

/-- The sines of the angles. -/
@[irreducible] def sinT : FVec Ideal S2048x16 .f32 := val_main_v23 (F := Ideal)

theorem product_at (i : S4096x24576.Idx) : val_main_v3 X0 X1 i = prod X0 X1 (i 0) (i 1) := by
  pointwise [val_main_v0, val_main_v1, val_main_v2, val_main_v3, prod]

/-- The product with its rows and columns split. -/
theorem split_at (j : S2x2048x192x128.Idx) (r : Fin 4096) (q : Fin 24576) (hr : r.val = (j 0).val * 2048 + (j 1).val)
    (hq : q.val = (j 2).val * 128 + (j 3).val) : val_main_v4 X0 X1 j = prod X0 X1 r q := by
  unfold val_main_v4
  refine (shapeCast_apply _ _ j (ix2 r q) ?_).trans (product_at X0 X1 _)
  rw [Shape.rowMajor_val_four, Shape.rowMajor_val_two]
  show r.val * 24576 + q.val = (((j 0).val * 2048 + (j 1).val) * 192 + (j 2).val) * 128 + (j 3).val
  omega

/-- The heads that turn. -/
theorem heads_at (j : S2x2048x92x128.Idx) (r : Fin 4096) (q : Fin 24576) (hr : r.val = (j 0).val * 2048 + (j 1).val)
    (hq : q.val = ((j 2).val + 48) * 128 + (j 3).val) : val_main_v5 X0 X1 j = prod X0 X1 r q := by
  rw [val_main_v5_apply]
  exact split_at X0 X1 _ r q hr (by show q.val = (48 + (j 2).val) * 128 + (j 3).val; omega)

/-- The cosines with their unit axes. -/
theorem cos_at (j : S1x2048x1x16.Idx) : val_main_v24 (F := Ideal) j = cosT (ix2 (j 1) (j 3)) := by
  have b0 : (j 0).val < 1 := (j 0).isLt
  have b2 : (j 2).val < 1 := (j 2).isLt
  unfold val_main_v24 cosT
  refine shapeCast_apply _ _ j (ix2 (j 1) (j 3)) ?_
  rw [Shape.rowMajor_val_four, Shape.rowMajor_val_two]
  show (j 1).val * 16 + (j 3).val = (((j 0).val * 2048 + (j 1).val) * 1 + (j 2).val) * 16 + (j 3).val
  omega

/-- The sines with their unit axes. -/
theorem sin_at (j : S1x2048x1x16.Idx) : val_main_v25 (F := Ideal) j = sinT (ix2 (j 1) (j 3)) := by
  have b0 : (j 0).val < 1 := (j 0).isLt
  have b2 : (j 2).val < 1 := (j 2).isLt
  unfold val_main_v25 sinT
  refine shapeCast_apply _ _ j (ix2 (j 1) (j 3)) ?_
  rw [Shape.rowMajor_val_four, Shape.rowMajor_val_two]
  show (j 1).val * 16 + (j 3).val = (((j 0).val * 2048 + (j 1).val) * 1 + (j 2).val) * 16 + (j 3).val
  omega

/-- The first lanes of a turned head. -/
theorem low_at (j : S2x2048x92x16.Idx) (r : Fin 4096) (q q' : Fin 24576) (hr : r.val = (j 0).val * 2048 + (j 1).val)
    (hq : q.val = ((j 2).val + 48) * 128 + (j 3).val) (hq' : q'.val = q.val + 16) :
    val_main_v33 X0 X1 j = (prod X0 X1 r q * cosT (ix2 (j 1) (j 3)) - prod X0 X1 r q' * sinT (ix2 (j 1) (j 3)) : EReal) := by
  have h1 : val_main_v27 X0 X1 j = prod X0 X1 r q := by
    rw [val_main_v27_apply, val_main_v26_apply]
    exact heads_at X0 X1 _ r q hr hq
  have h2 : val_main_v28 X0 X1 j = prod X0 X1 r q' := by
    rw [val_main_v28_apply, val_main_v26_apply]
    exact heads_at X0 X1 _ r q' hr (by show _ = ((j 2).val + 48) * 128 + (16 + (j 3).val); omega)
  have h3 : val_main_v29 (F := Ideal) j = cosT (ix2 (j 1) (j 3)) := by
    rw [val_main_v29_apply, cos_at]
    rfl
  have h4 : val_main_v31 (F := Ideal) j = sinT (ix2 (j 1) (j 3)) := by
    rw [val_main_v31_apply, sin_at]
    rfl
  rw [val_main_v33_apply, val_main_v30_apply, val_main_v32_apply, h1, h2, h3, h4]
  rfl

/-- The next lanes of a turned head. -/
theorem high_at (j : S2x2048x92x16.Idx) (r : Fin 4096) (q q' : Fin 24576) (hr : r.val = (j 0).val * 2048 + (j 1).val)
    (hq : q'.val = ((j 2).val + 48) * 128 + (j 3).val) (hq' : q.val = q'.val + 16) :
    val_main_v38 X0 X1 j = (prod X0 X1 r q' * sinT (ix2 (j 1) (j 3)) + prod X0 X1 r q * cosT (ix2 (j 1) (j 3)) : EReal) := by
  have h1 : val_main_v27 X0 X1 j = prod X0 X1 r q' := by
    rw [val_main_v27_apply, val_main_v26_apply]
    exact heads_at X0 X1 _ r q' hr hq
  have h2 : val_main_v28 X0 X1 j = prod X0 X1 r q := by
    rw [val_main_v28_apply, val_main_v26_apply]
    exact heads_at X0 X1 _ r q hr (by show _ = ((j 2).val + 48) * 128 + (16 + (j 3).val); omega)
  have h3 : val_main_v36 (F := Ideal) j = cosT (ix2 (j 1) (j 3)) := by
    rw [val_main_v36_apply, cos_at]
    rfl
  have h4 : val_main_v34 (F := Ideal) j = sinT (ix2 (j 1) (j 3)) := by
    rw [val_main_v34_apply, sin_at]
    rfl
  rw [val_main_v38_apply, val_main_v35_apply, val_main_v37_apply, h1, h2, h3, h4]
  rfl

/-- The result's entry is the assembled heads' entry. -/
theorem result_at (i : S4096x24576.Idx) (b : Fin 2) (p : Fin 2048) (g : Fin 192) (l : Fin 128) (h0 : (i 0).val = b.val * 2048 + p.val)
    (h1 : (i 1).val = g.val * 128 + l.val) : val_main_v46 X0 X1 i = val_main_v44 X0 X1 (ix4 b p g l) := by
  rw [val_main_v46_apply, val_main_v45_apply]
  refine congrArg (val_main_v44 X0 X1) (funext fun a => Fin.ext ?_)
  fin_cases a
  · show ((i 0).val * 24576 + (i 1).val) / 50331648 = b.val
    omega
  · show ((i 0).val * 24576 + (i 1).val) / 24576 % 2048 = p.val
    omega
  · show ((i 0).val * 24576 + (i 1).val) / 128 % 192 = g.val
    omega
  · show ((i 0).val * 24576 + (i 1).val) % 128 = l.val
    omega

/-- The assembled heads before, at and after the turned ones. -/
theorem before_of (A : FVec Ideal S2x2048x48x128 .f32) (B : FVec Ideal S2x2048x92x128 .f32) (C : FVec Ideal S2x2048x52x128 .f32)
    (b : Fin 2) (p : Fin 2048) (g : Fin 192) (l : Fin 128) (n : Fin 48) (h : 0 + n.val = g.val) :
    concatenate S2x2048x192x128 2 [⟨S2x2048x48x128, A⟩, ⟨S2x2048x92x128, B⟩, ⟨S2x2048x52x128, C⟩]
      concatenates_S2x2048x48x128_S2x2048x92x128_S2x2048x52x128_S2x2048x192x128_d2 (ix4 b p g l) = A (ix4 b p n l) := by
  refine concatenate_apply_piece 2 [⟨S2x2048x48x128, A⟩, ⟨S2x2048x92x128, B⟩, ⟨S2x2048x52x128, C⟩] _ (ix4 b p g l) 0
    (show 0 < 3 by decide) S2x2048x48x128 A rfl rfl 0 rfl (ix4 b p n l) (fun c hc => ?_) h
  fin_cases c
  · rfl
  · rfl
  · exact absurd rfl hc
  · rfl

theorem turned_of (A : FVec Ideal S2x2048x48x128 .f32) (B : FVec Ideal S2x2048x92x128 .f32) (C : FVec Ideal S2x2048x52x128 .f32)
    (b : Fin 2) (p : Fin 2048) (g : Fin 192) (l : Fin 128) (n : Fin 92) (h : 48 + n.val = g.val) :
    concatenate S2x2048x192x128 2 [⟨S2x2048x48x128, A⟩, ⟨S2x2048x92x128, B⟩, ⟨S2x2048x52x128, C⟩]
      concatenates_S2x2048x48x128_S2x2048x92x128_S2x2048x52x128_S2x2048x192x128_d2 (ix4 b p g l) = B (ix4 b p n l) := by
  refine concatenate_apply_piece 2 [⟨S2x2048x48x128, A⟩, ⟨S2x2048x92x128, B⟩, ⟨S2x2048x52x128, C⟩] _ (ix4 b p g l) 1
    (show 1 < 3 by decide) S2x2048x92x128 B rfl rfl 48 rfl (ix4 b p n l) (fun c hc => ?_) h
  fin_cases c
  · rfl
  · rfl
  · exact absurd rfl hc
  · rfl

theorem after_of (A : FVec Ideal S2x2048x48x128 .f32) (B : FVec Ideal S2x2048x92x128 .f32) (C : FVec Ideal S2x2048x52x128 .f32)
    (b : Fin 2) (p : Fin 2048) (g : Fin 192) (l : Fin 128) (n : Fin 52) (h : 140 + n.val = g.val) :
    concatenate S2x2048x192x128 2 [⟨S2x2048x48x128, A⟩, ⟨S2x2048x92x128, B⟩, ⟨S2x2048x52x128, C⟩]
      concatenates_S2x2048x48x128_S2x2048x92x128_S2x2048x52x128_S2x2048x192x128_d2 (ix4 b p g l) = C (ix4 b p n l) := by
  refine concatenate_apply_piece 2 [⟨S2x2048x48x128, A⟩, ⟨S2x2048x92x128, B⟩, ⟨S2x2048x52x128, C⟩] _ (ix4 b p g l) 2
    (show 2 < 3 by decide) S2x2048x52x128 C rfl rfl 140 rfl (ix4 b p n l) (fun c hc => ?_) h
  fin_cases c
  · rfl
  · rfl
  · exact absurd rfl hc
  · rfl

/-- The lanes of a turned head: the rotary ones, and the others. -/
theorem lanes_of (A : FVec Ideal S2x2048x92x32 .f32) (B : FVec Ideal S2x2048x92x96 .f32)
    (b : Fin 2) (p : Fin 2048) (n : Fin 92) (l : Fin 128) (k : Fin 32) (h : 0 + k.val = l.val) :
    concatenate S2x2048x92x128 3 [⟨S2x2048x92x32, A⟩, ⟨S2x2048x92x96, B⟩] concatenates_S2x2048x92x32_S2x2048x92x96_S2x2048x92x128_d3 (ix4 b p n l) = A (ix4 b p n k) := by
  refine concatenate_apply_piece 3 [⟨S2x2048x92x32, A⟩, ⟨S2x2048x92x96, B⟩] _ (ix4 b p n l) 0
    (show 0 < 2 by decide) S2x2048x92x32 A rfl rfl 0 rfl (ix4 b p n k) (fun c hc => ?_) h
  fin_cases c
  · rfl
  · rfl
  · rfl
  · exact absurd rfl hc

theorem others_of (A : FVec Ideal S2x2048x92x32 .f32) (B : FVec Ideal S2x2048x92x96 .f32)
    (b : Fin 2) (p : Fin 2048) (n : Fin 92) (l : Fin 128) (k : Fin 96) (h : 32 + k.val = l.val) :
    concatenate S2x2048x92x128 3 [⟨S2x2048x92x32, A⟩, ⟨S2x2048x92x96, B⟩] concatenates_S2x2048x92x32_S2x2048x92x96_S2x2048x92x128_d3 (ix4 b p n l) = B (ix4 b p n k) := by
  refine concatenate_apply_piece 3 [⟨S2x2048x92x32, A⟩, ⟨S2x2048x92x96, B⟩] _ (ix4 b p n l) 1
    (show 1 < 2 by decide) S2x2048x92x96 B rfl rfl 32 rfl (ix4 b p n k) (fun c hc => ?_) h
  fin_cases c
  · rfl
  · rfl
  · rfl
  · exact absurd rfl hc

/-- The two halves of the rotary lanes. -/
theorem first_of (A : FVec Ideal S2x2048x92x16 .f32) (B : FVec Ideal S2x2048x92x16 .f32)
    (b : Fin 2) (p : Fin 2048) (n : Fin 92) (l : Fin 32) (k : Fin 16) (h : 0 + k.val = l.val) :
    concatenate S2x2048x92x32 3 [⟨S2x2048x92x16, A⟩, ⟨S2x2048x92x16, B⟩] concatenates_S2x2048x92x16_S2x2048x92x16_S2x2048x92x32_d3 (ix4 b p n l) = A (ix4 b p n k) := by
  refine concatenate_apply_piece 3 [⟨S2x2048x92x16, A⟩, ⟨S2x2048x92x16, B⟩] _ (ix4 b p n l) 0
    (show 0 < 2 by decide) S2x2048x92x16 A rfl rfl 0 rfl (ix4 b p n k) (fun c hc => ?_) h
  fin_cases c
  · rfl
  · rfl
  · rfl
  · exact absurd rfl hc

theorem second_of (A : FVec Ideal S2x2048x92x16 .f32) (B : FVec Ideal S2x2048x92x16 .f32)
    (b : Fin 2) (p : Fin 2048) (n : Fin 92) (l : Fin 32) (k : Fin 16) (h : 16 + k.val = l.val) :
    concatenate S2x2048x92x32 3 [⟨S2x2048x92x16, A⟩, ⟨S2x2048x92x16, B⟩] concatenates_S2x2048x92x16_S2x2048x92x16_S2x2048x92x32_d3 (ix4 b p n l) = B (ix4 b p n k) := by
  refine concatenate_apply_piece 3 [⟨S2x2048x92x16, A⟩, ⟨S2x2048x92x16, B⟩] _ (ix4 b p n l) 1
    (show 1 < 2 by decide) S2x2048x92x16 B rfl rfl 16 rfl (ix4 b p n k) (fun c hc => ?_) h
  fin_cases c
  · rfl
  · rfl
  · rfl
  · exact absurd rfl hc

/-- Outside the turned heads the reference is the product. -/
theorem plain (i : S4096x24576.Idx) (b : Fin 2) (p : Fin 2048) (g : Fin 192) (l : Fin 128) (h0 : (i 0).val = b.val * 2048 + p.val)
    (h1 : (i 1).val = g.val * 128 + l.val) (h : ¬(48 ≤ g.val ∧ g.val < 140)) :
    val_main_v46 X0 X1 i = prod X0 X1 (i 0) (i 1) := by
  have bg : g.val < 192 := g.isLt
  rw [result_at X0 X1 i b p g l h0 h1]
  by_cases k : g.val < 48
  · rw [show val_main_v44 X0 X1 (ix4 b p g l) = _ from before_of _ _ _ b p g l ⟨g.val, k⟩ (Nat.zero_add _), val_main_v42_apply]
    exact split_at X0 X1 _ (i 0) (i 1) h0 h1
  · have k' : 140 + (g.val - 140) = g.val := by omega
    rw [show val_main_v44 X0 X1 (ix4 b p g l) = _ from after_of _ _ _ b p g l ⟨g.val - 140, by omega⟩ k', val_main_v43_apply]
    exact split_at X0 X1 _ (i 0) (i 1) h0 (by show (i 1).val = (140 + (g.val - 140)) * 128 + l.val; omega)

/-- The lanes of a turned head past the rotary ones are the product. -/
theorem rest (i : S4096x24576.Idx) (b : Fin 2) (p : Fin 2048) (g : Fin 192) (l : Fin 128) (h0 : (i 0).val = b.val * 2048 + p.val)
    (h1 : (i 1).val = g.val * 128 + l.val) (n : Fin 92) (hn : 48 + n.val = g.val) (k : Fin 96) (hk : 32 + k.val = l.val) :
    val_main_v46 X0 X1 i = prod X0 X1 (i 0) (i 1) := by
  rw [result_at X0 X1 i b p g l h0 h1, show val_main_v44 X0 X1 (ix4 b p g l) = _ from turned_of _ _ _ b p g l n hn, show val_main_v41 X0 X1 (ix4 b p n l) = _ from others_of _ _ b p n l k hk, val_main_v40_apply]
  exact heads_at X0 X1 _ (i 0) (i 1) h0 (by show (i 1).val = (n.val + 48) * 128 + (32 + k.val); omega)

/-- The first rotary lanes. -/
theorem low (i : S4096x24576.Idx) (b : Fin 2) (p : Fin 2048) (g : Fin 192) (l : Fin 128) (h0 : (i 0).val = b.val * 2048 + p.val)
    (h1 : (i 1).val = g.val * 128 + l.val) (n : Fin 92) (hn : 48 + n.val = g.val) (e : Fin 16) (he : e.val = l.val)
    (q' : Fin 24576) (hq : q'.val = (i 1).val + 16) :
    val_main_v46 X0 X1 i = (prod X0 X1 (i 0) (i 1) * cosT (ix2 p e) - prod X0 X1 (i 0) q' * sinT (ix2 p e) : EReal) := by
  have be : e.val < 16 := e.isLt
  rw [result_at X0 X1 i b p g l h0 h1, show val_main_v44 X0 X1 (ix4 b p g l) = _ from turned_of _ _ _ b p g l n hn,
    show val_main_v41 X0 X1 (ix4 b p n l) = _ from lanes_of _ _ b p n l ⟨e.val, by omega⟩ (by show 0 + e.val = l.val; omega),
    show val_main_v39 X0 X1 _ = _ from first_of _ _ b p n ⟨e.val, by omega⟩ e (Nat.zero_add _)]
  exact low_at X0 X1 _ (i 0) (i 1) q' h0 (by show (i 1).val = (n.val + 48) * 128 + e.val; omega) hq

/-- The second rotary lanes. -/
theorem high (i : S4096x24576.Idx) (b : Fin 2) (p : Fin 2048) (g : Fin 192) (l : Fin 128) (h0 : (i 0).val = b.val * 2048 + p.val)
    (h1 : (i 1).val = g.val * 128 + l.val) (n : Fin 92) (hn : 48 + n.val = g.val) (e : Fin 16) (he : 16 + e.val = l.val)
    (q' : Fin 24576) (hq : (i 1).val = q'.val + 16) :
    val_main_v46 X0 X1 i = (prod X0 X1 (i 0) q' * sinT (ix2 p e) + prod X0 X1 (i 0) (i 1) * cosT (ix2 p e) : EReal) := by
  have be : e.val < 16 := e.isLt
  rw [result_at X0 X1 i b p g l h0 h1, show val_main_v44 X0 X1 (ix4 b p g l) = _ from turned_of _ _ _ b p g l n hn,
    show val_main_v41 X0 X1 (ix4 b p n l) = _ from lanes_of _ _ b p n l ⟨16 + e.val, by omega⟩ (by show 0 + (16 + e.val) = l.val; omega),
    show val_main_v39 X0 X1 _ = _ from second_of _ _ b p n ⟨16 + e.val, by omega⟩ e rfl]
  exact high_at X0 X1 _ (i 0) (i 1) q' h0 (by show q'.val = (n.val + 48) * 128 + e.val; omega) hq

end Cert.ProjRefIdeal.Turn
-- ==== Proof.Mm.Proj.lean ====
/- The in-projection with the rotary positions: the blocked product is the whole product, and the turned heads are the reference's. -/
module

public import proofs.«01_k».proof.Proof.Gen.ProjIdeal.Value
public import proofs.«01_k».proof.Proof.Mm.ProjRef
public import Idealize.ShloMosaic.Lib.Pipeline.ValueKit
public import Idealize.ShloMosaic.Lib.Pointwise
public import Idealize.ShloMosaic.Lib.KernelVsHost

@[expose] public section

set_option maxRecDepth 16384

noncomputable section

namespace Cert.ProjIdeal.Final

open Cert.ProjIdeal Cert.ProjIdeal.Gen Idealize.ShloMosaic Idealize.ShloMosaic.TcCoe Idealize.SL.Sem
open Idealize.ShloMosaic.Pipeline (Dat)
open Cert.ProjRefIdeal.Turn (prod cosT sinT)

variable (m : (ℓ : Loc nD τ sig) → Buf (Elt Ideal) ℓ)

/-- The accumulator is zeroed before the product is taken. -/
theorem zeroed (j : S1024x1024.Idx) : k0_pay1 (F := Ideal) j = 0 := by pointwise [k0_pay1]

/-- The product adds the products along the block's columns. -/
theorem stepped (acc : Vec Ideal S1024x1024 .f32) (x : Vec Ideal S1024x2048 .bf16) (y : Vec Ideal S1024x2048 .bf16) (j : S1024x1024.Idx) :
    k0_pay2 acc x y j = acc j + ∑ k : Fin 2048, (x (ix2 (j 0) k) : EReal) * y (ix2 (j 1) k) := by
  pointwise [k0_pay2]

/-- A head that does not turn is written as it is. -/
theorem written (acc : Vec Ideal S1024x1024 .f32) (j : S1024x1024.Idx) : k0_pay5 acc j = acc j := by pointwise [k0_pay5]

/-- Whether head `b` of column block `a` is one of those that turn. -/
def touched (a b : BitVec 32) : BitVec 1 :=
  Scalar.andi (Scalar.cmpi .sge (Scalar.addi (Scalar.muli a 8#32) b) 48#32) (Scalar.cmpi .slt (Scalar.addi (Scalar.muli a 8#32) b) 140#32)

theorem touched_iff : ∀ (a : Fin 24) (b : Fin 8), touched (BitVec.ofNat 32 a.val) (BitVec.ofNat 32 b.val)
    = if 48 ≤ a.val * 8 + b.val ∧ a.val * 8 + b.val < 140 then 1#1 else 0#1 := by
  decide +kernel

/-- A head as the kernel writes it, from the tables and the product. -/
def head (a b : BitVec 32) (c u d x : FVec Ideal S1024x128 .f32) : FVec Ideal S1024x128 .bf16 :=
  truncf .bf16 (Scalar.select (touched a b)
    (addf (addf (mulf x c) (mulf (dynamicRotate 1 112#32 none x rotates_S1024x128_d1) u))
      (mulf (dynamicRotate 1 16#32 none x rotates_S1024x128_d1) d)) x) bitsLt_bf16_f32

theorem head_off (a b : BitVec 32) (c u d x : FVec Ideal S1024x128 .f32) (j : S1024x128.Idx) (h : touched a b = 0#1) :
    head a b c u d x j = x j := by
  unfold head
  rw [h]
  rfl

theorem head_on (a b : BitVec 32) (c u d x : FVec Ideal S1024x128 .f32) (j : S1024x128.Idx) (h : touched a b = 1#1)
    (k l : S1024x128.Idx) (hk0 : (k 0).val = (j 0).val) (hk : (k 1).val = ((j 1).val + 16) % 128)
    (hl0 : (l 0).val = (j 0).val) (hl : (l 1).val = ((j 1).val + 112) % 128) :
    head a b c u d x j = (x j * c j + x k * u j + x l * d j : EReal) := by
  have e1 : dynamicRotate 1 112#32 none x rotates_S1024x128_d1 j = x k := by
    refine dynamicRotate_apply 1 112#32 x _ j k fun b => ?_
    fin_cases b
    · exact hk0
    · show (k 1).val = ((j 1).val + 128 - 112 % 128) % 128
      omega
  have e2 : dynamicRotate 1 16#32 none x rotates_S1024x128_d1 j = x l := by
    refine dynamicRotate_apply 1 16#32 x _ j l fun b => ?_
    fin_cases b
    · exact hl0
    · show (l 1).val = ((j 1).val + 128 - 16 % 128) % 128
      omega
  unfold head
  rw [h]
  show (x j * c j + dynamicRotate 1 112#32 none x rotates_S1024x128_d1 j * u j + dynamicRotate 1 16#32 none x rotates_S1024x128_d1 j * d j : EReal) = _
  rw [e1, e2]

/-- What each store writes, head by head. -/
theorem store_0 (a : BitVec 32) (c u d x : FVec Ideal S1024x128 .f32) : k0_pay9 a c u d x = head a (BitVec.ofNat 32 (0 : Fin 8).val) (k0_pay6 c) (k0_pay7 u) (k0_pay8 d) x := rfl
theorem store_1 (a : BitVec 32) (c u d x : FVec Ideal S1024x128 .f32) :
    k0_pay11 x (k0_pay10 c u d x) (touched a 1#32) = head a (BitVec.ofNat 32 (1 : Fin 8).val) (k0_pay6 c) (k0_pay7 u) (k0_pay8 d) x := rfl
theorem store_2 (a : BitVec 32) (c u d x : FVec Ideal S1024x128 .f32) : k0_pay12 a c u d x = head a (BitVec.ofNat 32 (2 : Fin 8).val) c u d x := rfl
theorem store_3 (a : BitVec 32) (c u d x : FVec Ideal S1024x128 .f32) : k0_pay13 a c u d x = head a (BitVec.ofNat 32 (3 : Fin 8).val) c u d x := rfl
theorem store_4 (a : BitVec 32) (c u d x : FVec Ideal S1024x128 .f32) : k0_pay14 a c u d x = head a (BitVec.ofNat 32 (4 : Fin 8).val) c u d x := rfl
theorem store_5 (a : BitVec 32) (c u d x : FVec Ideal S1024x128 .f32) : k0_pay15 a c u d x = head a (BitVec.ofNat 32 (5 : Fin 8).val) c u d x := rfl
theorem store_6 (i : grid0.Coords) (c u d x : FVec Ideal S1024x128 .f32) :
    k0_pay3 i u d x (k0_pay16 c x) (k0_pay17 x) = head (BitVec.ofNat 32 (i 1).val) (BitVec.ofNat 32 (6 : Fin 8).val) c u d x := rfl
theorem store_7 (i : grid0.Coords) (c u d x : FVec Ideal S1024x128 .f32) : k0_pay4 i c u d x = head (BitVec.ofNat 32 (i 1).val) (BitVec.ofNat 32 (7 : Fin 8).val) c u d x := rfl

/-- The tables are read as they are. -/
theorem table_c (x : Vec Ideal S1024x128 .f32) (j : S1024x128.Idx) : k0_pay6 x j = x j := by pointwise [k0_pay6]
theorem table_u (x : Vec Ideal S1024x128 .f32) (j : S1024x128.Idx) : k0_pay7 x j = x j := by pointwise [k0_pay7]
theorem table_d (x : Vec Ideal S1024x128 .f32) (j : S1024x128.Idx) : k0_pay8 x j = x j := by pointwise [k0_pay8]

/-- Three tables side by side. -/
def joined (a b : FVec Ideal S2048x16 .f32) (z : FVec Ideal S2048x96 .f32) : FVec Ideal S2048x128 .f32 :=
  concatenate S2048x128 1 [⟨S2048x16, a⟩, ⟨S2048x16, b⟩, ⟨S2048x96, z⟩] concatenates_S2048x16_S2048x16_S2048x96_S2048x128_d1

theorem joined_low (a b : FVec Ideal S2048x16 .f32) (z : FVec Ideal S2048x96 .f32) (p : Fin 2048) (l : Fin 128) (e : Fin 16)
    (h : 0 + e.val = l.val) : joined a b z (ix2 p l) = a (ix2 p e) := by
  unfold joined
  refine concatenate_apply_piece 1 [⟨S2048x16, a⟩, ⟨S2048x16, b⟩, ⟨S2048x96, z⟩] _ (ix2 p l) 0 (show 0 < 3 by decide) S2048x16 a rfl rfl 0 rfl (ix2 p e) (fun c hc => ?_) h
  fin_cases c
  · rfl
  · exact absurd rfl hc

theorem joined_high (a b : FVec Ideal S2048x16 .f32) (z : FVec Ideal S2048x96 .f32) (p : Fin 2048) (l : Fin 128) (e : Fin 16)
    (h : 16 + e.val = l.val) : joined a b z (ix2 p l) = b (ix2 p e) := by
  unfold joined
  refine concatenate_apply_piece 1 [⟨S2048x16, a⟩, ⟨S2048x16, b⟩, ⟨S2048x96, z⟩] _ (ix2 p l) 1 (show 1 < 3 by decide) S2048x16 b rfl rfl 16 rfl (ix2 p e) (fun c hc => ?_) h
  fin_cases c
  · rfl
  · exact absurd rfl hc

theorem joined_rest (a b : FVec Ideal S2048x16 .f32) (z : FVec Ideal S2048x96 .f32) (p : Fin 2048) (l : Fin 128) (e : Fin 96)
    (h : 32 + e.val = l.val) : joined a b z (ix2 p l) = z (ix2 p e) := by
  unfold joined
  refine concatenate_apply_piece 1 [⟨S2048x16, a⟩, ⟨S2048x16, b⟩, ⟨S2048x96, z⟩] _ (ix2 p l) 2 (show 2 < 3 by decide) S2048x96 z rfl rfl 32 rfl (ix2 p e) (fun c hc => ?_) h
  fin_cases c
  · rfl
  · exact absurd rfl hc

/-- The constant parts of the tables. -/
def zero16 : FVec Ideal S2048x16 .f32 := broadcastInDim S2048x16 ![] bcast_S_S2048x16 (constant S_ .f32 0x00000000#32)
def zero96 : FVec Ideal S2048x96 .f32 := broadcastInDim S2048x96 ![] bcast_S_S2048x96 (constant S_ .f32 0x00000000#32)
def one96 : FVec Ideal S2048x96 .f32 := addf zero96 (broadcastInDim S2048x96 ![] bcast_S_S2048x96 (constant S_ .f32 0x3F800000#32))
def sin1 : FVec Ideal S2048x16 .f32 := mulf sinT (broadcastInDim S2048x16 ![] bcast_S_S2048x16 (constant S_ .f32 0x3F800000#32))

theorem zero16_at (i : S2048x16.Idx) : zero16 i = (0 : EReal) := by pointwise [zero16]
theorem zero96_at (i : S2048x96.Idx) : zero96 i = (0 : EReal) := by pointwise [zero96]
theorem one96_at (i : S2048x96.Idx) : one96 i = (1 : EReal) := by pointwise [one96, zero96]
theorem sin1_at (i : S2048x16.Idx) : sin1 i = (sinT i : EReal) := by pointwise [sin1]

/-- The tables that the host prepares. -/
theorem host_c (c : Dev nD) : V m c main_v24 = joined cosT cosT one96 := by
  unfold V cosT
  after_results
  rfl

theorem host_u (c : Dev nD) : V m c main_v26 = joined (Host.negf sin1) zero16 zero96 := by
  unfold V sin1 sinT
  after_results
  rfl

theorem host_d (c : Dev nD) : V m c main_v27 = joined zero16 sin1 zero96 := by
  unfold V sin1 sinT
  after_results
  rfl

/-- The block that each window reads or writes at each point. -/
theorem idx : ∀ t : Fin cfg0.N, win0_0.index t = ![t.val / 24, 0]
    ∧ win0_1.index t = ![t.val % 24, 0]
    ∧ win0_2.index t = ![t.val / 24 % 2, 0]
    ∧ win0_3.index t = ![t.val / 24 % 2, 0]
    ∧ win0_4.index t = ![t.val / 24 % 2, 0]
    ∧ win0_5.index t = ![t.val / 24, t.val % 24] :=
  (by decide +kernel : ∀ t : Fin grid0.N, _)

/-- The grid's second coordinate is the column block. -/
theorem col : ∀ t : Fin cfg0.N, (grid0.coords t 1).val = t.val % 24 :=
  (by decide +kernel : ∀ t : Fin grid0.N, _)

/-- The product's block. -/
abbrev acc (c : Dev nD) (t : Fin cfg0.N) : Vec Ideal S1024x1024 .f32 := k0_pay2 k0_pay1 (iblk m c 0 t) (iblk m c 1 t)

theorem acc_at (c : Dev nD) (t : Fin cfg0.N) (j : S1024x1024.Idx) (r : Fin 4096) (q : Fin 24576) (hr : r.val = t.val / 24 * 1024 + (j 0).val)
    (hq : q.val = t.val % 24 * 1024 + (j 1).val) : acc m c t j = prod (V m c main_arg0) (V m c main_arg1) r q := by
  unfold prod
  show k0_pay2 k0_pay1 (iblk m c 0 t) (iblk m c 1 t) j = _
  rw [stepped, zeroed, zero_add]
  refine Fin.sum_fin_congr fun k => ?_
  congr 1
  · blk_point [iblk, V, idx t]
  · blk_point [iblk, V, idx t]

/-- The tables' blocks. -/
theorem block_c (c : Dev nD) (t : Fin cfg0.N) (j : S1024x128.Idx) (p : Fin 2048) (l : Fin 128) (hp : p.val = t.val / 24 % 2 * 1024 + (j 0).val)
    (hl : l.val = (j 1).val) : iblk m c 2 t j = joined cosT cosT one96 (ix2 p l) := by
  have key : ∀ A : FVec Ideal S2048x128 .f32, ((cfg0.win 2).blk t).view.read (Elt Ideal) A j = A (ix2 p l) := by
    intro A
    blk_ext [idx t]
  exact (key _).trans (congrFun (host_c m c) _)

theorem block_u (c : Dev nD) (t : Fin cfg0.N) (j : S1024x128.Idx) (p : Fin 2048) (l : Fin 128) (hp : p.val = t.val / 24 % 2 * 1024 + (j 0).val)
    (hl : l.val = (j 1).val) : iblk m c 3 t j = joined (Host.negf sin1) zero16 zero96 (ix2 p l) := by
  have key : ∀ A : FVec Ideal S2048x128 .f32, ((cfg0.win 3).blk t).view.read (Elt Ideal) A j = A (ix2 p l) := by
    intro A
    blk_ext [idx t]
  exact (key _).trans (congrFun (host_u m c) _)

theorem block_d (c : Dev nD) (t : Fin cfg0.N) (j : S1024x128.Idx) (p : Fin 2048) (l : Fin 128) (hp : p.val = t.val / 24 % 2 * 1024 + (j 0).val)
    (hl : l.val = (j 1).val) : iblk m c 4 t j = joined zero16 sin1 zero96 (ix2 p l) := by
  have key : ∀ A : FVec Ideal S2048x128 .f32, ((cfg0.win 4).blk t).view.read (Elt Ideal) A j = A (ix2 p l) := by
    intro A
    blk_ext [idx t]
  exact (key _).trans (congrFun (host_d m c) _)

/-- A load after a store of the whole buffer reads what was stored. -/
theorem reads {S : Shape} {e : EltTy} {κ : Kind} {sp : Space} (v : View sig κ sp S e) {off : Fin S.rank → ℕ} (h : off = fun _ => 0)
    (inb : ∀ a, off a + S.size a ≤ S.size a) (w : S.Idx → Elt Ideal e) (L : List (View.Piece (Elt Ideal) S e)) (B : LoadRect S) (j : B.shape.Idx) :
    v.readCov ((⟨Rect.unit off S.size inb, w⟩ : View.Piece (Elt Ideal) S e) :: L) B j = w (B.idx j) := by
  rw [View.readCov_eq_canon', View.canon_cons_unit_zero h]

/-- The lanes that the kernel loads of the product's block. -/
abbrev lanes {κ : Kind} {sp : Space} (v : View sig κ sp S1024x1024 .f32) (P Z : Vec Ideal S1024x1024 .f32) (o : ℕ) (inb : ∀ a : Fin S1024x1024.rank, (![0, o] : Fin 2 → ℕ) a + (![1024, 128] : Fin 2 → ℕ) a ≤ S1024x1024.size a) :
    Vec Ideal S1024x128 .f32 :=
  v.readCov (Val := Elt Ideal) [⟨Rect.unit (s := S1024x1024) ![0, 0] ![1024, 1024] inb_S1024x1024_S1024x1024_0_0, P⟩,
    ⟨Rect.unit (s := S1024x1024) ![0, 0] ![1024, 1024] inb_S1024x1024_S1024x1024_0_0, Z⟩] (Rect.unit (s := S1024x1024) ![0, o] ![1024, 128] inb).toLoadRect

theorem loaded {κ : Kind} {sp : Space} (v : View sig κ sp S1024x1024 .f32) (P Z : Vec Ideal S1024x1024 .f32) (o : ℕ) (inb : ∀ a : Fin S1024x1024.rank, (![0, o] : Fin 2 → ℕ) a + (![1024, 128] : Fin 2 → ℕ) a ≤ S1024x1024.size a)
    (j : S1024x128.Idx) (q : Fin 1024) (hq : q.val = o + (j 1).val) : lanes v P Z o inb j = P (ix2 (j 0) q) := by
  have z : (![0, 0] : Fin 2 → ℕ) = fun _ => 0 := by
    funext a
    fin_cases a <;> rfl
  refine (reads (S := S1024x1024) v z inb_S1024x1024_S1024x1024_0_0 P [⟨Rect.unit (s := S1024x1024) ![0, 0] ![1024, 1024] inb_S1024x1024_S1024x1024_0_0, Z⟩]
    (Rect.unit (s := S1024x1024) ![0, o] ![1024, 128] inb).toLoadRect j).trans (congrArg P (funext fun a => Fin.ext ?_))
  fin_cases a
  · show 0 + 1 * (j 0).val = (j 0).val
    omega
  · show o + 1 * (j 1).val = q.val
    omega

/-- A written head is the reference's. -/
theorem piece (c : Dev nD) (t : Fin cfg0.N) (b : Fin 8) (x : FVec Ideal S1024x128 .f32)
    (hx : ∀ (j : S1024x128.Idx) (q : Fin 1024), q.val = b.val * 128 + (j 1).val → x j = acc m c t (ix2 (j 0) q))
    (j : S1024x128.Idx) (i : S4096x24576.Idx) (h0 : (i 0).val = t.val / 24 * 1024 + (j 0).val)
    (h1 : (i 1).val = t.val % 24 * 1024 + (b.val * 128 + (j 1).val)) :
    head (BitVec.ofNat 32 (grid0.coords t 1).val) (BitVec.ofNat 32 b.val) (k0_pay6 (iblk m c 2 t)) (k0_pay7 (iblk m c 3 t)) (k0_pay8 (iblk m c 4 t)) x j
      = Cert.ProjRefIdeal.Read.val_main_v46 (V m c main_arg0) (V m c main_arg1) i := by
  have bt : t.val < 96 := t.isLt
  have bj0 : (j 0).val < 1024 := (j 0).isLt
  have bj1 : (j 1).val < 128 := (j 1).isLt
  have bb : b.val < 8 := b.isLt
  have bi1 : (i 1).val < 24576 := (i 1).isLt
  have hT := touched_iff ⟨t.val % 24, by omega⟩ b
  have xs : ∀ (k : S1024x128.Idx) (q : Fin 24576), (k 0).val = (j 0).val → q.val = t.val % 24 * 1024 + (b.val * 128 + (k 1).val)
      → x k = prod (V m c main_arg0) (V m c main_arg1) (i 0) q := by
    intro k q hk hq
    have bk : (k 1).val < 128 := (k 1).isLt
    rw [hx k ⟨b.val * 128 + (k 1).val, by omega⟩ rfl]
    exact acc_at m c t _ (i 0) q (by rw [h0]; show _ = _ + (k 0).val; omega) hq
  obtain ⟨p, hp⟩ : ∃ p : Fin 2048, p.val = t.val / 24 % 2 * 1024 + (j 0).val := ⟨⟨_, by omega⟩, rfl⟩
  obtain ⟨w, hw⟩ : ∃ w : Fin 2, w.val = t.val / 48 := ⟨⟨_, by omega⟩, rfl⟩
  obtain ⟨g, hg⟩ : ∃ g : Fin 192, g.val = t.val % 24 * 8 + b.val := ⟨⟨_, by omega⟩, rfl⟩
  obtain ⟨l, hl⟩ : ∃ l : Fin 128, l.val = (j 1).val := ⟨⟨_, bj1⟩, rfl⟩
  have e0 : (i 0).val = w.val * 2048 + p.val := by omega
  have e1 : (i 1).val = g.val * 128 + l.val := by omega
  rw [col]
  by_cases ht : 48 ≤ t.val % 24 * 8 + b.val ∧ t.val % 24 * 8 + b.val < 140
  · rw [if_pos ht] at hT
    have hn : 48 + (g.val - 48) = g.val := by omega
    rw [head_on _ _ _ _ _ x j hT (ix2 (j 0) ⟨((j 1).val + 16) % 128, Nat.mod_lt _ (by decide)⟩)
      (ix2 (j 0) ⟨((j 1).val + 112) % 128, Nat.mod_lt _ (by decide)⟩) rfl rfl rfl rfl, table_c, table_u, table_d,
      block_c m c t j p l hp hl, block_u m c t j p l hp hl, block_d m c t j p l hp hl, xs j (i 1) rfl h1]
    by_cases c1 : (j 1).val < 16
    · rw [joined_low _ _ _ p l ⟨(j 1).val, c1⟩ (by show 0 + (j 1).val = l.val; omega), joined_low _ _ _ p l ⟨(j 1).val, c1⟩ (by show 0 + (j 1).val = l.val; omega),
        joined_low _ _ _ p l ⟨(j 1).val, c1⟩ (by show 0 + (j 1).val = l.val; omega), zero16_at, mul_zero, add_zero,
        xs (ix2 (j 0) ⟨((j 1).val + 16) % 128, Nat.mod_lt _ (by decide)⟩) ⟨(i 1).val + 16, by omega⟩ rfl
          (by show (i 1).val + 16 = t.val % 24 * 1024 + (b.val * 128 + ((j 1).val + 16) % 128); omega),
        Cert.ProjRefIdeal.Turn.low _ _ i w p g l e0 e1 ⟨g.val - 48, by omega⟩ hn ⟨(j 1).val, c1⟩ hl.symm ⟨(i 1).val + 16, by omega⟩ rfl]
      show (_ + _ * (-(sin1 _ : EReal)) : EReal) = _
      rw [sin1_at, mul_neg, sub_eq_add_neg]
    · by_cases c2 : (j 1).val < 32
      · rw [joined_high _ _ _ p l ⟨(j 1).val - 16, by omega⟩ (by show 16 + ((j 1).val - 16) = l.val; omega), joined_high _ _ _ p l ⟨(j 1).val - 16, by omega⟩ (by show 16 + ((j 1).val - 16) = l.val; omega),
          joined_high _ _ _ p l ⟨(j 1).val - 16, by omega⟩ (by show 16 + ((j 1).val - 16) = l.val; omega), zero16_at, mul_zero, add_zero, sin1_at,
          xs (ix2 (j 0) ⟨((j 1).val + 112) % 128, Nat.mod_lt _ (by decide)⟩) ⟨(i 1).val - 16, by omega⟩ rfl
            (by show (i 1).val - 16 = t.val % 24 * 1024 + (b.val * 128 + ((j 1).val + 112) % 128); omega),
          Cert.ProjRefIdeal.Turn.high _ _ i w p g l e0 e1 ⟨g.val - 48, by omega⟩ hn ⟨(j 1).val - 16, by omega⟩ (by show 16 + ((j 1).val - 16) = l.val; omega)
            ⟨(i 1).val - 16, by omega⟩ (by show (i 1).val = (i 1).val - 16 + 16; omega)]
        exact add_comm (_ : EReal) _
      · rw [joined_rest _ _ _ p l ⟨(j 1).val - 32, by omega⟩ (by show 32 + ((j 1).val - 32) = l.val; omega), joined_rest _ _ _ p l ⟨(j 1).val - 32, by omega⟩ (by show 32 + ((j 1).val - 32) = l.val; omega),
          joined_rest _ _ _ p l ⟨(j 1).val - 32, by omega⟩ (by show 32 + ((j 1).val - 32) = l.val; omega), zero96_at, mul_zero, mul_zero, add_zero, add_zero,
          one96_at, mul_one,
          Cert.ProjRefIdeal.Turn.rest _ _ i w p g l e0 e1 ⟨g.val - 48, by omega⟩ hn ⟨(j 1).val - 32, by omega⟩ (by show 32 + ((j 1).val - 32) = l.val; omega)]
  · rw [if_neg ht] at hT
    rw [head_off _ _ _ _ _ x j hT, xs j (i 1) rfl h1, Cert.ProjRefIdeal.Turn.plain _ _ i w p g l e0 e1 (by omega)]

/-- So is a head written from the lanes that the kernel loads. -/
theorem tile (c : Dev nD) (t : Fin cfg0.N) (b : Fin 8) (o : ℕ) (ho : o = b.val * 128)
    (inb : ∀ a : Fin S1024x1024.rank, (![0, o] : Fin 2 → ℕ) a + (![1024, 128] : Fin 2 → ℕ) a ≤ S1024x1024.size a)
    (j : S1024x128.Idx) (i : S4096x24576.Idx) (h0 : (i 0).val = t.val / 24 * 1024 + (j 0).val)
    (h1 : (i 1).val = t.val % 24 * 1024 + (o + (j 1).val)) :
    head (BitVec.ofNat 32 (grid0.coords t 1).val) (BitVec.ofNat 32 b.val) (k0_pay6 (iblk m c 2 t)) (k0_pay7 (iblk m c 3 t)) (k0_pay8 (iblk m c 4 t))
      (lanes (View.whole cc0_scratch0) (acc m c t) (k0_pay1 (F := Ideal)) o inb) j
      = Cert.ProjRefIdeal.Read.val_main_v46 (V m c main_arg0) (V m c main_arg1) i := by
  subst ho
  exact piece m c t b _ (fun j q hq => loaded _ _ _ _ inb j q hq) j i h0 h1

/-- The kernel's result is the reference's. -/
theorem final (c : Dev nD) : (dats m 0 c).arrAt 5 cfg0.N
    = Cert.ProjRefIdeal.Read.val_main_v46 (V m c main_arg0) (V m c main_arg1) := by
  refine (dats m 0 c).arrAt_eq_of_covers 5 _ (by decide +kernel) fun t hf y => ?_
  have bt : t.val < 96 := t.isLt
  obtain ⟨i, hi⟩ : ∃ i : S4096x24576.Idx, ((cfg0.win 5).blk t).view.emb y = i := ⟨_, rfl⟩
  have h0 : (i 0).val = t.val / 24 * 1024 + (y 0).val := by
    rw [← hi]
    blk_simp [idx t]
  have h1 : (i 1).val = t.val % 24 * 1024 + (y 1).val := by
    rw [← hi]
    blk_simp [idx t]
  blk_simp
  rw [after0_5]
  rw [show (((View.whole main_v28).slice (win0_5.rect t)).emb y) = i from hi]
  by_cases h : 6 ≤ t.val % 24 ∧ t.val % 24 ≤ 17
  · rw [outsAt0_B m c t h (by omega)]
    frame_out
    canon_tiles x hx
    · exact (congrFun (store_7 _ _ _ _ _) x).trans (tile m c t 7 896 rfl _ x i (by omega) (by omega))
    · exact (congrFun (store_6 _ _ _ _ _) x).trans (tile m c t 6 768 rfl _ x i (by omega) (by omega))
    · exact (congrFun (store_5 _ _ _ _ _) x).trans (tile m c t 5 640 rfl _ x i (by omega) (by omega))
    · exact (congrFun (store_4 _ _ _ _ _) x).trans (tile m c t 4 512 rfl _ x i (by omega) (by omega))
    · exact (congrFun (store_3 _ _ _ _ _) x).trans (tile m c t 3 384 rfl _ x i (by omega) (by omega))
    · exact (congrFun (store_2 _ _ _ _ _) x).trans (tile m c t 2 256 rfl _ x i (by omega) (by omega))
    · exact (congrFun (store_1 _ _ _ _ _) x).trans (tile m c t 1 128 rfl _ x i (by omega) (by omega))
    · exact (congrFun (store_0 _ _ _ _ _) x).trans (tile m c t 0 0 rfl _ x i (by omega) (by omega))
  · rw [outsAt0_A m c t h h]
    frame_out
    have by0 : (y 0).val < 1024 := (y 0).isLt
    have by1 : (y 1).val < 1024 := (y 1).isLt
    rw [written, Cert.ProjRefIdeal.Turn.plain _ _ i ⟨t.val / 48, by omega⟩ ⟨t.val / 24 % 2 * 1024 + (y 0).val, by omega⟩
      ⟨(i 1).val / 128, by omega⟩ ⟨(i 1).val % 128, by omega⟩ (by show (i 0).val = t.val / 48 * 2048 + (t.val / 24 % 2 * 1024 + (y 0).val); omega)
      (by show (i 1).val = (i 1).val / 128 * 128 + (i 1).val % 128; omega) (by show ¬(48 ≤ (i 1).val / 128 ∧ (i 1).val / 128 < 140); omega)]
    exact acc_at m c t y (i 0) (i 1) h0 h1

end Cert.ProjIdeal.Final
-- ==== Proof.Mm.Claims.lean ====
/- The claims on the products of the layer: the frames of the references, and the equality of the kernels' results
   with theirs. -/
module

public import proofs.«01_k».proof.Defs
public import proofs.«01_k».proof.Proof.Mm.GwMain
public import proofs.«01_k».proof.Proof.Gen.GwMain.Frame
public import proofs.«01_k».proof.Proof.Mm.Dh
public import proofs.«01_k».proof.Proof.Gen.Dh.Frame
public import proofs.«01_k».proof.Proof.Mm.Dup
public import proofs.«01_k».proof.Proof.Gen.Dup.Frame
public import proofs.«01_k».proof.Proof.Mm.GwDown
public import proofs.«01_k».proof.Proof.Gen.GwDown.Frame
public import proofs.«01_k».proof.Proof.Mm.Dhm
public import proofs.«01_k».proof.Proof.Gen.Dhm.Frame
public import proofs.«01_k».proof.Proof.Mm.GwUp
public import proofs.«01_k».proof.Proof.Gen.GwUp.Frame
public import proofs.«01_k».proof.Proof.Mm.Dmerged
public import proofs.«01_k».proof.Proof.Gen.Dmerged.Frame
public import proofs.«01_k».proof.Proof.Mm.GwOut
public import proofs.«01_k».proof.Proof.Gen.GwOut.Frame
public import proofs.«01_k».proof.Proof.Mm.Dya
public import proofs.«01_k».proof.Proof.Gen.Dya.Frame
public import proofs.«01_k».proof.Proof.Mm.GwA
public import proofs.«01_k».proof.Proof.Gen.GwA.Frame
public import proofs.«01_k».proof.Proof.Mm.Dyb
public import proofs.«01_k».proof.Proof.Gen.Dyb.Frame
public import proofs.«01_k».proof.Proof.Mm.GwB
public import proofs.«01_k».proof.Proof.Gen.GwB.Frame
public import proofs.«01_k».proof.Proof.Mm.Up
public import proofs.«01_k».proof.Proof.Gen.Up.Frame
public import proofs.«01_k».proof.Proof.Mm.Down
public import proofs.«01_k».proof.Proof.Gen.Down.Frame
public import proofs.«01_k».proof.Proof.Mm.Out
public import proofs.«01_k».proof.Proof.Gen.Out.Frame
public import proofs.«01_k».proof.Proof.Mm.Pa
public import proofs.«01_k».proof.Proof.Gen.Pa.Frame
public import proofs.«01_k».proof.Proof.Mm.Pb
public import proofs.«01_k».proof.Proof.Gen.Pb.Frame
public import proofs.«01_k».proof.Proof.Mm.Proj
public import proofs.«01_k».proof.Proof.Gen.Proj.Frame
public import Idealize.ShloMosaic.Lib.Claim

@[expose] public section

set_option maxRecDepth 16384

noncomputable section

namespace Cert.Mm

open Idealize.ShloMosaic Idealize.ShloMosaic.TcCoe Idealize.SL.Sem

theorem gwMain_reference : Cert.quiescent_GwMainRefIdeal := fun m g _ =>
  (θ_run Cert.GwMainRefIdeal.defs _ _).mono (fun r h => ⟨fun c => (h c).2, sem_eq_zero_of_no_sems (by decide) r.2⟩)
    (Cert.GwMainRefIdeal.Value.run (F := Ideal) m g)

/-- The gradient of the in-projection's weight. -/
theorem gwMain_algebraic : Cert.algebraic_GwMainIdeal_GwMainRefIdeal := by
  pair_intro
  · refine (θ_run Cert.GwMainIdeal.defs _ _).mono (fun r h c => ?_) (Cert.GwMainIdeal.Value.run_blocks m g)
    exact (h c)
  · run_from Cert.GwMainRefIdeal.Value.run m' g'
    have h := Cert.GwMainIdeal.Final.final m c
    rw [Cert.GwMainIdeal.Gen.V_main_arg0, Cert.GwMainIdeal.Gen.V_main_arg1] at h
    exact h.symm

theorem dh_reference : Cert.quiescent_DhRefIdeal := fun m g _ =>
  (θ_run Cert.DhRefIdeal.defs _ _).mono (fun r h => ⟨fun c => (h c).2, sem_eq_zero_of_no_sems (by decide) r.2⟩)
    (Cert.DhRefIdeal.Value.run (F := Ideal) m g)

/-- The gradient of the normed input of a layer. -/
theorem dh_algebraic : Cert.algebraic_DhIdeal_DhRefIdeal := by
  pair_intro
  · refine (θ_run Cert.DhIdeal.defs _ _).mono (fun r h c => ?_) (Cert.DhIdeal.Value.run_blocks m g)
    exact (h c)
  · run_from Cert.DhRefIdeal.Value.run m' g'
    have h := Cert.DhIdeal.Final.final m c
    rw [Cert.DhIdeal.Gen.V_main_arg0, Cert.DhIdeal.Gen.V_main_arg1, Cert.DhIdeal.Gen.V_main_arg2, Cert.DhIdeal.Gen.V_main_arg3] at h
    exact h.symm

theorem dup_reference : Cert.quiescent_DupRefIdeal := fun m g _ =>
  (θ_run Cert.DupRefIdeal.defs _ _).mono (fun r h => ⟨fun c => (h c).2, sem_eq_zero_of_no_sems (by decide) r.2⟩)
    (Cert.DupRefIdeal.Value.run (F := Ideal) m g)

/-- The gradient of the up-projection's output. -/
theorem dup_algebraic : Cert.algebraic_DupIdeal_DupRefIdeal := by
  pair_intro
  · refine (θ_run Cert.DupIdeal.defs _ _).mono (fun r h c => ?_) (Cert.DupIdeal.Value.run_blocks m g)
    exact (h c)
  · run_from Cert.DupRefIdeal.Value.run m' g'
    have h := Cert.DupIdeal.Final.final m c
    rw [Cert.DupIdeal.Gen.V_main_arg0, Cert.DupIdeal.Gen.V_main_arg1, Cert.DupIdeal.Gen.V_main_arg2] at h
    exact h.symm

theorem gwDown_reference : Cert.quiescent_GwDownRefIdeal := fun m g _ =>
  (θ_run Cert.GwDownRefIdeal.defs _ _).mono (fun r h => ⟨fun c => (h c).2, sem_eq_zero_of_no_sems (by decide) r.2⟩)
    (Cert.GwDownRefIdeal.Value.run (F := Ideal) m g)

/-- The gradient of the down-projection's weight. -/
theorem gwDown_algebraic : Cert.algebraic_GwDownIdeal_GwDownRefIdeal := by
  pair_intro
  · refine (θ_run Cert.GwDownIdeal.defs _ _).mono (fun r h c => ?_) (Cert.GwDownIdeal.Value.run_blocks m g)
    exact (h c)
  · run_from Cert.GwDownRefIdeal.Value.run m' g'
    have h := Cert.GwDownIdeal.Final.final m c
    rw [Cert.GwDownIdeal.Gen.V_main_arg0, Cert.GwDownIdeal.Gen.V_main_arg1] at h
    exact h.symm

theorem dhm_reference : Cert.quiescent_DhmRefIdeal := fun m g _ =>
  (θ_run Cert.DhmRefIdeal.defs _ _).mono (fun r h => ⟨fun c => (h c).2, sem_eq_zero_of_no_sems (by decide) r.2⟩)
    (Cert.DhmRefIdeal.Value.run (F := Ideal) m g)

/-- The gradient of the feed-forward's normed input. -/
theorem dhm_algebraic : Cert.algebraic_DhmIdeal_DhmRefIdeal := by
  pair_intro
  · refine (θ_run Cert.DhmIdeal.defs _ _).mono (fun r h c => ?_) (Cert.DhmIdeal.Value.run_blocks m g)
    exact (h c)
  · run_from Cert.DhmRefIdeal.Value.run m' g'
    have h := Cert.DhmIdeal.Final.final m c
    rw [Cert.DhmIdeal.Gen.V_main_arg0, Cert.DhmIdeal.Gen.V_main_arg1] at h
    exact h.symm

theorem gwUp_reference : Cert.quiescent_GwUpRefIdeal := fun m g _ =>
  (θ_run Cert.GwUpRefIdeal.defs _ _).mono (fun r h => ⟨fun c => (h c).2, sem_eq_zero_of_no_sems (by decide) r.2⟩)
    (Cert.GwUpRefIdeal.Value.run (F := Ideal) m g)

/-- The gradient of the up-projection's weight. -/
theorem gwUp_algebraic : Cert.algebraic_GwUpIdeal_GwUpRefIdeal := by
  pair_intro
  · refine (θ_run Cert.GwUpIdeal.defs _ _).mono (fun r h c => ?_) (Cert.GwUpIdeal.Value.run_blocks m g)
    exact (h c)
  · run_from Cert.GwUpRefIdeal.Value.run m' g'
    have h := Cert.GwUpIdeal.Final.final m c
    rw [Cert.GwUpIdeal.Gen.V_main_arg0, Cert.GwUpIdeal.Gen.V_main_arg1] at h
    exact h.symm

theorem dmerged_reference : Cert.quiescent_DmergedRefIdeal := fun m g _ =>
  (θ_run Cert.DmergedRefIdeal.defs _ _).mono (fun r h => ⟨fun c => (h c).2, sem_eq_zero_of_no_sems (by decide) r.2⟩)
    (Cert.DmergedRefIdeal.Value.run (F := Ideal) m g)

/-- The gradient of the merged branches. -/
theorem dmerged_algebraic : Cert.algebraic_DmergedIdeal_DmergedRefIdeal := by
  pair_intro
  · refine (θ_run Cert.DmergedIdeal.defs _ _).mono (fun r h c => ?_) (Cert.DmergedIdeal.Value.run_blocks m g)
    exact (h c)
  · run_from Cert.DmergedRefIdeal.Value.run m' g'
    have h := Cert.DmergedIdeal.Final.final m c
    rw [Cert.DmergedIdeal.Gen.V_main_arg0, Cert.DmergedIdeal.Gen.V_main_arg1] at h
    exact h.symm

theorem gwOut_reference : Cert.quiescent_GwOutRefIdeal := fun m g _ =>
  (θ_run Cert.GwOutRefIdeal.defs _ _).mono (fun r h => ⟨fun c => (h c).2, sem_eq_zero_of_no_sems (by decide) r.2⟩)
    (Cert.GwOutRefIdeal.Value.run (F := Ideal) m g)

/-- The gradient of the output weight. -/
theorem gwOut_algebraic : Cert.algebraic_GwOutIdeal_GwOutRefIdeal := by
  pair_intro
  · refine (θ_run Cert.GwOutIdeal.defs _ _).mono (fun r h c => ?_) (Cert.GwOutIdeal.Value.run_blocks m g)
    exact (h c)
  · run_from Cert.GwOutRefIdeal.Value.run m' g'
    have h := Cert.GwOutIdeal.Final.final m c
    rw [Cert.GwOutIdeal.Gen.V_main_arg0, Cert.GwOutIdeal.Gen.V_main_arg1] at h
    exact h.symm

theorem dya_reference : Cert.quiescent_DyaRefIdeal := fun m g _ =>
  (θ_run Cert.DyaRefIdeal.defs _ _).mono (fun r h => ⟨fun c => (h c).2, sem_eq_zero_of_no_sems (by decide) r.2⟩)
    (Cert.DyaRefIdeal.Value.run (F := Ideal) m g)

/-- The gradient of a branch's output. -/
theorem dya_algebraic : Cert.algebraic_DyaIdeal_DyaRefIdeal := by
  pair_intro
  · refine (θ_run Cert.DyaIdeal.defs _ _).mono (fun r h c => ?_) (Cert.DyaIdeal.Value.run_blocks m g)
    exact (h c)
  · run_from Cert.DyaRefIdeal.Value.run m' g'
    have h := Cert.DyaIdeal.Final.final m c
    rw [Cert.DyaIdeal.Gen.V_main_arg0, Cert.DyaIdeal.Gen.V_main_arg1] at h
    exact h.symm

theorem gwA_reference : Cert.quiescent_GwARefIdeal := fun m g _ =>
  (θ_run Cert.GwARefIdeal.defs _ _).mono (fun r h => ⟨fun c => (h c).2, sem_eq_zero_of_no_sems (by decide) r.2⟩)
    (Cert.GwARefIdeal.Value.run (F := Ideal) m g)

/-- The gradient of a branch's weight. -/
theorem gwA_algebraic : Cert.algebraic_GwAIdeal_GwARefIdeal := by
  pair_intro
  · refine (θ_run Cert.GwAIdeal.defs _ _).mono (fun r h c => ?_) (Cert.GwAIdeal.Value.run_blocks m g)
    exact (h c)
  · run_from Cert.GwARefIdeal.Value.run m' g'
    have h := Cert.GwAIdeal.Final.final m c
    rw [Cert.GwAIdeal.Gen.V_main_arg0, Cert.GwAIdeal.Gen.V_main_arg1] at h
    exact h.symm

theorem dyb_reference : Cert.quiescent_DybRefIdeal := fun m g _ =>
  (θ_run Cert.DybRefIdeal.defs _ _).mono (fun r h => ⟨fun c => (h c).2, sem_eq_zero_of_no_sems (by decide) r.2⟩)
    (Cert.DybRefIdeal.Value.run (F := Ideal) m g)

/-- The gradient of the dilated branch's output. -/
theorem dyb_algebraic : Cert.algebraic_DybIdeal_DybRefIdeal := by
  pair_intro
  · refine (θ_run Cert.DybIdeal.defs _ _).mono (fun r h c => ?_) (Cert.DybIdeal.Value.run_blocks m g)
    exact (h c)
  · run_from Cert.DybRefIdeal.Value.run m' g'
    have h := Cert.DybIdeal.Final.final m c
    rw [Cert.DybIdeal.Gen.V_main_arg0, Cert.DybIdeal.Gen.V_main_arg1] at h
    exact h.symm

theorem gwB_reference : Cert.quiescent_GwBRefIdeal := fun m g _ =>
  (θ_run Cert.GwBRefIdeal.defs _ _).mono (fun r h => ⟨fun c => (h c).2, sem_eq_zero_of_no_sems (by decide) r.2⟩)
    (Cert.GwBRefIdeal.Value.run (F := Ideal) m g)

/-- The gradient of the dilated branch's weight. -/
theorem gwB_algebraic : Cert.algebraic_GwBIdeal_GwBRefIdeal := by
  pair_intro
  · refine (θ_run Cert.GwBIdeal.defs _ _).mono (fun r h c => ?_) (Cert.GwBIdeal.Value.run_blocks m g)
    exact (h c)
  · run_from Cert.GwBRefIdeal.Value.run m' g'
    have h := Cert.GwBIdeal.Final.final m c
    rw [Cert.GwBIdeal.Gen.V_main_arg0, Cert.GwBIdeal.Gen.V_main_arg1] at h
    exact h.symm

theorem up_reference : Cert.quiescent_UpRefIdeal := fun m g _ =>
  (θ_run Cert.UpRefIdeal.defs _ _).mono (fun r h => ⟨fun c => (h c).2.2, sem_eq_zero_of_no_sems (by decide) r.2⟩)
    (Cert.UpRefIdeal.Value.run (F := Ideal) m g)

/-- The up-projection and its squared rectifier. -/
theorem up_algebraic : Cert.algebraic_UpIdeal_UpRefIdeal := by
  pair_intro
  · refine (θ_run Cert.UpIdeal.defs _ _).mono (fun r h c => ?_) (Cert.UpIdeal.Value.run_blocks m g)
    exact (h c)
  · run_from Cert.UpRefIdeal.Value.run m' g'
    · have h := Cert.UpIdeal.Final.final m c
      simp only [Cert.UpIdeal.Gen.V_main_arg0, Cert.UpIdeal.Gen.V_main_arg1] at h
      exact h.symm
    · have h := Cert.UpIdeal.Final.final_act m c
      simp only [Cert.UpIdeal.Gen.V_main_arg0, Cert.UpIdeal.Gen.V_main_arg1] at h
      exact h.symm

theorem down_reference : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

/-- The down-projection with the residual. -/
theorem down_algebraic : Cert.algebraic_DownIdeal_DownRefIdeal := by
  pair_intro
  · refine (θ_run Cert.DownIdeal.defs _ _).mono (fun r h c => ?_) (Cert.DownIdeal.Value.run_blocks m g)
    exact (h c)
  · run_from Cert.DownRefIdeal.Value.run m' g'
    have h := Cert.DownIdeal.Final.final m c
    rw [Cert.DownIdeal.Gen.V_main_arg0, Cert.DownIdeal.Gen.V_main_arg1, Cert.DownIdeal.Gen.V_main_arg2] at h
    exact h.symm

theorem out_reference : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

/-- The output projection with the residual. -/
theorem out_algebraic : Cert.algebraic_OutIdeal_OutRefIdeal := by
  pair_intro
  · refine (θ_run Cert.OutIdeal.defs _ _).mono (fun r h c => ?_) (Cert.OutIdeal.Value.run_blocks m g)
    exact (h c)
  · run_from Cert.OutRefIdeal.Value.run m' g'
    have h := Cert.OutIdeal.Final.final m c
    rw [Cert.OutIdeal.Gen.V_main_arg0, Cert.OutIdeal.Gen.V_main_arg1, Cert.OutIdeal.Gen.V_main_arg2] at h
    exact h.symm

theorem pa_reference : Cert.quiescent_PaRefIdeal := fun m g _ =>
  (θ_run Cert.PaRefIdeal.defs _ _).mono (fun r h => ⟨fun c => (h c).2, sem_eq_zero_of_no_sems (by decide) r.2⟩)
    (Cert.PaRefIdeal.Value.run (F := Ideal) m g)

/-- A branch's projection. -/
theorem pa_algebraic : Cert.algebraic_PaIdeal_PaRefIdeal := by
  pair_intro
  · refine (θ_run Cert.PaIdeal.defs _ _).mono (fun r h c => ?_) (Cert.PaIdeal.Value.run_blocks m g)
    exact (h c)
  · run_from Cert.PaRefIdeal.Value.run m' g'
    have h := Cert.PaIdeal.Final.final m c
    rw [Cert.PaIdeal.Gen.V_main_arg0, Cert.PaIdeal.Gen.V_main_arg1] at h
    exact h.symm

theorem pb_reference : Cert.quiescent_PbRefIdeal := fun m g _ =>
  (θ_run Cert.PbRefIdeal.defs _ _).mono (fun r h => ⟨fun c => (h c).2, sem_eq_zero_of_no_sems (by decide) r.2⟩)
    (Cert.PbRefIdeal.Value.run (F := Ideal) m g)

/-- The dilated branch's projection. -/
theorem pb_algebraic : Cert.algebraic_PbIdeal_PbRefIdeal := by
  pair_intro
  · refine (θ_run Cert.PbIdeal.defs _ _).mono (fun r h c => ?_) (Cert.PbIdeal.Value.run_blocks m g)
    exact (h c)
  · run_from Cert.PbRefIdeal.Value.run m' g'
    have h := Cert.PbIdeal.Final.final m c
    rw [Cert.PbIdeal.Gen.V_main_arg0, Cert.PbIdeal.Gen.V_main_arg1] at h
    exact h.symm

theorem proj_reference : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run (F := Ideal) m g)

/-- The in-projection with the rotary positions. -/
theorem proj_algebraic : Cert.algebraic_ProjIdeal_ProjRefIdeal := by
  pair_intro
  · refine (θ_run Cert.ProjIdeal.defs _ _).mono (fun r h c => ?_) (Cert.ProjIdeal.Value.run_blocks m g)
    exact (h c)
  · run_from Cert.ProjRefIdeal.Value.run m' g'
    have h := Cert.ProjIdeal.Final.final m c
    rw [Cert.ProjIdeal.Gen.V_main_arg0, Cert.ProjIdeal.Gen.V_main_arg1] at h
    refine (Cert.ProjRefIdeal.Read.val_main_v46_eq m' c).trans ?_
    rw [(hagree c).1, (hagree c).2]
    exact h.symm

end Cert.Mm
-- ==== Proof.Adam.Math.lean ====
/- One entry of an AdamW step over the extended reals, and the two constants that correct its moments. -/
module

public import Idealize.ShloMosaic.PureOps.Ideal
public import Idealize.ShloMosaic.Lib.Pointwise

@[expose] public section

noncomputable section

namespace Cert.Adam

open Idealize.ShloMosaic

/-- A literal's value. -/
abbrev lit (b : BitVec 32) : EReal := Ideal.ofBits .f32 b

/-- The new first moment of an entry. -/
abbrev first (m g : EReal) : EReal := lit 0x3F666666#32 * m + lit 0x3DCCCCCD#32 * g

/-- The new second moment of an entry. -/
abbrev second (v g : EReal) : EReal := lit 0x3F7FBE77#32 * v + lit 0x3A83126F#32 * (g * g)

/-- The change of a weight, from its corrected moments. -/
abbrev change (w a b : EReal) : EReal :=
  lit 0xBA83126F#32 * (Ideal.div a (Ideal.sqrt b + lit 0x322BCC77#32) + lit 0x3C23D70A#32 * w)

theorem lit_first : lit 0x3F26BD02#32 = ((5463681 / 8388608 : ℝ) : EReal) := by
  simp [lit, Ideal.ofBits, Ideal.ieee, -EReal.coe_mul]; norm_num

theorem lit_second : lit 0x3C231ACC#32 = ((2672307 / 268435456 : ℝ) : EReal) := by
  simp [lit, Ideal.ofBits, Ideal.ieee, -EReal.coe_mul]; norm_num

/-- Multiplying by the first constant divides by the reference's literal. -/
theorem first_corrected (x : EReal) : x * ((8388608 / 5463681 : ℝ) : EReal) = Ideal.div x (lit 0x3F26BD02#32) := by
  rw [lit_first, Ideal.div_coe (by norm_num)]
  norm_num

/-- Multiplying by the second constant divides by the reference's literal. -/
theorem second_corrected (x : EReal) : x * ((268435456 / 2672307 : ℝ) : EReal) = Ideal.div x (lit 0x3C231ACC#32) := by
  rw [lit_second, Ideal.div_coe (by norm_num)]
  norm_num

end Cert.Adam

end
-- ==== Proof.Adam.AdamUp.lean ====
/- The optimiser's step on the feed-forward weights: block by block it is the reference's, entry by entry. -/
module

public import proofs.«01_k».proof.Proof.Adam.Math
public import proofs.«01_k».proof.Proof.Gen.AdamUpIdeal.Value
public import proofs.«01_k».proof.Proof.Gen.AdamUpRefIdeal.Run
public import proofs.«01_k».proof.Proof.Gen.AdamUpRefIdeal.Read
public import Idealize.ShloMosaic.Lib.Pipeline.ValueKit
public import Idealize.ShloMosaic.Lib.Pointwise

@[expose] public section

set_option maxRecDepth 16384

noncomputable section

namespace Cert.AdamUpIdeal.Final

open Cert.AdamUpIdeal Cert.AdamUpIdeal.Gen Cert.Adam Idealize.ShloMosaic Idealize.ShloMosaic.TcCoe Idealize.SL.Sem
open Idealize.ShloMosaic.Pipeline (Dat)

/-- The block's new first moment. -/
theorem first_block (m g : Vec Ideal S1x256x2048 .f32) (j : S1x256x2048.Idx) : k0_pay5 g m j = first (m j) (g j) := by
  pointwise [k0_pay5, k0_pay3, k0_pay2]

/-- The block's new second moment. -/
theorem second_block (v g : Vec Ideal S1x256x2048 .f32) (j : S1x256x2048.Idx) : k0_pay6 g v j = second (v j) (g j) := by
  pointwise [k0_pay6, k0_pay4, k0_pay2]

/-- The block's change of the weights. -/
theorem change_block (w g m v : Vec Ideal S1x256x2048 .f32) (j : S1x256x2048.Idx) :
    k0_pay1 (k0_pay7 g m v) w j = change (w j) (first (m j) (g j) * ((8388608 / 5463681 : ℝ) : EReal))
      (second (v j) (g j) * ((268435456 / 2672307 : ℝ) : EReal)) := by
  pointwise [k0_pay1, k0_pay7, k0_pay4, k0_pay3, k0_pay2]
  rfl

variable (W G M U : (⟨S2x2048x2048, .f32⟩ : BufTy).Contents (Elt Ideal)) (i : S2x2048x2048.Idx)

/-- The reference's new first moment, entry by entry. -/
theorem first_at : Cert.AdamUpRefIdeal.Read.val_main_v4 G M i = first (M i) (G i) := rfl

/-- The reference's new second moment, entry by entry. -/
theorem second_at : Cert.AdamUpRefIdeal.Read.val_main_v10 G U i = second (U i) (G i) := rfl

/-- The reference's change of the weights, entry by entry. -/
theorem change_at : Cert.AdamUpRefIdeal.Read.val_main_v23 W G M U i = change (W i)
    (Ideal.div (first (M i) (G i)) (lit 0x3F26BD02#32)) (Ideal.div (second (U i) (G i)) (lit 0x3C231ACC#32)) := rfl

variable (m : (ℓ : Loc nD τ sig) → Buf (Elt Ideal) ℓ)

/-- The change of the weights is the reference's. -/
theorem final (c : Dev nD) : (dats m 0 c).arrAt 4 cfg0.N
    = Cert.AdamUpRefIdeal.Read.val_main_v23 (V m c main_arg0) (V m c main_arg1) (V m c main_arg2) (V m c main_arg3) := by
  refine (dats m 0 c).arrAt_eq_of_covers 4 _ (by decide +kernel) fun t hf y => ?_
  blk_simp
  rw [after0_4]
  frame_out
  rw [change_block, change_at, first_corrected, second_corrected]
  rfl

/-- The new first moment is the reference's. -/
theorem final_first (c : Dev nD) : (dats m 0 c).arrAt 5 cfg0.N
    = Cert.AdamUpRefIdeal.Read.val_main_v4 (V m c main_arg1) (V m c main_arg2) := by
  refine (dats m 0 c).arrAt_eq_of_covers 5 _ (by decide +kernel) fun t hf y => ?_
  blk_simp
  rw [after0_5]
  frame_out
  rw [first_block, first_at]
  rfl

/-- The new second moment is the reference's. -/
theorem final_second (c : Dev nD) : (dats m 0 c).arrAt 6 cfg0.N
    = Cert.AdamUpRefIdeal.Read.val_main_v10 (V m c main_arg1) (V m c main_arg3) := by
  refine (dats m 0 c).arrAt_eq_of_covers 6 _ (by decide +kernel) fun t hf y => ?_
  blk_simp
  rw [after0_6]
  frame_out
  rw [second_block, second_at]
  rfl

end Cert.AdamUpIdeal.Final
-- ==== Proof.Adam.AdamA.lean ====
/- The optimiser's step on the weights of two branches and on the output weight: block by block it is the reference's, entry by entry. -/
module

public import proofs.«01_k».proof.Proof.Adam.Math
public import proofs.«01_k».proof.Proof.Gen.AdamAIdeal.Value
public import proofs.«01_k».proof.Proof.Gen.AdamARefIdeal.Run
public import proofs.«01_k».proof.Proof.Gen.AdamARefIdeal.Read
public import Idealize.ShloMosaic.Lib.Pipeline.ValueKit
public import Idealize.ShloMosaic.Lib.Pointwise

@[expose] public section

set_option maxRecDepth 16384

noncomputable section

namespace Cert.AdamAIdeal.Final

open Cert.AdamAIdeal Cert.AdamAIdeal.Gen Cert.Adam Idealize.ShloMosaic Idealize.ShloMosaic.TcCoe Idealize.SL.Sem
open Idealize.ShloMosaic.Pipeline (Dat)

/-- The block's new first moment. -/
theorem first_block (m g : Vec Ideal S1x256x2048 .f32) (j : S1x256x2048.Idx) : k0_pay5 g m j = first (m j) (g j) := by
  pointwise [k0_pay5, k0_pay3, k0_pay2]

/-- The block's new second moment. -/
theorem second_block (v g : Vec Ideal S1x256x2048 .f32) (j : S1x256x2048.Idx) : k0_pay6 g v j = second (v j) (g j) := by
  pointwise [k0_pay6, k0_pay4, k0_pay2]

/-- The block's change of the weights. -/
theorem change_block (w g m v : Vec Ideal S1x256x2048 .f32) (j : S1x256x2048.Idx) :
    k0_pay1 (k0_pay7 g m v) w j = change (w j) (first (m j) (g j) * ((8388608 / 5463681 : ℝ) : EReal))
      (second (v j) (g j) * ((268435456 / 2672307 : ℝ) : EReal)) := by
  pointwise [k0_pay1, k0_pay7, k0_pay4, k0_pay3, k0_pay2]
  rfl

variable (W G M U : (⟨S2x512x2048, .f32⟩ : BufTy).Contents (Elt Ideal)) (i : S2x512x2048.Idx)

/-- The reference's new first moment, entry by entry. -/
theorem first_at : Cert.AdamARefIdeal.Read.val_main_v4 G M i = first (M i) (G i) := rfl

/-- The reference's new second moment, entry by entry. -/
theorem second_at : Cert.AdamARefIdeal.Read.val_main_v10 G U i = second (U i) (G i) := rfl

/-- The reference's change of the weights, entry by entry. -/
theorem change_at : Cert.AdamARefIdeal.Read.val_main_v23 W G M U i = change (W i)
    (Ideal.div (first (M i) (G i)) (lit 0x3F26BD02#32)) (Ideal.div (second (U i) (G i)) (lit 0x3C231ACC#32)) := rfl

variable (m : (ℓ : Loc nD τ sig) → Buf (Elt Ideal) ℓ)

/-- The change of the weights is the reference's. -/
theorem final (c : Dev nD) : (dats m 0 c).arrAt 4 cfg0.N
    = Cert.AdamARefIdeal.Read.val_main_v23 (V m c main_arg0) (V m c main_arg1) (V m c main_arg2) (V m c main_arg3) := by
  refine (dats m 0 c).arrAt_eq_of_covers 4 _ (by decide +kernel) fun t hf y => ?_
  blk_simp
  rw [after0_4]
  frame_out
  rw [change_block, change_at, first_corrected, second_corrected]
  rfl

/-- The new first moment is the reference's. -/
theorem final_first (c : Dev nD) : (dats m 0 c).arrAt 5 cfg0.N
    = Cert.AdamARefIdeal.Read.val_main_v4 (V m c main_arg1) (V m c main_arg2) := by
  refine (dats m 0 c).arrAt_eq_of_covers 5 _ (by decide +kernel) fun t hf y => ?_
  blk_simp
  rw [after0_5]
  frame_out
  rw [first_block, first_at]
  rfl

/-- The new second moment is the reference's. -/
theorem final_second (c : Dev nD) : (dats m 0 c).arrAt 6 cfg0.N
    = Cert.AdamARefIdeal.Read.val_main_v10 (V m c main_arg1) (V m c main_arg3) := by
  refine (dats m 0 c).arrAt_eq_of_covers 6 _ (by decide +kernel) fun t hf y => ?_
  blk_simp
  rw [after0_6]
  frame_out
  rw [second_block, second_at]
  rfl

end Cert.AdamAIdeal.Final
-- ==== Proof.Adam.AdamB.lean ====
/- The optimiser's step on the dilated branch's weight: block by block it is the reference's, entry by entry. -/
module

public import proofs.«01_k».proof.Proof.Adam.Math
public import proofs.«01_k».proof.Proof.Gen.AdamBIdeal.Value
public import proofs.«01_k».proof.Proof.Gen.AdamBRefIdeal.Run
public import proofs.«01_k».proof.Proof.Gen.AdamBRefIdeal.Read
public import Idealize.ShloMosaic.Lib.Pipeline.ValueKit
public import Idealize.ShloMosaic.Lib.Pointwise

@[expose] public section

set_option maxRecDepth 16384

noncomputable section

namespace Cert.AdamBIdeal.Final

open Cert.AdamBIdeal Cert.AdamBIdeal.Gen Cert.Adam Idealize.ShloMosaic Idealize.ShloMosaic.TcCoe Idealize.SL.Sem
open Idealize.ShloMosaic.Pipeline (Dat)

/-- The block's new first moment. -/
theorem first_block (m g : Vec Ideal S1x256x512 .f32) (j : S1x256x512.Idx) : k0_pay5 g m j = first (m j) (g j) := by
  pointwise [k0_pay5, k0_pay3, k0_pay2]

/-- The block's new second moment. -/
theorem second_block (v g : Vec Ideal S1x256x512 .f32) (j : S1x256x512.Idx) : k0_pay6 g v j = second (v j) (g j) := by
  pointwise [k0_pay6, k0_pay4, k0_pay2]

/-- The block's change of the weights. -/
theorem change_block (w g m v : Vec Ideal S1x256x512 .f32) (j : S1x256x512.Idx) :
    k0_pay1 (k0_pay7 g m v) w j = change (w j) (first (m j) (g j) * ((8388608 / 5463681 : ℝ) : EReal))
      (second (v j) (g j) * ((268435456 / 2672307 : ℝ) : EReal)) := by
  pointwise [k0_pay1, k0_pay7, k0_pay4, k0_pay3, k0_pay2]
  rfl

variable (W G M U : (⟨S2x1024x512, .f32⟩ : BufTy).Contents (Elt Ideal)) (i : S2x1024x512.Idx)

/-- The reference's new first moment, entry by entry. -/
theorem first_at : Cert.AdamBRefIdeal.Read.val_main_v4 G M i = first (M i) (G i) := rfl

/-- The reference's new second moment, entry by entry. -/
theorem second_at : Cert.AdamBRefIdeal.Read.val_main_v10 G U i = second (U i) (G i) := rfl

/-- The reference's change of the weights, entry by entry. -/
theorem change_at : Cert.AdamBRefIdeal.Read.val_main_v23 W G M U i = change (W i)
    (Ideal.div (first (M i) (G i)) (lit 0x3F26BD02#32)) (Ideal.div (second (U i) (G i)) (lit 0x3C231ACC#32)) := rfl

variable (m : (ℓ : Loc nD τ sig) → Buf (Elt Ideal) ℓ)

/-- The change of the weights is the reference's. -/
theorem final (c : Dev nD) : (dats m 0 c).arrAt 4 cfg0.N
    = Cert.AdamBRefIdeal.Read.val_main_v23 (V m c main_arg0) (V m c main_arg1) (V m c main_arg2) (V m c main_arg3) := by
  refine (dats m 0 c).arrAt_eq_of_covers 4 _ (by decide +kernel) fun t hf y => ?_
  blk_simp
  rw [after0_4]
  frame_out
  rw [change_block, change_at, first_corrected, second_corrected]
  rfl

/-- The new first moment is the reference's. -/
theorem final_first (c : Dev nD) : (dats m 0 c).arrAt 5 cfg0.N
    = Cert.AdamBRefIdeal.Read.val_main_v4 (V m c main_arg1) (V m c main_arg2) := by
  refine (dats m 0 c).arrAt_eq_of_covers 5 _ (by decide +kernel) fun t hf y => ?_
  blk_simp
  rw [after0_5]
  frame_out
  rw [first_block, first_at]
  rfl

/-- The new second moment is the reference's. -/
theorem final_second (c : Dev nD) : (dats m 0 c).arrAt 6 cfg0.N
    = Cert.AdamBRefIdeal.Read.val_main_v10 (V m c main_arg1) (V m c main_arg3) := by
  refine (dats m 0 c).arrAt_eq_of_covers 6 _ (by decide +kernel) fun t hf y => ?_
  blk_simp
  rw [after0_6]
  frame_out
  rw [second_block, second_at]
  rfl

end Cert.AdamBIdeal.Final
-- ==== Proof.Adam.AdamIn.lean ====
/- The optimiser's step on the in-projection's weight, which it holds transposed: block by block it is the reference's, entry by entry. -/
module

public import proofs.«01_k».proof.Proof.Adam.Math
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pipeline.ValueKit
public import Idealize.ShloMosaic.Lib.Pointwise

@[expose] public section

set_option maxRecDepth 16384

noncomputable section

namespace Cert.AdamInIdeal.Final

open Cert.AdamInIdeal Cert.AdamInIdeal.Gen Cert.Adam Idealize.ShloMosaic Idealize.ShloMosaic.TcCoe Idealize.SL.Sem
open Idealize.ShloMosaic.Pipeline (Dat)

/-- The block's new first moment. -/
theorem first_block (m g : Vec Ideal S1x80x2048 .f32) (j : S1x80x2048.Idx) : k0_pay5 g m j = first (m j) (g j) := by
  pointwise [k0_pay5, k0_pay3, k0_pay2]

/-- The block's new second moment. -/
theorem second_block (v g : Vec Ideal S1x80x2048 .f32) (j : S1x80x2048.Idx) : k0_pay6 g v j = second (v j) (g j) := by
  pointwise [k0_pay6, k0_pay4, k0_pay2]

/-- The block's change of the weights. -/
theorem change_block (w g m v : Vec Ideal S1x80x2048 .f32) (j : S1x80x2048.Idx) :
    k0_pay1 (k0_pay7 g m v) w j = change (w j) (first (m j) (g j) * ((8388608 / 5463681 : ℝ) : EReal))
      (second (v j) (g j) * ((268435456 / 2672307 : ℝ) : EReal)) := by
  pointwise [k0_pay1, k0_pay7, k0_pay4, k0_pay3, k0_pay2]
  rfl

variable (W G M U : (⟨S2x6160x2048, .f32⟩ : BufTy).Contents (Elt Ideal)) (i : S2x6160x2048.Idx)

/-- The reference's new first moment, entry by entry. -/
theorem first_at : Cert.AdamInRefIdeal.Read.val_main_v4 G M i = first (M i) (G i) := rfl

/-- The reference's new second moment, entry by entry. -/
theorem second_at : Cert.AdamInRefIdeal.Read.val_main_v10 G U i = second (U i) (G i) := rfl

/-- The reference's change of the weights, entry by entry. -/
theorem change_at : Cert.AdamInRefIdeal.Read.val_main_v23 W G M U i = change (W i)
    (Ideal.div (first (M i) (G i)) (lit 0x3F26BD02#32)) (Ideal.div (second (U i) (G i)) (lit 0x3C231ACC#32)) := rfl

variable (m : (ℓ : Loc nD τ sig) → Buf (Elt Ideal) ℓ)

/-- The change of the weights is the reference's. -/
theorem final (c : Dev nD) : (dats m 0 c).arrAt 4 cfg0.N
    = Cert.AdamInRefIdeal.Read.val_main_v23 (V m c main_arg0) (V m c main_arg1) (V m c main_arg2) (V m c main_arg3) := by
  refine (dats m 0 c).arrAt_eq_of_covers 4 _ (by decide +kernel) fun t hf y => ?_
  blk_simp
  rw [after0_4]
  frame_out
  rw [change_block, change_at, first_corrected, second_corrected]
  rfl

/-- The new first moment is the reference's. -/
theorem final_first (c : Dev nD) : (dats m 0 c).arrAt 5 cfg0.N
    = Cert.AdamInRefIdeal.Read.val_main_v4 (V m c main_arg1) (V m c main_arg2) := by
  refine (dats m 0 c).arrAt_eq_of_covers 5 _ (by decide +kernel) fun t hf y => ?_
  blk_simp
  rw [after0_5]
  frame_out
  rw [first_block, first_at]
  rfl

/-- The new second moment is the reference's. -/
theorem final_second (c : Dev nD) : (dats m 0 c).arrAt 6 cfg0.N
    = Cert.AdamInRefIdeal.Read.val_main_v10 (V m c main_arg1) (V m c main_arg3) := by
  refine (dats m 0 c).arrAt_eq_of_covers 6 _ (by decide +kernel) fun t hf y => ?_
  blk_simp
  rw [after0_6]
  frame_out
  rw [second_block, second_at]
  rfl

end Cert.AdamInIdeal.Final
-- ==== Proof.Adam.AdamSmall.lean ====
/- The optimiser's step on the small weights, which it holds packed in one array: block by block it is the reference's, entry by entry. -/
module

public import proofs.«01_k».proof.Proof.Adam.Math
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Pointwise

@[expose] public section

set_option maxRecDepth 16384

noncomputable section

namespace Cert.AdamSmallIdeal.Final

open Cert.AdamSmallIdeal Cert.AdamSmallIdeal.Gen Cert.Adam Idealize.ShloMosaic Idealize.ShloMosaic.TcCoe Idealize.SL.Sem
open Idealize.ShloMosaic.Pipeline (Dat)

/-- The block's new first moment. -/
theorem first_block (m g : Vec Ideal S1x8x128 .f32) (j : S1x8x128.Idx) : k0_pay5 g m j = first (m j) (g j) := by
  pointwise [k0_pay5, k0_pay3, k0_pay2]

/-- The block's new second moment. -/
theorem second_block (v g : Vec Ideal S1x8x128 .f32) (j : S1x8x128.Idx) : k0_pay6 g v j = second (v j) (g j) := by
  pointwise [k0_pay6, k0_pay4, k0_pay2]

/-- The block's change of the weights. -/
theorem change_block (w g m v : Vec Ideal S1x8x128 .f32) (j : S1x8x128.Idx) :
    k0_pay1 (k0_pay7 g m v) w j = change (w j) (first (m j) (g j) * ((8388608 / 5463681 : ℝ) : EReal))
      (second (v j) (g j) * ((268435456 / 2672307 : ℝ) : EReal)) := by
  pointwise [k0_pay1, k0_pay7, k0_pay4, k0_pay3, k0_pay2]
  rfl

variable (W G M U : (⟨S1x264x128, .f32⟩ : BufTy).Contents (Elt Ideal)) (i : S1x264x128.Idx)

/-- The reference's new first moment, entry by entry. -/
theorem first_at : Cert.AdamSmallRefIdeal.Read.val_main_v4 G M i = first (M i) (G i) := rfl

/-- The reference's new second moment, entry by entry. -/
theorem second_at : Cert.AdamSmallRefIdeal.Read.val_main_v10 G U i = second (U i) (G i) := rfl

/-- The reference's change of the weights, entry by entry. -/
theorem change_at : Cert.AdamSmallRefIdeal.Read.val_main_v23 W G M U i = change (W i)
    (Ideal.div (first (M i) (G i)) (lit 0x3F26BD02#32)) (Ideal.div (second (U i) (G i)) (lit 0x3C231ACC#32)) := rfl

variable (m : (ℓ : Loc nD τ sig) → Buf (Elt Ideal) ℓ)

/-- The change of the weights is the reference's. -/
theorem final (c : Dev nD) : (dats m 0 c).arrAt 4 cfg0.N
    = Cert.AdamSmallRefIdeal.Read.val_main_v23 (V m c main_arg0) (V m c main_arg1) (V m c main_arg2) (V m c main_arg3) := by
  refine (dats m 0 c).arrAt_eq_of_covers 4 _ (by decide +kernel) fun t hf y => ?_
  blk_simp
  rw [after0_4]
  frame_out
  rw [change_block, change_at, first_corrected, second_corrected]
  rfl

/-- The new first moment is the reference's. -/
theorem final_first (c : Dev nD) : (dats m 0 c).arrAt 5 cfg0.N
    = Cert.AdamSmallRefIdeal.Read.val_main_v4 (V m c main_arg1) (V m c main_arg2) := by
  refine (dats m 0 c).arrAt_eq_of_covers 5 _ (by decide +kernel) fun t hf y => ?_
  blk_simp
  rw [after0_5]
  frame_out
  rw [first_block, first_at]
  rfl

/-- The new second moment is the reference's. -/
theorem final_second (c : Dev nD) : (dats m 0 c).arrAt 6 cfg0.N
    = Cert.AdamSmallRefIdeal.Read.val_main_v10 (V m c main_arg1) (V m c main_arg3) := by
  refine (dats m 0 c).arrAt_eq_of_covers 6 _ (by decide +kernel) fun t hf y => ?_
  blk_simp
  rw [after0_6]
  frame_out
  rw [second_block, second_at]
  rfl

end Cert.AdamSmallIdeal.Final
-- ==== Proof.Adam.Claims.lean ====
/- The claims on the optimiser: the frames of the references, and the equality of the kernels' results
   with theirs. -/
module

public import proofs.«01_k».proof.Defs
public import proofs.«01_k».proof.Proof.Adam.AdamUp
public import proofs.«01_k».proof.Proof.Gen.AdamUp.Frame
public import proofs.«01_k».proof.Proof.Adam.AdamA
public import proofs.«01_k».proof.Proof.Gen.AdamA.Frame
public import proofs.«01_k».proof.Proof.Adam.AdamB
public import proofs.«01_k».proof.Proof.Gen.AdamB.Frame
public import proofs.«01_k».proof.Proof.Adam.AdamIn
public import proofs.«01_k».proof.Proof.Gen.AdamIn.Frame
public import proofs.«01_k».proof.Proof.Adam.AdamSmall
public import proofs.«01_k».proof.Proof.Gen.AdamSmall.Frame
public import Idealize.ShloMosaic.Lib.Claim

@[expose] public section

set_option maxRecDepth 16384

noncomputable section

namespace Cert.Adam

open Idealize.ShloMosaic Idealize.ShloMosaic.TcCoe Idealize.SL.Sem

theorem adamUp_reference : Cert.quiescent_AdamUpRefIdeal := fun m g _ =>
  (θ_run Cert.AdamUpRefIdeal.defs _ _).mono (fun r h => ⟨fun c => (h c).2.2.2, sem_eq_zero_of_no_sems (by decide) r.2⟩)
    (Cert.AdamUpRefIdeal.Value.run (F := Ideal) m g)

/-- The optimiser's step on the feed-forward weights. -/
theorem adamUp_algebraic : Cert.algebraic_AdamUpIdeal_AdamUpRefIdeal := by
  pair_intro
  · refine (θ_run Cert.AdamUpIdeal.defs _ _).mono (fun r h c => ?_) (Cert.AdamUpIdeal.Value.run_blocks m g)
    exact (h c)
  · run_from Cert.AdamUpRefIdeal.Value.run m' g'
    · have h := Cert.AdamUpIdeal.Final.final m c
      simp only [Cert.AdamUpIdeal.Gen.V_main_arg0, Cert.AdamUpIdeal.Gen.V_main_arg1, Cert.AdamUpIdeal.Gen.V_main_arg2, Cert.AdamUpIdeal.Gen.V_main_arg3] at h
      exact h.symm
    · have h := Cert.AdamUpIdeal.Final.final_first m c
      simp only [Cert.AdamUpIdeal.Gen.V_main_arg0, Cert.AdamUpIdeal.Gen.V_main_arg1, Cert.AdamUpIdeal.Gen.V_main_arg2, Cert.AdamUpIdeal.Gen.V_main_arg3] at h
      exact h.symm
    · have h := Cert.AdamUpIdeal.Final.final_second m c
      simp only [Cert.AdamUpIdeal.Gen.V_main_arg0, Cert.AdamUpIdeal.Gen.V_main_arg1, Cert.AdamUpIdeal.Gen.V_main_arg2, Cert.AdamUpIdeal.Gen.V_main_arg3] at h
      exact h.symm

theorem adamA_reference : Cert.quiescent_AdamARefIdeal := fun m g _ =>
  (θ_run Cert.AdamARefIdeal.defs _ _).mono (fun r h => ⟨fun c => (h c).2.2.2, sem_eq_zero_of_no_sems (by decide) r.2⟩)
    (Cert.AdamARefIdeal.Value.run (F := Ideal) m g)

/-- The optimiser's step on the weights of two branches and on the output weight. -/
theorem adamA_algebraic : Cert.algebraic_AdamAIdeal_AdamARefIdeal := by
  pair_intro
  · refine (θ_run Cert.AdamAIdeal.defs _ _).mono (fun r h c => ?_) (Cert.AdamAIdeal.Value.run_blocks m g)
    exact (h c)
  · run_from Cert.AdamARefIdeal.Value.run m' g'
    · have h := Cert.AdamAIdeal.Final.final m c
      simp only [Cert.AdamAIdeal.Gen.V_main_arg0, Cert.AdamAIdeal.Gen.V_main_arg1, Cert.AdamAIdeal.Gen.V_main_arg2, Cert.AdamAIdeal.Gen.V_main_arg3] at h
      exact h.symm
    · have h := Cert.AdamAIdeal.Final.final_first m c
      simp only [Cert.AdamAIdeal.Gen.V_main_arg0, Cert.AdamAIdeal.Gen.V_main_arg1, Cert.AdamAIdeal.Gen.V_main_arg2, Cert.AdamAIdeal.Gen.V_main_arg3] at h
      exact h.symm
    · have h := Cert.AdamAIdeal.Final.final_second m c
      simp only [Cert.AdamAIdeal.Gen.V_main_arg0, Cert.AdamAIdeal.Gen.V_main_arg1, Cert.AdamAIdeal.Gen.V_main_arg2, Cert.AdamAIdeal.Gen.V_main_arg3] at h
      exact h.symm

theorem adamB_reference : Cert.quiescent_AdamBRefIdeal := fun m g _ =>
  (θ_run Cert.AdamBRefIdeal.defs _ _).mono (fun r h => ⟨fun c => (h c).2.2.2, sem_eq_zero_of_no_sems (by decide) r.2⟩)
    (Cert.AdamBRefIdeal.Value.run (F := Ideal) m g)

/-- The optimiser's step on the dilated branch's weight. -/
theorem adamB_algebraic : Cert.algebraic_AdamBIdeal_AdamBRefIdeal := by
  pair_intro
  · refine (θ_run Cert.AdamBIdeal.defs _ _).mono (fun r h c => ?_) (Cert.AdamBIdeal.Value.run_blocks m g)
    exact (h c)
  · run_from Cert.AdamBRefIdeal.Value.run m' g'
    · have h := Cert.AdamBIdeal.Final.final m c
      simp only [Cert.AdamBIdeal.Gen.V_main_arg0, Cert.AdamBIdeal.Gen.V_main_arg1, Cert.AdamBIdeal.Gen.V_main_arg2, Cert.AdamBIdeal.Gen.V_main_arg3] at h
      exact h.symm
    · have h := Cert.AdamBIdeal.Final.final_first m c
      simp only [Cert.AdamBIdeal.Gen.V_main_arg0, Cert.AdamBIdeal.Gen.V_main_arg1, Cert.AdamBIdeal.Gen.V_main_arg2, Cert.AdamBIdeal.Gen.V_main_arg3] at h
      exact h.symm
    · have h := Cert.AdamBIdeal.Final.final_second m c
      simp only [Cert.AdamBIdeal.Gen.V_main_arg0, Cert.AdamBIdeal.Gen.V_main_arg1, Cert.AdamBIdeal.Gen.V_main_arg2, Cert.AdamBIdeal.Gen.V_main_arg3] at h
      exact h.symm

theorem adamIn_reference : Cert.quiescent_AdamInRefIdeal := fun m g _ =>
  (θ_run Cert.AdamInRefIdeal.defs _ _).mono (fun r h => ⟨fun c => (h c).2.2.2, sem_eq_zero_of_no_sems (by decide) r.2⟩)
    (Cert.AdamInRefIdeal.Value.run (F := Ideal) m g)

/-- The optimiser's step on the in-projection's weight. -/
theorem adamIn_algebraic : Cert.algebraic_AdamInIdeal_AdamInRefIdeal := by
  pair_intro
  · refine (θ_run Cert.AdamInIdeal.defs _ _).mono (fun r h c => ?_) (Cert.AdamInIdeal.Value.run_blocks m g)
    exact (h c)
  · run_from Cert.AdamInRefIdeal.Value.run m' g'
    · have h := Cert.AdamInIdeal.Final.final m c
      simp only [Cert.AdamInIdeal.Gen.V_main_arg0, Cert.AdamInIdeal.Gen.V_main_arg1, Cert.AdamInIdeal.Gen.V_main_arg2, Cert.AdamInIdeal.Gen.V_main_arg3] at h
      exact h.symm
    · have h := Cert.AdamInIdeal.Final.final_first m c
      simp only [Cert.AdamInIdeal.Gen.V_main_arg0, Cert.AdamInIdeal.Gen.V_main_arg1, Cert.AdamInIdeal.Gen.V_main_arg2, Cert.AdamInIdeal.Gen.V_main_arg3] at h
      exact h.symm
    · have h := Cert.AdamInIdeal.Final.final_second m c
      simp only [Cert.AdamInIdeal.Gen.V_main_arg0, Cert.AdamInIdeal.Gen.V_main_arg1, Cert.AdamInIdeal.Gen.V_main_arg2, Cert.AdamInIdeal.Gen.V_main_arg3] at h
      exact h.symm

theorem adamSmall_reference : Cert.quiescent_AdamSmallRefIdeal := fun m g _ =>
  (θ_run Cert.AdamSmallRefIdeal.defs _ _).mono (fun r h => ⟨fun c => (h c).2.2.2, sem_eq_zero_of_no_sems (by decide) r.2⟩)
    (Cert.AdamSmallRefIdeal.Value.run (F := Ideal) m g)

/-- The optimiser's step on the packed small weights. -/
theorem adamSmall_algebraic : Cert.algebraic_AdamSmallIdeal_AdamSmallRefIdeal := by
  pair_intro
  · refine (θ_run Cert.AdamSmallIdeal.defs _ _).mono (fun r h c => ?_) (Cert.AdamSmallIdeal.Value.run_blocks m g)
    exact (h c)
  · run_from Cert.AdamSmallRefIdeal.Value.run m' g'
    · have h := Cert.AdamSmallIdeal.Final.final m c
      simp only [Cert.AdamSmallIdeal.Gen.V_main_arg0, Cert.AdamSmallIdeal.Gen.V_main_arg1, Cert.AdamSmallIdeal.Gen.V_main_arg2, Cert.AdamSmallIdeal.Gen.V_main_arg3] at h
      exact h.symm
    · have h := Cert.AdamSmallIdeal.Final.final_first m c
      simp only [Cert.AdamSmallIdeal.Gen.V_main_arg0, Cert.AdamSmallIdeal.Gen.V_main_arg1, Cert.AdamSmallIdeal.Gen.V_main_arg2, Cert.AdamSmallIdeal.Gen.V_main_arg3] at h
      exact h.symm
    · have h := Cert.AdamSmallIdeal.Final.final_second m c
      simp only [Cert.AdamSmallIdeal.Gen.V_main_arg0, Cert.AdamSmallIdeal.Gen.V_main_arg1, Cert.AdamSmallIdeal.Gen.V_main_arg2, Cert.AdamSmallIdeal.Gen.V_main_arg3] at h
      exact h.symm

end Cert.Adam
-- ==== Proof.Rows.Norm.lean ====
/- The norm of a row times its gain: the kernel's blocks of 256 rows are the reference's. -/
module

public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit
public import Idealize.ShloMosaic.Lib.Pointwise

@[expose] public section

set_option maxRecDepth 16384

noncomputable section

namespace Cert.NormIdeal.Final

open Cert.NormIdeal Cert.NormIdeal.Gen Idealize.ShloMosaic Idealize.ShloMosaic.TcCoe Idealize.SL.Sem
open Idealize.ShloMosaic.Pipeline (Dat)
open Cert.NormRefIdeal.Read

/-- A literal's value. -/
abbrev lit (b : BitVec 32) : EReal := Ideal.ofBits .f32 b

/-- An entry times the inverse root of its row's mean square, times its gain. -/
def scaled (x s g : EReal) : EReal := x * Ideal.rsqrt (Ideal.div s (lit 0x45000000#32) + lit 0x358637BD#32) * g

/-- The block's entry. -/
theorem block_at (x : Vec Ideal S256x2048 .f32) (g : Vec Ideal S1x2048 .f32) (j : S256x2048.Idx) :
    k0_pay1 x g j = scaled (x j) (∑ k : Fin 2048, (x (ix2 (j 0) k) : EReal) * x (ix2 (j 0) k)) (g (ix2 0 (j 1))) := by
  unfold scaled
  pointwise [k0_pay1]

/-- The reference's entry. -/
theorem ref_at (X : (⟨S4096x2048, .f32⟩ : BufTy).Contents (Elt Ideal)) (G : (⟨S1x2048, .f32⟩ : BufTy).Contents (Elt Ideal)) (i : S4096x2048.Idx) :
    val_main_v14 X G i = scaled (X i) (∑ k : Fin 2048, (X (ix2 (i 0) k) : EReal) * X (ix2 (i 0) k)) (G (ix2 0 (i 1))) := by
  have z : lit 0x00000000#32 = 0 := by simp [lit, Ideal.ofBits, Ideal.ieee]
  rw [val_main_v14_apply, val_main_v13_apply, val_main_v12_apply, val_main_v11_apply, val_main_v10_apply, val_main_v9_apply,
    val_main_v8_apply, val_main_v7_apply, val_main_v6_apply, val_main_v5_apply, val_main_cst_1_apply, val_main_v4_apply,
    val_main_v3_apply, val_main_cst_0_apply, val_main_v2_apply, val_main_v1_apply, val_main_cst_apply]
  show scaled (X i) (lit 0x00000000#32 + ∑ k : Fin 2048, (X (idx_main_v1 (idx_main_v2 (idx_main_v8 i)) k) : EReal) * X (idx_main_v1 (idx_main_v2 (idx_main_v8 i)) k))
    (G (idx_main_v10 (idx_main_v11 (idx_main_v12 i)))) = _
  rw [z, zero_add]
  have e : ∀ k : Fin 2048, idx_main_v1 (idx_main_v2 (idx_main_v8 i)) k = ix2 (i 0) k := fun k =>
    funext fun a => Fin.ext (by match a with | ⟨0, _⟩ => rfl | ⟨1, _⟩ => rfl)
  have g : idx_main_v10 (idx_main_v11 (idx_main_v12 i)) = ix2 0 (i 1) :=
    funext fun a => Fin.ext (by
      have h1 : (i 1).val < 2048 := (i 1).isLt
      match a with
      | ⟨0, _⟩ => simp
      | ⟨1, _⟩ =>
        simp
        exact h1)
  simp only [e, g]
  rfl

/-- The block that each window reads or writes at each point. -/
theorem idx : ∀ t : Fin cfg0.N, win0_0.index t = ![t.val, 0]
    ∧ win0_1.index t = ![0, 0]
    ∧ win0_2.index t = ![t.val, 0] :=
  (by decide +kernel : ∀ t : Fin grid0.N, _)

variable (m : (ℓ : Loc nD τ sig) → Buf (Elt Ideal) ℓ)

/-- The kernel's result is the reference's. -/
theorem final (c : Dev nD) : (dats m 0 c).arrAt 2 cfg0.N
    = val_main_v14 (V m c main_arg0) (V m c main_arg1) := by
  refine (dats m 0 c).arrAt_eq_of_covers 2 _ (by decide +kernel) fun t hf y => ?_
  blk_simp
  rw [after0_2]
  frame_out
  rw [block_at, ref_at]
  congr 1
  · blk_point [iblk, V, idx t]
  · blk_point [iblk, V, idx t]

end Cert.NormIdeal.Final
-- ==== Proof.Rows.Gate.lean ====
/- The three branches merged by their gates: entry by entry the kernel's sum is the reference's. -/
module

public import proofs.«01_k».proof.Proof.Gen.GateIdeal.Value
public import proofs.«01_k».proof.Proof.Gen.GateRefIdeal.Run
public import proofs.«01_k».proof.Proof.Gen.GateRefIdeal.Read
public import Idealize.ShloMosaic.Lib.Pointwise

@[expose] public section

set_option maxRecDepth 16384

noncomputable section

namespace Cert.GateIdeal.Final

open Cert.GateIdeal Cert.GateIdeal.Gen Idealize.ShloMosaic Idealize.ShloMosaic.TcCoe Idealize.SL.Sem
open Cert.GateRefIdeal.Read

/-- A literal's value. -/
abbrev lit (b : BitVec 32) : EReal := Ideal.ofBits .f32 b

/-- The gate of a logit. -/
def gate (x : EReal) : EReal := Ideal.div (lit 0x3F800000#32) (lit 0x3F800000#32 + Ideal.exp (-x))

/-- The kernel subtracts the logit from zero. -/
theorem gate_sub (x : EReal) :
    Ideal.div (lit 0x3F800000#32) (lit 0x3F800000#32 + Ideal.exp (lit 0x00000000#32 - x)) = gate x := by
  have h : lit 0x00000000#32 = 0 := by simp [lit, Ideal.ofBits, Ideal.ieee]
  rw [h, zero_sub, gate]

variable (A B C : (⟨S4096x2048, .f32⟩ : BufTy).Contents (Elt Ideal)) (P : (⟨S4096x24576, .bf16⟩ : BufTy).Contents (Elt Ideal))

/-- The reference's gates, before they are split in three. -/
theorem gates_at (j : Cert.GateRefIdeal.S4096x6144.Idx) : val_main_v7 P j = gate (P (idx_main_v0 j)) := by
  rw [val_main_v7_apply, val_main_v6_apply, val_main_cst_0_apply, val_main_v5_apply, val_main_v4_apply, val_main_cst_apply,
    val_main_v3_apply, val_main_v2_apply, val_main_v1_apply, val_main_v0_apply]
  rfl

/-- The first gate of an entry. -/
theorem gate_a (i : S4096x2048.Idx) : val_main_v10 P i = gate (P (Value.inIdx6_0 i)) := by
  rw [val_main_v10_apply, val_main_v9_apply, val_main_v8_apply, gates_at]
  refine congrArg (fun j => gate (P j)) (funext fun a => Fin.ext ?_)
  have h0 : (i 0).val < 4096 := (i 0).isLt
  have h1 : (i 1).val < 2048 := (i 1).isLt
  match a with
  | ⟨0, _⟩ =>
    simp
    show _ = (i 0).val
    omega
  | ⟨1, _⟩ => simp; omega

/-- The second gate of an entry. -/
theorem gate_b (i : S4096x2048.Idx) : val_main_v13 P i = gate (P (Value.inIdx6_2 i)) := by
  rw [val_main_v13_apply, val_main_v12_apply, val_main_v8_apply, gates_at]
  refine congrArg (fun j => gate (P j)) (funext fun a => Fin.ext ?_)
  have h0 : (i 0).val < 4096 := (i 0).isLt
  have h1 : (i 1).val < 2048 := (i 1).isLt
  match a with
  | ⟨0, _⟩ =>
    simp
    show _ = (i 0).val
    omega
  | ⟨1, _⟩ => simp; omega

/-- The third gate of an entry. -/
theorem gate_c (i : S4096x2048.Idx) : val_main_v17 P i = gate (P (Value.inIdx6_4 i)) := by
  rw [val_main_v17_apply, val_main_v16_apply, val_main_v8_apply, gates_at]
  refine congrArg (fun j => gate (P j)) (funext fun a => Fin.ext ?_)
  have h0 : (i 0).val < 4096 := (i 0).isLt
  have h1 : (i 1).val < 2048 := (i 1).isLt
  match a with
  | ⟨0, _⟩ =>
    simp
    show _ = (i 0).val
    omega
  | ⟨1, _⟩ => simp; omega

variable (m : (ℓ : Loc nD τ sig) → Buf (Elt Ideal) ℓ)

/-- The merged branches are the reference's. -/
theorem final (c : Dev nD) : (dats m 0 c).arrAt 6 cfg0.N
    = val_main_v20 (V m c main_arg0) (V m c main_arg1) (V m c main_arg2) (V m c main_arg3) := by
  rw [V_main_arg0, V_main_arg1, V_main_arg2, V_main_arg3, Value.final6]
  funext i
  rw [val_main_v20_apply, val_main_v19_apply, val_main_v18_apply, val_main_v15_apply, val_main_v14_apply, val_main_v11_apply,
    gate_a, gate_b, gate_c, ← gate_sub, ← gate_sub, ← gate_sub]
  rfl

end Cert.GateIdeal.Final
-- ==== Proof.Rows.Math.lean ====
/- The gradient of a row's norm over the extended reals: the kernel's grouping of its factors is the derivative's. -/
module

public import Idealize.ShloMosaic.PureOps.Ideal
public import Idealize.ShloMosaic.Lib.Pointwise

@[expose] public section

noncomputable section

namespace Cert.Rows

open Idealize.ShloMosaic

/-- A literal's value. -/
abbrev lit (b : BitVec 32) : EReal := Ideal.ofBits .f32 b

theorem lit_zero : lit 0x00000000#32 = 0 := by simp [lit, Ideal.ofBits, Ideal.ieee]

theorem lit_width : lit 0x45000000#32 = ((2048 : ℝ) : EReal) := by
  simp [lit, Ideal.ofBits, Ideal.ieee, -EReal.coe_mul]; norm_num

theorem lit_half : lit 0xBF000000#32 = ((-(1 / 2) : ℝ) : EReal) := by
  simp [lit, Ideal.ofBits, Ideal.ieee, -EReal.coe_mul]; norm_num

theorem lit_eps : ∃ ε : ℝ, 0 < ε ∧ lit 0x358637BD#32 = (ε : EReal) := by
  refine ⟨8796093 / 8796093022208, by norm_num, ?_⟩
  simp [lit, Ideal.ofBits, Ideal.ieee, -EReal.coe_mul]; norm_num

/-- What the inverse root is taken of: the mean of the squares, raised a little above zero. -/
def raised (s : EReal) : EReal := Ideal.div s (lit 0x45000000#32) + lit 0x358637BD#32

theorem square_nonneg (x : EReal) : 0 ≤ x * x := by
  rcases le_total 0 x with h | h
  · exact mul_nonneg h h
  · have h' : 0 ≤ -x := by simpa using EReal.neg_le_neg_iff.mpr h
    simpa using mul_nonneg h' h'

theorem raised_pos {s : EReal} (h : 0 ≤ s) : 0 < raised s := by
  obtain ⟨ε, hε, e⟩ := lit_eps
  rw [raised, e, lit_width, Ideal.div_coe (by norm_num)]
  have h1 : 0 ≤ s * ((1 / 2048 : ℝ) : EReal) := mul_nonneg h (by exact_mod_cast (by norm_num : (0 : ℝ) ≤ 1 / 2048))
  exact lt_of_lt_of_le (by exact_mod_cast hε : (0 : EReal) < (ε : EReal)) (le_add_of_nonneg_left h1)

/-- The inverse root of such a value is a nonnegative real, and its quotient by the value is its cube. -/
theorem root {s : EReal} (h : 0 < s) : ∃ ρ : ℝ, 0 ≤ ρ ∧ Ideal.rsqrt s = (ρ : EReal) ∧ Ideal.div (Ideal.rsqrt s) s = ((ρ * ρ * ρ : ℝ) : EReal) := by
  induction s with
  | bot => simp at h
  | top => exact ⟨0, le_refl _, by simp, by simp [Ideal.div]⟩
  | coe σ =>
    have hσ : 0 < σ := by exact_mod_cast h
    have e : Ideal.rsqrt (σ : EReal) = (((Real.sqrt σ)⁻¹ : ℝ) : EReal) := by
      rw [Ideal.rsqrt_coe, if_neg hσ.le.not_gt, if_neg hσ.ne']
    refine ⟨(Real.sqrt σ)⁻¹, by positivity, e, ?_⟩
    rw [e, Ideal.div_coe hσ.ne', ← EReal.coe_mul]
    refine congrArg _ ?_
    have hq : Real.sqrt σ * Real.sqrt σ = σ := Real.mul_self_sqrt hσ.le
    have hp : 0 < Real.sqrt σ := Real.sqrt_pos.mpr hσ
    rw [mul_assoc, ← mul_inv (Real.sqrt σ) (Real.sqrt σ), hq, one_div]

/-- A nonnegative real factor comes out of a sum. -/
theorem sum_factor {n : ℕ} (f : Fin n → EReal) {ρ : ℝ} (h : 0 ≤ ρ) : ∑ k, f k * (ρ : EReal) = (∑ k, f k) * (ρ : EReal) := by
  have key : ∀ s : Finset (Fin n), ∑ k ∈ s, f k * (ρ : EReal) = (∑ k ∈ s, f k) * (ρ : EReal) := by
    intro s
    induction s using Finset.induction_on with
    | empty => simp
    | insert a s ha ih =>
      rw [Finset.sum_insert ha, Finset.sum_insert ha, ih,
        EReal.right_distrib_of_nonneg_of_ne_top (by exact_mod_cast h) (EReal.coe_ne_top _)]
  exact key _

/-- The gradient of a row's entry: the kernel's form, and the derivative's. -/
theorem row_gradient {n : ℕ} (x d : Fin n → EReal) (a b : EReal) {s : EReal} (h : 0 ≤ s) :
    Ideal.rsqrt (raised s) * (b - a * Ideal.rsqrt (raised s)
        * Ideal.div (∑ k, d k * (x k * Ideal.rsqrt (raised s))) (lit 0x45000000#32))
      = b * Ideal.rsqrt (raised s)
        + a * Ideal.div ((∑ k, x k * d k) * (lit 0xBF000000#32 * Ideal.div (Ideal.rsqrt (raised s)) (raised s))) (lit 0x45000000#32)
        + Ideal.div ((∑ k, x k * d k) * (lit 0xBF000000#32 * Ideal.div (Ideal.rsqrt (raised s)) (raised s))) (lit 0x45000000#32) * a := by
  obtain ⟨ρ, hρ, e, e'⟩ := root (raised_pos h)
  rw [e', e, lit_width, lit_half, Ideal.div_coe (by norm_num), Ideal.div_coe (by norm_num)]
  have hs : ∑ k, d k * (x k * (ρ : EReal)) = (∑ k, x k * d k) * (ρ : EReal) := by
    rw [← sum_factor _ hρ]
    exact Finset.sum_congr rfl fun k _ => by rw [← mul_assoc, mul_comm (d k)]
  rw [hs]
  generalize (∑ k, x k * d k) = T
  have hρ' : (0 : EReal) ≤ (ρ : EReal) := by exact_mod_cast hρ
  have hκ : (0 : EReal) ≤ ((ρ * ρ * ρ / 4096 : ℝ) : EReal) := by exact_mod_cast (by positivity : (0 : ℝ) ≤ ρ * ρ * ρ / 4096)
  have w : T * (((-(1 / 2) : ℝ) : EReal) * ((ρ * ρ * ρ : ℝ) : EReal)) * ((1 / 2048 : ℝ) : EReal) = -T * ((ρ * ρ * ρ / 4096 : ℝ) : EReal) := by
    have u : -T * ((ρ * ρ * ρ / 4096 : ℝ) : EReal) = T * ((-(ρ * ρ * ρ / 4096) : ℝ) : EReal) := by rw [EReal.coe_neg, mul_neg, neg_mul]
    rw [u, ← EReal.coe_mul, mul_assoc, ← EReal.coe_mul]
    refine congrArg (fun z : ℝ => T * (z : EReal)) ?_
    ring
  have v : a * (ρ : EReal) * (T * (ρ : EReal) * ((1 / 2048 : ℝ) : EReal)) * (ρ : EReal)
      = a * T * (((ρ * ρ * ρ / 4096 : ℝ) : EReal) + ((ρ * ρ * ρ / 4096 : ℝ) : EReal)) := by
    have : a * (ρ : EReal) * (T * (ρ : EReal) * ((1 / 2048 : ℝ) : EReal)) * (ρ : EReal)
        = a * T * ((ρ : EReal) * (ρ : EReal) * (ρ : EReal) * ((1 / 2048 : ℝ) : EReal)) := by
      simp only [mul_comm, mul_left_comm, mul_assoc]
    rw [this, ← EReal.coe_mul, ← EReal.coe_mul, ← EReal.coe_mul, ← EReal.coe_add]
    refine congrArg (fun z : ℝ => a * T * (z : EReal)) ?_
    ring
  have c1 : a * (-T * ((ρ * ρ * ρ / 4096 : ℝ) : EReal)) = -(a * T) * ((ρ * ρ * ρ / 4096 : ℝ) : EReal) := by
    rw [← mul_assoc, mul_neg]
  have c2 : -T * ((ρ * ρ * ρ / 4096 : ℝ) : EReal) * a = -(a * T) * ((ρ * ρ * ρ / 4096 : ℝ) : EReal) := by
    rw [mul_comm, c1]
  rw [w, c1, c2, sub_eq_add_neg, EReal.left_distrib_of_nonneg_of_ne_top hρ' (EReal.coe_ne_top _), mul_neg, mul_comm (ρ : EReal) (a * _ * _), v,
    ← neg_mul, EReal.left_distrib_of_nonneg hκ hκ, ← add_assoc, mul_comm (ρ : EReal) b]

end Cert.Rows

end
-- ==== Proof.Rows.NormBwd.lean ====
/- The gradient of the norm of a row times its gain: the kernel's blocks of 256 rows leave the reference's gradient of the
   input, and its running sum over the blocks the reference's gradient of the gain. -/
module

public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Rows.Math
public import Idealize.ShloMosaic.Lib.Pipeline.ValueKit
public import Idealize.ShloMosaic.Lib.Pointwise

@[expose] public section

set_option maxRecDepth 16384

noncomputable section

namespace Cert.NormBwdIdeal.Final

open Cert.NormBwdIdeal Cert.NormBwdIdeal.Gen Idealize.ShloMosaic Idealize.ShloMosaic.TcCoe Idealize.SL.Sem
open Idealize.ShloMosaic.Pipeline (Dat)
open Cert.NormBwdRefIdeal.Read Cert.Rows

/-- The sum of a row's squares. -/
def squares (x : Fin 2048 → EReal) : EReal := ∑ k, x k * x k

theorem squares_nonneg (x : Fin 2048 → EReal) : 0 ≤ squares x := Finset.sum_nonneg fun k _ => square_nonneg (x k)

/-- An entry of the input's gradient from its row, its row of gained incoming gradients, the entry of each and the
    residual's incoming gradient: the kernel's form. -/
def back (x d : Fin 2048 → EReal) (a b r : EReal) : EReal :=
  r + Ideal.rsqrt (raised (squares x)) * (b - a * Ideal.rsqrt (raised (squares x))
    * Ideal.div (∑ k, d k * (x k * Ideal.rsqrt (raised (squares x)))) (lit 0x45000000#32))

/-- The inverse root of a block's row. -/
theorem root_at (x : Vec Ideal S256x2048 .f32) (j : S256x1.Idx) :
    k0_pay2 x j = Ideal.rsqrt (raised (squares fun k => x (ix2 (j 0) k))) := by
  unfold raised squares
  pointwise [k0_pay2]

/-- The block's normed entry. -/
theorem normed_at (x : Vec Ideal S256x2048 .f32) (j : S256x2048.Idx) :
    k0_pay3 x j = (x j : EReal) * Ideal.rsqrt (raised (squares fun k => x (ix2 (j 0) k))) := by
  unfold raised squares
  pointwise [k0_pay3, k0_pay2]

/-- The block's entry of the input's gradient. -/
theorem block_at (x dh : Vec Ideal S256x2048 .f32) (g : Vec Ideal S1x2048 .f32) (r : Vec Ideal S256x2048 .f32) (j : S256x2048.Idx) :
    k0_pay5 x dh g r j = back (fun k => x (ix2 (j 0) k)) (fun k => (dh (ix2 (j 0) k) : EReal) * g (ix2 0 k)) (x j)
      ((dh j : EReal) * g (ix2 0 (j 1))) (r j) := by
  unfold back raised squares
  pointwise [k0_pay5, k0_pay3, k0_pay2]

/-- The gain's gradient is zeroed at the first step. -/
theorem zeroed (j : S1x2048.Idx) : k0_pay1 (F := Ideal) j = 0 := by pointwise [k0_pay1]

/-- One step adds the products of its block of rows. -/
theorem stepped (x dh : Vec Ideal S256x2048 .f32) (acc : Vec Ideal S1x2048 .f32) (j : S1x2048.Idx) :
    k0_pay4 x dh acc j = acc j + ∑ k : Fin 256, (dh (ix2 k (j 1)) : EReal)
      * ((x (ix2 k (j 1)) : EReal) * Ideal.rsqrt (raised (squares fun l => x (ix2 k l)))) := by
  unfold raised squares
  pointwise [k0_pay4, k0_pay3, k0_pay2]

/-- What the reference takes the inverse root of. -/
theorem ref_raised (X : (⟨S4096x2048, .f32⟩ : BufTy).Contents (Elt Ideal)) (i : Cert.NormBwdRefIdeal.S4096x1.Idx) :
    val_main_v7 X i = raised (squares fun k => X (ix2 (i 0) k)) := by
  rw [val_main_v7_apply, val_main_v6_apply, val_main_v5_apply, val_main_v4_apply, val_main_v3_apply, val_main_v2_apply,
    val_main_cst_1_apply, val_main_cst_0_apply, val_main_cst_apply]
  show raised (lit 0x00000000#32 + ∑ k : Fin 2048, (X (idx_main_v2 (idx_main_v3 i) k) : EReal) * X (idx_main_v2 (idx_main_v3 i) k)) = _
  rw [lit_zero, zero_add]
  have e : ∀ k : Fin 2048, idx_main_v2 (idx_main_v3 i) k = ix2 (i 0) k := fun k =>
    funext fun a => Fin.ext (by match a with | ⟨0, _⟩ => rfl | ⟨1, _⟩ => rfl)
  simp only [e]
  rfl

/-- The reference's inverse root. -/
theorem ref_root (X : (⟨S4096x2048, .f32⟩ : BufTy).Contents (Elt Ideal)) (i : Cert.NormBwdRefIdeal.S4096x1.Idx) :
    val_main_v8 X i = Ideal.rsqrt (raised (squares fun k => X (ix2 (i 0) k))) := by
  rw [val_main_v8_apply, ref_raised]
  rfl

/-- The reference's normed entry. -/
theorem ref_normed (X : (⟨S4096x2048, .f32⟩ : BufTy).Contents (Elt Ideal)) (i : S4096x2048.Idx) :
    val_main_v13 X i = (X i : EReal) * Ideal.rsqrt (raised (squares fun k => X (ix2 (i 0) k))) := by
  rw [val_main_v13_apply, val_main_v12_apply, ref_root]
  rfl

/-- The reference's incoming gradient times the gain. -/
theorem ref_gained (G : (⟨S1x2048, .f32⟩ : BufTy).Contents (Elt Ideal)) (D : (⟨S4096x2048, .f32⟩ : BufTy).Contents (Elt Ideal)) (i : S4096x2048.Idx) :
    val_main_v21 G D i = (D i : EReal) * G (ix2 0 (i 1)) := by
  rw [val_main_v21_apply, val_main_v20_apply, val_main_v14_apply, val_main_v0_apply]
  have g : idx_main_v0 (idx_main_v14 (idx_main_v20 i)) = ix2 0 (i 1) :=
    funext fun a => Fin.ext (by
      have h1 : (i 1).val < 2048 := (i 1).isLt
      match a with
      | ⟨0, _⟩ => simp
      | ⟨1, _⟩ =>
        simp
        exact h1)
  rw [g]
  rfl

/-- The reference's share of the row's mean, the same for the row's entries. -/
theorem ref_share (X : (⟨S4096x2048, .f32⟩ : BufTy).Contents (Elt Ideal)) (G : (⟨S1x2048, .f32⟩ : BufTy).Contents (Elt Ideal))
    (D : (⟨S4096x2048, .f32⟩ : BufTy).Contents (Elt Ideal)) (i : S4096x2048.Idx) :
    val_main_v32 X G D i = Ideal.div ((∑ k : Fin 2048, (X (ix2 (i 0) k) : EReal) * ((D (ix2 (i 0) k) : EReal) * G (ix2 0 k)))
      * (lit 0xBF000000#32 * Ideal.div (Ideal.rsqrt (raised (squares fun k => X (ix2 (i 0) k)))) (raised (squares fun k => X (ix2 (i 0) k)))))
      (lit 0x45000000#32) := by
  rw [val_main_v32_apply, val_main_v31_apply, val_main_cst_7_apply, Fin.sum_univ_one, val_main_v30_apply, val_main_v29_apply,
    val_main_cst_6_apply, val_main_v28_apply, val_main_v25_apply, val_main_v24_apply, val_main_cst_5_apply, val_main_v11_apply,
    val_main_v10_apply, val_main_cst_2_apply, val_main_v9_apply, ref_root, ref_raised]
  simp only [val_main_v23_apply, ref_gained]
  have e : ∀ k : Fin 2048, idx_main_v24 (idx_main_v25 (idx_main_v31 (idx_main_v32 i) 0)) k = ix2 (i 0) k := fun k =>
    funext fun a => Fin.ext (by match a with | ⟨0, _⟩ => simp | ⟨1, _⟩ => rfl)
  simp only [e]
  show lit 0x00000000#32 + Ideal.div ((lit 0x00000000#32 + ∑ k : Fin 2048, (X (ix2 (i 0) k) : EReal) * ((D (ix2 (i 0) k) : EReal) * G (ix2 0 k)))
      * (lit 0xBF000000#32 * Ideal.div (Ideal.rsqrt (raised (squares fun k => X (ix2 (i 0) k)))) (raised (squares fun k => X (ix2 (i 0) k)))))
      (lit 0x45000000#32) = _
  rw [lit_zero, zero_add, zero_add]

/-- The reference's entry of the input's gradient is the kernel's form. -/
theorem ref_at (X : (⟨S4096x2048, .f32⟩ : BufTy).Contents (Elt Ideal)) (G : (⟨S1x2048, .f32⟩ : BufTy).Contents (Elt Ideal))
    (D R : (⟨S4096x2048, .f32⟩ : BufTy).Contents (Elt Ideal)) (i : S4096x2048.Idx) :
    val_main_v37 X G D R i = back (fun k => X (ix2 (i 0) k)) (fun k => (D (ix2 (i 0) k) : EReal) * G (ix2 0 k)) (X i)
      ((D i : EReal) * G (ix2 0 (i 1))) (R i) := by
  rw [val_main_v37_apply, val_main_v36_apply, val_main_v35_apply, val_main_v34_apply, val_main_v33_apply, val_main_v27_apply,
    val_main_v26_apply, ref_root, ref_gained, ref_share]
  unfold back
  rw [row_gradient _ _ _ _ (squares_nonneg _)]
  rfl

/-- The reference's gradient of the gain, entry by entry. -/
theorem ref_gain (X D : (⟨S4096x2048, .f32⟩ : BufTy).Contents (Elt Ideal)) (i : S1x2048.Idx) :
    val_main_v38 X D i = ∑ k : Fin 4096, (D (ix2 k (i 1)) : EReal)
      * ((X (ix2 k (i 1)) : EReal) * Ideal.rsqrt (raised (squares fun l => X (ix2 k l)))) := by
  rw [val_main_v38_apply, val_main_v22_apply, val_main_cst_4_apply, Fin.sum_univ_one, val_main_v19_apply, val_main_v18_apply,
    val_main_cst_3_apply]
  simp only [val_main_v17_apply, ref_normed]
  have e : ∀ k : Fin 4096, idx_main_v18 (idx_main_v19 (idx_main_v22 (idx_main_v38 i) 0)) k = ix2 k (i 1) := fun k =>
    funext fun a => Fin.ext (by
      match a with
      | ⟨0, _⟩ => rfl
      | ⟨1, _⟩ =>
        simp)
  simp only [e]
  show lit 0x00000000#32 + (lit 0x00000000#32 + ∑ k : Fin 4096, ((X (ix2 k (i 1)) : EReal) * Ideal.rsqrt (raised (squares fun l => X (ix2 k l))))
    * D (ix2 k (i 1))) = _
  rw [lit_zero, zero_add, zero_add]
  exact Finset.sum_congr rfl fun k _ => mul_comm _ _

/-- The block that each window reads or writes at each point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0] :=
  (by decide +kernel : ∀ t : Fin grid0.N, _)

variable (m : (ℓ : Loc nD τ sig) → Buf (Elt Ideal) ℓ)

/-- What a point leaves in the window of the input's gradient. -/
theorem left (c : Dev nD) (t : Fin cfg0.N) (y : S256x2048.Idx) :
    (outsAt0 m c t.val t.isLt).1 y = k0_pay5 (iblk m c 0 t) (iblk m c 1 t) (iblk m c 3 t) (iblk m c 2 t) y := by
  by_cases h : t.val % 16 = 0
  · rw [outsAt0_A m c t h]
    frame_out
  · rw [outsAt0_B m c t h]
    frame_out

/-- The kernel's gradient of the input is the reference's. -/
theorem final (c : Dev nD) : (dats m 0 c).arrAt 4 cfg0.N
    = val_main_v37 (V m c main_arg0) (V m c main_arg1) (V m c main_arg2) (V m c main_arg3) := by
  refine (dats m 0 c).arrAt_eq_of_covers 4 _ (by decide +kernel) fun t hf y => ?_
  blk_simp
  rw [after0_4]
  refine (left m c t _).trans ?_
  rw [block_at, ref_at]
  congr 1
  · funext k
    blk_point [iblk, V, idx t]
  · funext k
    congr 1
    · blk_point [iblk, V, idx t]
    · blk_point [iblk, V, idx t]
  · blk_point [iblk, V, idx t]

/-- The kernel's gradient of the gain is the reference's. -/
theorem final_gain (c : Dev nD) : (dats m 0 c).arrAt 5 cfg0.N
    = val_main_v38 (V m c main_arg0) (V m c main_arg2) := by
  refine (dats m 0 c).arrAt_eq_of_covers 5 _ (by decide +kernel) fun t hf y => ?_
  blk_simp
  rw [after0_5]
  rw [Pipeline.eq_sum_fin_of_reset_step_apply_of_flush (fun n h => (outsAt0 m c n h).2) 16 (fun _ => 0) _
    (fun t h j => by
      rw [outsAt0_A m c t h]; frame_out; rw [stepped, zeroed])
    (fun t h j => by
      rw [outsAt0_B m c t h]; frame_out; rw [stepped])
    t ((flush0_5 t).mp hf) _, zero_add, ref_gain]
  refine Fin.sum_mul_add_congr fun s k hl => ?_
  have htN : t.val < 16 := t.isLt
  congr 1
  · blk_point [iblk, V, idx t, idx ⟨_, Pipeline.run_point_lt_of_flush t ((flush0_5 t).mp hf) s⟩]
  · congr 1
    · blk_point [iblk, V, idx t, idx ⟨_, Pipeline.run_point_lt_of_flush t ((flush0_5 t).mp hf) s⟩]
    · refine congrArg (fun f => Ideal.rsqrt (raised (squares f))) (funext fun l => ?_)
      blk_point [iblk, V, idx t, idx ⟨_, Pipeline.run_point_lt_of_flush t ((flush0_5 t).mp hf) s⟩]

end Cert.NormBwdIdeal.Final

end
-- ==== Proof.Rows.Claims.lean ====
/- The claims on the calls that go row by row: the frames of the references, and the equality of the kernels' results
   with theirs. -/
module

public import proofs.«01_k».proof.Defs
public import proofs.«01_k».proof.Proof.Rows.Norm
public import proofs.«01_k».proof.Proof.Gen.Norm.Frame
public import proofs.«01_k».proof.Proof.Rows.Gate
public import proofs.«01_k».proof.Proof.Gen.Gate.Frame
public import proofs.«01_k».proof.Proof.Rows.NormBwd
public import proofs.«01_k».proof.Proof.Gen.NormBwd.Frame
public import Idealize.ShloMosaic.Lib.Claim

@[expose] public section

set_option maxRecDepth 16384

noncomputable section

namespace Cert.Rows

open Idealize.ShloMosaic Idealize.ShloMosaic.TcCoe Idealize.SL.Sem

theorem norm_reference : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- The norm of a row times its gain. -/
theorem norm_algebraic : Cert.algebraic_NormIdeal_NormRefIdeal := by
  pair_intro
  · refine (θ_run Cert.NormIdeal.defs _ _).mono (fun r h c => ?_) (Cert.NormIdeal.Value.run_blocks m g)
    exact (h c)
  · run_from Cert.NormRefIdeal.Value.run m' g'
    have h := Cert.NormIdeal.Final.final m c
    rw [Cert.NormIdeal.Gen.V_main_arg0, Cert.NormIdeal.Gen.V_main_arg1] at h
    exact h.symm

theorem gate_reference : Cert.quiescent_GateRefIdeal := fun m g _ =>
  (θ_run Cert.GateRefIdeal.defs _ _).mono (fun r h => ⟨fun c => (h c).2, sem_eq_zero_of_no_sems (by decide) r.2⟩)
    (Cert.GateRefIdeal.Value.run (F := Ideal) m g)

/-- The gates applied to the branches and added. -/
theorem gate_algebraic : Cert.algebraic_GateIdeal_GateRefIdeal := by
  pair_intro
  · refine (θ_run Cert.GateIdeal.defs _ _).mono (fun r h c => ?_) (Cert.GateIdeal.Value.run_blocks m g)
    exact (h c)
  · run_from Cert.GateRefIdeal.Value.run m' g'
    have h := Cert.GateIdeal.Final.final m c
    rw [Cert.GateIdeal.Gen.V_main_arg0, Cert.GateIdeal.Gen.V_main_arg1, Cert.GateIdeal.Gen.V_main_arg2, Cert.GateIdeal.Gen.V_main_arg3] at h
    exact h.symm

theorem normBwd_reference : Cert.quiescent_NormBwdRefIdeal := fun m g _ =>
  (θ_run Cert.NormBwdRefIdeal.defs _ _).mono (fun r h => ⟨fun c => (h c).2.2, sem_eq_zero_of_no_sems (by decide) r.2⟩)
    (Cert.NormBwdRefIdeal.Value.run (F := Ideal) m g)

/-- The gradients of the norm of a row and of its gain. -/
theorem normBwd_algebraic : Cert.algebraic_NormBwdIdeal_NormBwdRefIdeal := by
  pair_intro
  · refine (θ_run Cert.NormBwdIdeal.defs _ _).mono (fun r h c => ?_) (Cert.NormBwdIdeal.Value.run_blocks m g)
    exact (h c)
  · run_from Cert.NormBwdRefIdeal.Value.run m' g'
    · have h := Cert.NormBwdIdeal.Final.final m c
      rw [Cert.NormBwdIdeal.Gen.V_main_arg0, Cert.NormBwdIdeal.Gen.V_main_arg1, Cert.NormBwdIdeal.Gen.V_main_arg2, Cert.NormBwdIdeal.Gen.V_main_arg3] at h
      refine (Cert.NormBwdRefIdeal.Read.val_main_v37_eq m' c).trans ?_
      rw [(hagree c).1, (hagree c).2.1, (hagree c).2.2.1, (hagree c).2.2.2]
      exact h.symm
    · have h := Cert.NormBwdIdeal.Final.final_gain m c
      rw [Cert.NormBwdIdeal.Gen.V_main_arg0, Cert.NormBwdIdeal.Gen.V_main_arg2] at h
      exact h.symm

end Cert.Rows
-- ==== Proof.Attn.Point.lean ====
module

public import proofs.«01_k».proof.Proof.Gen.KernelIdeal.Value
public import Idealize.ShloMosaic.Lib.Pointwise
public import Idealize.ShloMosaic.Lib.Pipeline.ValueKit

/-! What a grid point writes: every head's columns of its query block, as one expression in the blocks that it reads. -/

@[expose] public section

set_option maxRecDepth 16384

noncomputable section

namespace Cert.KernelIdeal.Head

open Cert.KernelIdeal Cert.KernelIdeal.Gen
open Idealize.ShloMosaic Idealize.ShloMosaic.TcCoe Idealize.SL.Sem

/-- Lane `l` of three key (or value) blocks laid side by side. -/
def near (x y z : FVec Ideal S1x128x512 .bf16) (l : Fin 384) (e : Fin 512) : EReal :=
  if h : l.val < 128 then x (ix3 0 ⟨l, by omega⟩ e)
  else if h' : l.val - 128 < 128 then y (ix3 0 ⟨l - 128, by omega⟩ e)
  else z (ix3 0 ⟨l - 128 - 128, by omega⟩ e)

/-- One entry of the block that a grid point writes. -/
def entry (ok : IVec S128x384 1) (q : FVec Ideal S1x128x2048 .bf16) (K V : Fin 384 → Fin 512 → EReal)
    (dO : FVec Ideal S1x128x2048 .f32) (lse dl : FVec Ideal S1x16x128x1 .f32) (r : Fin 128) (e : Fin 2048) : EReal :=
  (∑ l : Fin 384,
    Ideal.exp (Scalar.select (ok (ix2 r l))
        ((∑ x : Fin 128, q (ix3 0 r ⟨e / 128 * 128 + x, by omega⟩) * K l ⟨e / 128 / 4 * 128 + x, by omega⟩) * Ideal.ofBits FTy.f32 0x3DB504F3#32)
        (Named.named (F := Ideal) (φ := .f32) κ "mask" 0xF149F2CA#32) - lse (ix4 0 ⟨e / 128, by omega⟩ r 0))
      * ((∑ x : Fin 128, dO (ix3 0 r ⟨e / 128 * 128 + x, by omega⟩) * V l ⟨e / 128 / 4 * 128 + x, by omega⟩) - dl (ix4 0 ⟨e / 128, by omega⟩ r 0))
      * K l ⟨e / 128 / 4 * 128 + e % 128, by omega⟩) * Ideal.ofBits FTy.f32 0x3DB504F3#32

theorem lane_div {n k : ℕ} (hn : n % 128 = 0) (hk : k < 128) : (n + k) / 128 = n / 128 := by
  omega

theorem lane_mod {n k : ℕ} (hn : n % 128 = 0) (hk : k < 128) : (n + k) % 128 = k := by
  omega

variable (m : (ℓ : Loc nD τ sig) → Buf (Elt Ideal) ℓ)

set_option maxHeartbeats 8000000 in
/-- The block that grid point `t` leaves, entry by entry. -/
theorem point (c : Dev nD) (t : Fin cfg0.N) (y : S1x128x2048.Idx) :
    outsAt0 m c t y = entry (k0_pay2 (grid0.coords t)) (X0_0 m c t) (near (iblk m c 1 t) (iblk m c 2 t) (iblk m c 3 t))
      (near (iblk m c 4 t) (iblk m c 5 t) (iblk m c 6 t)) (iblk m c 7 t) (iblk m c 8 t) (iblk m c 9 t) (y 1) (y 2) := by
  unfold outsAt0
  frame_out
  canon_tiles x h
  all_goals
    have h1' : y 1 = x 1 := Fin.ext h1
    unfold entry near
    simp only [h1', h2, lane_mod, lane_div, x2_lt, Nat.reduceMod, Nat.mod_eq_of_lt x2_lt, Nat.div_eq_of_lt x2_lt]
    open_payloads
    pointwise
end Cert.KernelIdeal.Head
-- ==== Proof.Attn.Reads.lean ====
module

public import proofs.«01_k».proof.Proof.Attn.Point
public import Idealize.ShloMosaic.Lib.Pipeline.ValueKit
public import Idealize.ShloMosaic.Lib.Pointwise

/-! What each grid point reads of each array. -/

@[expose] public section

set_option maxRecDepth 16384

noncomputable section

namespace Cert.KernelIdeal.Reads

open Cert.KernelIdeal Cert.KernelIdeal.Gen
open Idealize.ShloMosaic Idealize.ShloMosaic.TcCoe Idealize.SL.Sem

theorem idx : ∀ t : Fin cfg0.N, (grid0.coords t 1).val = t.val % 16 ∧ win0_0.index t = ![t.val / 16, t.val % 16, 0] ∧ win0_1.index t = ![t.val / 16, t.val % 16 - 1, 4]
    ∧ win0_2.index t = ![t.val / 16, t.val % 16, 4] ∧ win0_3.index t = ![t.val / 16, min (t.val % 16 + 1) 15, 4]
    ∧ win0_4.index t = ![t.val / 16, t.val % 16 - 1, 5] ∧ win0_5.index t = ![t.val / 16, t.val % 16, 5]
    ∧ win0_6.index t = ![t.val / 16, min (t.val % 16 + 1) 15, 5] ∧ win0_7.index t = ![t.val / 16, t.val % 16, 0]
    ∧ win0_8.index t = ![t.val / 16, 0, t.val % 16, 0] ∧ win0_9.index t = ![t.val / 16, 0, t.val % 16, 0]
    ∧ win0_10.index t = ![t.val / 16, t.val % 16, 0] :=
  (by decide +kernel : ∀ t : Fin grid0.N, _)

variable (m : (ℓ : Loc nD τ sig) → Buf (Elt Ideal) ℓ)

/-- The batch of a grid point, and a row of its query block. -/
abbrev bat (t : Fin cfg0.N) : Fin 2 := ⟨t.val / 16, by have : t.val < 32 := t.isLt; omega⟩
abbrev row (t : Fin cfg0.N) (r : Fin 128) : Fin 2048 := ⟨t.val % 16 * 128 + r, by omega⟩

theorem q_at (c : Dev nD) (t : Fin cfg0.N) (z : Fin 1) (r : Fin 128) (e : Fin 2048) :
    X0_0 m c t (ix3 z r e) = m ((c : Thread nD τ).loc main_arg0) (ix3 (bat t) (row t r) ⟨e, by omega⟩) := by
  unfold X0_0 Pipeline.Window.fill
  rw [dif_pos (moved0_0 t _)]
  blk_ext [iblk, V, idx t]

theorem k_prev (c : Dev nD) (t : Fin cfg0.N) (z : Fin 1) (r : Fin 128) (e : Fin 512) :
    iblk m c 1 t (ix3 z r e) = m ((c : Thread nD τ).loc main_arg0) (ix3 (bat t) ⟨(t.val % 16 - 1) * 128 + r, by omega⟩ ⟨2048 + e, by omega⟩) := by
  blk_ext [iblk, V, idx t]

theorem k_here (c : Dev nD) (t : Fin cfg0.N) (z : Fin 1) (r : Fin 128) (e : Fin 512) :
    iblk m c 2 t (ix3 z r e) = m ((c : Thread nD τ).loc main_arg0) (ix3 (bat t) ⟨t.val % 16 * 128 + r, by omega⟩ ⟨2048 + e, by omega⟩) := by
  blk_ext [iblk, V, idx t]

theorem k_next (c : Dev nD) (t : Fin cfg0.N) (z : Fin 1) (r : Fin 128) (e : Fin 512) :
    iblk m c 3 t (ix3 z r e) = m ((c : Thread nD τ).loc main_arg0) (ix3 (bat t) ⟨min (t.val % 16 + 1) 15 * 128 + r, by omega⟩ ⟨2048 + e, by omega⟩) := by
  blk_ext [iblk, V, idx t]

theorem v_prev (c : Dev nD) (t : Fin cfg0.N) (z : Fin 1) (r : Fin 128) (e : Fin 512) :
    iblk m c 4 t (ix3 z r e) = m ((c : Thread nD τ).loc main_arg0) (ix3 (bat t) ⟨(t.val % 16 - 1) * 128 + r, by omega⟩ ⟨2560 + e, by omega⟩) := by
  blk_ext [iblk, V, idx t]

theorem v_here (c : Dev nD) (t : Fin cfg0.N) (z : Fin 1) (r : Fin 128) (e : Fin 512) :
    iblk m c 5 t (ix3 z r e) = m ((c : Thread nD τ).loc main_arg0) (ix3 (bat t) ⟨t.val % 16 * 128 + r, by omega⟩ ⟨2560 + e, by omega⟩) := by
  blk_ext [iblk, V, idx t]

theorem v_next (c : Dev nD) (t : Fin cfg0.N) (z : Fin 1) (r : Fin 128) (e : Fin 512) :
    iblk m c 6 t (ix3 z r e) = m ((c : Thread nD τ).loc main_arg0) (ix3 (bat t) ⟨min (t.val % 16 + 1) 15 * 128 + r, by omega⟩ ⟨2560 + e, by omega⟩) := by
  blk_ext [iblk, V, idx t]

theorem do_read (c : Dev nD) (t : Fin cfg0.N) (z : Fin 1) (r : Fin 128) (e : Fin 2048) :
    iblk m c 7 t (ix3 z r e) = V m c main_v64 (ix3 (bat t) (row t r) e) := by
  have key : ∀ A : FVec Ideal S2x2048x2048 .f32, View.read (Elt Ideal) ((cfg0.win 7).blk t).view A (ix3 z r e) = A (ix3 (bat t) (row t r) e) := by
    intro A
    blk_ext [idx t]
  exact key (V m c main_v64)

theorem lse_read (c : Dev nD) (t : Fin cfg0.N) (z : Fin 1) (h : Fin 16) (r : Fin 128) (w : Fin 1) :
    iblk m c 8 t (ix4 z h r w) = V m c main_v58 (ix4 (bat t) h (row t r) w) := by
  have key : ∀ A : FVec Ideal S2x16x2048x1 .f32, View.read (Elt Ideal) ((cfg0.win 8).blk t).view A (ix4 z h r w) = A (ix4 (bat t) h (row t r) w) := by
    intro A
    blk_ext [idx t]
  exact key (V m c main_v58)

theorem sums_read (c : Dev nD) (t : Fin cfg0.N) (z : Fin 1) (h : Fin 16) (r : Fin 128) (w : Fin 1) :
    iblk m c 9 t (ix4 z h r w) = V m c main_v63 (ix4 (bat t) h (row t r) w) := by
  have key : ∀ A : FVec Ideal S2x16x2048x1 .f32, View.read (Elt Ideal) ((cfg0.win 9).blk t).view A (ix4 z h r w) = A (ix4 (bat t) h (row t r) w) := by
    intro A
    blk_ext [idx t]
  exact key (V m c main_v63)

end Cert.KernelIdeal.Reads
-- ==== Proof.Attn.Math.lean ====
module

public import Idealize.ShloMosaic.PureOps.Ideal

/-! Attention weights and their gradient over the extended reals, one query row at a time: where every score is a real
number, so is each quantity of the row, and the gradient of the softmax takes its short form. -/

@[expose] public section

noncomputable section

namespace Cert.Attn

open Idealize.ShloMosaic
open scoped BigOperators

/-- A finite sum of reals is a real. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem coe_max (a b : ℝ) : ((max a b : ℝ) : EReal) = max (a : EReal) (b : EReal) :=
  EReal.coe_strictMono.monotone.map_max

theorem exp_coe (x : ℝ) : Ideal.exp (x : EReal) = ((Real.exp x : ℝ) : EReal) := rfl

theorem exp_bot : Ideal.exp ⊥ = ((0 : ℝ) : EReal) := rfl

theorem log_coe {x : ℝ} (h : 0 < x) : Ideal.log (x : EReal) = ((Real.log x : ℝ) : EReal) := by
  show (if x ≤ 0 then (⊥ : EReal) else (Real.log x : EReal)) = _
  rw [if_neg (not_le.2 h)]

theorem div_real {x y : ℝ} (h : y ≠ 0) : Ideal.div (x : EReal) (y : EReal) = ((x / y : ℝ) : EReal) := by
  rw [Ideal.div_coe h, ← EReal.coe_mul, mul_one_div]

/-- A real score where the pair is allowed, −∞ where it is masked. -/
def masked (ok : Prop) [Decidable ok] (s : ℝ) : EReal := if ok then (s : EReal) else ⊥

/-- The weight of a pair: `exp (s - L)` where the pair is allowed, zero where it is masked. -/
def weight (ok : Prop) [Decidable ok] (s L : ℝ) : ℝ := if ok then Real.exp (s - L) else 0

theorem exp_masked (ok : Prop) [Decidable ok] (s L : ℝ) : Ideal.exp (masked ok s - (L : EReal)) = ((weight ok s L : ℝ) : EReal) := by
  unfold masked weight
  split
  · rw [← EReal.coe_sub, exp_coe]
  · rw [EReal.bot_sub, exp_bot]

theorem weight_nonneg (ok : Prop) [Decidable ok] (s L : ℝ) : 0 ≤ weight ok s L := by
  unfold weight; split
  · exact (Real.exp_pos _).le
  · exact le_rfl

section Row

variable {n : ℕ} (ok : Fin n → Prop) [DecidablePred ok] (s : Fin n → ℝ)

/-- The greatest score of a row with an allowed pair is a real. -/
theorem fold_max_real (h : ∃ j, ok j) : ∃ m : ℝ, Finset.fold max (⊥ : EReal) (fun j => masked (ok j) (s j)) Finset.univ = (m : EReal) := by
  obtain ⟨j, hj⟩ := h
  set M := Finset.fold max (⊥ : EReal) (fun j => masked (ok j) (s j)) Finset.univ with hM
  have hbot : M ≠ ⊥ := by
    refine ne_of_gt ((Finset.lt_fold_max _).2 (Or.inr ⟨j, Finset.mem_univ _, ?_⟩))
    unfold masked; rw [if_pos hj]; exact EReal.bot_lt_coe _
  have htop : M ≠ ⊤ := by
    refine ne_of_lt ((Finset.fold_max_lt _).2 ⟨bot_lt_top, fun x _ => ?_⟩)
    unfold masked; split
    · exact EReal.coe_lt_top _
    · exact bot_lt_top
  exact ⟨M.toReal, (EReal.coe_toReal htop hbot).symm⟩

/-- The row's normaliser at any real shift `m`. -/
def norm (m : ℝ) : ℝ := ∑ j, weight (ok j) (s j) m

theorem norm_pos (h : ∃ j, ok j) (m : ℝ) : 0 < norm ok s m := by
  obtain ⟨j, hj⟩ := h
  refine Finset.sum_pos' (fun i _ => weight_nonneg _ _ _) ⟨j, Finset.mem_univ _, ?_⟩
  unfold weight; rw [if_pos hj]; exact Real.exp_pos _

theorem sum_exp_masked (m : ℝ) : ∑ j, Ideal.exp (masked (ok j) (s j) - (m : EReal)) = ((norm ok s m : ℝ) : EReal) := by
  rw [norm, ← coe_sum]; exact Finset.sum_congr rfl fun j _ => exp_masked _ _ _

/-- The log-sum of a row, from its greatest entry: a real. -/
theorem logsum_real (h : ∃ j, ok j) (m : ℝ) :
    (m : EReal) + Ideal.log (∑ j, Ideal.exp (masked (ok j) (s j) - (m : EReal))) = ((m + Real.log (norm ok s m) : ℝ) : EReal) := by
  rw [sum_exp_masked, log_coe (norm_pos ok s h m), EReal.coe_add]

/-- A weight against the shift `m`, rescaled to the log-sum `m + log Z` and then to any `L`, is the weight against `L`. -/
theorem weight_rescale (h : ∃ j, ok j) (m L : ℝ) (j : Fin n) :
    Real.exp (m + Real.log (norm ok s m) - L) / norm ok s m * weight (ok j) (s j) m = weight (ok j) (s j) L := by
  have hZ := norm_pos ok s h m
  unfold weight; split
  · rw [show m + Real.log (norm ok s m) - L = (m - L) + Real.log (norm ok s m) by ring, Real.exp_add, Real.exp_log hZ,
      mul_div_assoc, div_self hZ.ne', mul_one, ← Real.exp_add]
    congr 1; ring
  · exact mul_zero _

end Row

/-- `log (exp a + exp b)` as the library spells it, of two reals: a real. -/
theorem logadd_real (a b : ℝ) :
    ∃ L : ℝ, max (a : EReal) (b : EReal) + Ideal.log1p (Ideal.exp (-(max ((a : EReal) - (b : EReal)) (-((a : EReal) - (b : EReal)))))) = (L : EReal) := by
  refine ⟨max a b + Real.log (1 + Real.exp (-(max (a - b) (-(a - b))))), ?_⟩
  rw [← EReal.coe_sub, ← EReal.coe_neg, ← coe_max, ← coe_max, ← EReal.coe_neg, exp_coe, Ideal.log1p,
    show (1 : EReal) = ((1 : ℝ) : EReal) from rfl, ← EReal.coe_add, log_coe (by positivity), ← EReal.coe_add]

/-! ## The gradient of one row -/

section Grad

variable {n : ℕ} (ok : Fin n → Prop) [DecidablePred ok] (s dp : Fin n → ℝ) (L : ℝ)

/-- The row's sum of `p · dp`. -/
def rowDelta : ℝ := ∑ j, dp j * weight (ok j) (s j) L

/-- The gradient of one score: `p (dp - Σ p dp)`. -/
def rowGrad (j : Fin n) : ℝ := weight (ok j) (s j) L * (dp j - rowDelta ok s dp L)

/-- The gradient through the log-sum (the greatest entry `m`, the normaliser at `m`, the factor that the sink leaves), in
    its short form. -/
theorem grad_eq (h : ∃ j, ok j) (m : ℝ) (j : Fin n) :
    dp j * weight (ok j) (s j) L
      + (-(rowDelta ok s dp L) * Real.exp (m + Real.log (norm ok s m) - L) / norm ok s m) * weight (ok j) (s j) m
    = rowGrad ok s dp L j := by
  have := weight_rescale ok s h m L j
  rw [rowGrad, mul_div_assoc, mul_assoc, this]; ring

/-- A masked pair has no gradient. -/
theorem rowGrad_masked {j : Fin n} (h : ¬ ok j) : rowGrad ok s dp L j = 0 := by
  rw [rowGrad, weight, if_neg h, zero_mul]

end Grad

end Cert.Attn
-- ==== Proof.Attn.Words.lean ====
module

public import Idealize.ShloMosaic.PureOps
public import Idealize.ShloMosaic.Lib.WordCmp

/-! 32-bit index words as integers: the differences and comparisons of an attention band. -/

@[expose] public section

namespace Cert.Attn

open Idealize.ShloMosaic

theorem ofNat_eq_ofInt (a : ℕ) : BitVec.ofNat 32 a = BitVec.ofInt 32 (a : ℤ) := (BitVec.ofInt_natCast 32 a).symm

theorem subi_ofInt (a b : ℤ) : IntOp.subi (BitVec.ofInt 32 a) (BitVec.ofInt 32 b) = BitVec.ofInt 32 (a - b) := by
  show BitVec.ofInt 32 a - BitVec.ofInt 32 b = _
  rw [sub_eq_add_neg a b, BitVec.ofInt_add, BitVec.ofInt_neg, BitVec.sub_eq_add_neg]

theorem addi_ofInt (a b : ℤ) : IntOp.addi (BitVec.ofInt 32 a) (BitVec.ofInt 32 b) = BitVec.ofInt 32 (a + b) :=
  (BitVec.ofInt_add a b).symm

theorem muli_ofInt (a b : ℤ) : IntOp.muli (BitVec.ofInt 32 a) (BitVec.ofInt 32 b) = BitVec.ofInt 32 (a * b) :=
  (BitVec.ofInt_mul a b).symm

theorem toInt_ofInt {a : ℤ} (h : -1000000 ≤ a ∧ a ≤ 1000000) : (BitVec.ofInt 32 a).toInt = a := by
  rw [BitVec.toInt_ofInt]
  exact Int.bmod_eq_of_le (by omega) (by omega)

theorem absi_ofInt {a : ℤ} (h : -1000000 ≤ a ∧ a ≤ 1000000) :
    IntOp.absi (BitVec.ofInt 32 a) = BitVec.ofInt 32 (a.natAbs : ℤ) := by
  unfold IntOp.absi
  rw [BitVec.msb_eq_toInt, toInt_ofInt h]
  by_cases hz : a < 0
  · rw [if_pos (by simpa using hz), ← BitVec.ofInt_neg]
    congr 1
    omega
  · rw [if_neg (by simpa using hz)]
    congr 1
    omega

theorem sle_ofInt {a b : ℤ} (ha : -1000000 ≤ a ∧ a ≤ 1000000) (hb : -1000000 ≤ b ∧ b ≤ 1000000) :
    IntOp.cmpi .sle (BitVec.ofInt 32 a) (BitVec.ofInt 32 b) = BitVec.ofBool (decide (a ≤ b)) := by
  rw [WordCmp.cmpi_sle_eq, toInt_ofInt ha, toInt_ofInt hb]

theorem sge_ofInt {a b : ℤ} (ha : -1000000 ≤ a ∧ a ≤ 1000000) (hb : -1000000 ≤ b ∧ b ≤ 1000000) :
    IntOp.cmpi .sge (BitVec.ofInt 32 a) (BitVec.ofInt 32 b) = BitVec.ofBool (decide (b ≤ a)) := by
  rw [WordCmp.cmpi_sge_eq, toInt_ofInt ha, toInt_ofInt hb]

theorem slt_ofInt {a b : ℤ} (ha : -1000000 ≤ a ∧ a ≤ 1000000) (hb : -1000000 ≤ b ∧ b ≤ 1000000) :
    IntOp.cmpi .slt (BitVec.ofInt 32 a) (BitVec.ofInt 32 b) = BitVec.ofBool (decide (a < b)) := by
  rw [WordCmp.cmpi_slt_eq, toInt_ofInt ha, toInt_ofInt hb]

theorem select_ofBool {α : Type} (p : Prop) [Decidable p] (a b : α) : Scalar.select (BitVec.ofBool (decide p)) a b = if p then a else b := by
  unfold Scalar.select
  by_cases h : p <;> simp [h]

end Cert.Attn
-- ==== Proof.Attn.Row.lean ====
module

public import proofs.«01_k».proof.Proof.Gen.ReferenceIdeal.Read
public import proofs.«01_k».proof.Proof.Attn.Math
public import proofs.«01_k».proof.Proof.Attn.Words
public import Idealize.ShloMosaic.Lib.Pointwise
public import Idealize.ShloMosaic.Lib.WordCmp

/-! The reference's quantities of one row — scores, log-sum, weights, the gradient of the scores — each a real number
where the arguments are. -/

@[expose] public section

set_option maxRecDepth 16384

noncomputable section

namespace Cert.ReferenceIdeal.Row

open Cert.ReferenceIdeal Cert.ReferenceIdeal.Gen Cert.ReferenceIdeal.Read Cert.Attn
open Idealize.ShloMosaic Idealize.ShloMosaic.TcCoe Idealize.SL.Sem

/-- The scale of the scores: the rational of its word. -/
def scale : ℝ := (Ideal.ofBits FTy.f32 0x3DB504F3#32).toReal

theorem scale_eq : Ideal.ofBits FTy.f32 0x3DB504F3#32 = (scale : EReal) := by
  have h : ∃ x : ℝ, Ideal.ofBits FTy.f32 0x3DB504F3#32 = (x : EReal) := by
    unfold Ideal.ofBits Ideal.ieee
    dsimp only
    rw [if_neg (by decide), if_neg (by decide)]
    exact ⟨_, rfl⟩
  obtain ⟨x, hx⟩ := h
  rw [scale, hx, EReal.toReal_coe]

theorem neg_inf : Ideal.ofBits FTy.f32 0xFF800000#32 = (⊥ : EReal) := by
  unfold Ideal.ofBits Ideal.ieee
  dsimp only
  rw [if_pos (by decide), if_pos (by decide), if_pos (by decide)]

/-- Query `i` sees key `j`: they are at most 128 apart. -/
def sees (i j : Fin 2048) : Prop := (i : ℕ) ≤ j + 128 ∧ (j : ℕ) ≤ i + 128

instance (i : Fin 2048) : DecidablePred (sees i) := fun j => inferInstanceAs (Decidable (_ ∧ _))

theorem sees_self (i : Fin 2048) : ∃ j, sees i j := ⟨i, by unfold sees; omega⟩

theorem word_sees (i j : Fin 2048) {α : Type} (a b : α) :
    Scalar.select (IntOp.cmpi CmpIPredicate.sle (IntOp.absi (IntOp.subi (BitVec.ofNat 32 ↑i) (BitVec.ofNat 32 ↑j))) 128#32) a b
      = if sees i j then a else b := by
  have h1 := i.isLt
  have h2 := j.isLt
  rw [ofNat_eq_ofInt, ofNat_eq_ofInt, subi_ofInt, absi_ofInt (by omega), show (128#32 : BitVec 32) = BitVec.ofInt 32 128 from rfl,
    sle_ofInt (by omega) (by omega), select_ofBool]
  refine if_congr ?_ rfl rfl
  unfold sees
  omega

variable (X0 : S2x2048x3072.Idx → ℝ) (X1 : S16.Idx → ℝ) (X2 : S4096x2048.Idx → ℝ)

/-- The arguments, as extended reals. -/
abbrev up {s : Shape} (X : s.Idx → ℝ) : s.Idx → EReal := fun i => ((X i : ℝ) : EReal)

/-- The score of query `i` and key `j` in head `4 g + r` of batch `b`. -/
def score (b : Fin 2) (g r : Fin 4) (i j : Fin 2048) : ℝ :=
  (∑ x : Fin 128, X0 (ix3 b j ⟨2048 + (↑g * 128 + ↑x), by omega⟩) * X0 (ix3 b i ⟨↑g * 512 + ↑r * 128 + ↑x, by omega⟩)) * scale

theorem score_eq (b : Fin 2) (g r : Fin 4) (i j : Fin 2048) :
    val_main_v12 (F := Ideal) (up X0) (ix5 b g r i j) = (score X0 b g r i j : EReal) := by
  pointwise [val_main_v12, val_main_v11, val_main_v10, val_main_v9, val_main_v8, val_main_v5, val_main_v4, val_main_v2, val_main_v1, val_main_v0, val_main_cst]
  simp only [score, up, ← EReal.coe_mul, coe_sum, scale_eq]

theorem masked_eq (b : Fin 2) (g r : Fin 4) (i j : Fin 2048) :
    val_main_v23_0 (F := Ideal) (up X0) (ix5 b g r i j) = masked (sees i j) (score X0 b g r i j) := by
  pointwise [val_main_v23_0, val_main_v23_1, val_main_v22, val_main_v21, val_main_v20, val_main_v19, val_main_v18, val_main_v17, val_main_v16, val_main_v15, val_main_v14, val_main_v13, val_main_call0_v2, val_main_call0_v0, val_main_cst_0, val_main_c]
  rw [word_sees, score_eq]
  rfl

theorem top_eq (b : Fin 2) (g r : Fin 4) (i : Fin 2048) :
    val_main_v24 (F := Ideal) (up X0) (ix4 b g r i)
      = Finset.fold max ⊥ (fun j => masked (sees i j) (score X0 b g r i j)) Finset.univ := by
  pointwise [val_main_v24, val_main_cst_1, masked_eq]
  rw [neg_inf]

/-- The greatest score of a row. -/
def top (b : Fin 2) (g r : Fin 4) (i : Fin 2048) : ℝ := (fold_max_real (sees i) (score X0 b g r i) (sees_self i)).choose

theorem top_real (b : Fin 2) (g r : Fin 4) (i : Fin 2048) :
    val_main_v24 (F := Ideal) (up X0) (ix4 b g r i) = (top X0 b g r i : EReal) :=
  (top_eq X0 b g r i).trans (fold_max_real (sees i) (score X0 b g r i) (sees_self i)).choose_spec

/-- The row's normaliser at its greatest score. -/
def total (b : Fin 2) (g r : Fin 4) (i : Fin 2048) : ℝ := norm (sees i) (score X0 b g r i) (top X0 b g r i)

theorem part_eq (b : Fin 2) (g r : Fin 4) (i j : Fin 2048) :
    val_main_v33 (F := Ideal) (up X0) (ix5 b g r i j) = (weight (sees i j) (score X0 b g r i j) (top X0 b g r i) : EReal) := by
  pointwise [val_main_v33, val_main_v32, val_main_v31, val_main_v30, masked_eq, top_real]
  rw [exp_masked]

theorem total_eq (b : Fin 2) (g r : Fin 4) (i : Fin 2048) :
    val_main_v34 (F := Ideal) (up X0) (ix4 b g r i) = (total X0 b g r i : EReal) := by
  pointwise [val_main_v34, val_main_cst_3, part_eq]
  rw [coe_sum]
  rfl

/-- The row's log-sum before the sink. -/
def logsum (b : Fin 2) (g r : Fin 4) (i : Fin 2048) : ℝ := top X0 b g r i + Real.log (total X0 b g r i)

theorem total_pos (b : Fin 2) (g r : Fin 4) (i : Fin 2048) : 0 < total X0 b g r i := norm_pos _ _ (sees_self i) _

theorem at_logsum (b : Fin 2) (g r : Fin 4) (i : Fin 2048) : idx_main_v38 (ix4 b g r i) = ix5 b g r i 0 := by
  funext a
  have h0 := b.isLt
  have h1 := g.isLt
  have h2 := r.isLt
  have h3 := i.isLt
  fin_cases a
  all_goals apply Fin.ext
  · show (((b.val * 4 + g.val) * 4 + r.val) * 2048 + i.val) / 32768 = b.val; omega
  · show (((b.val * 4 + g.val) * 4 + r.val) * 2048 + i.val) / 8192 % 4 = g.val; omega
  · show (((b.val * 4 + g.val) * 4 + r.val) * 2048 + i.val) / 2048 % 4 = r.val; omega
  · show (((b.val * 4 + g.val) * 4 + r.val) * 2048 + i.val) / 1 % 2048 = i.val; omega
  · rfl

theorem at_top (b : Fin 2) (g r : Fin 4) (i : Fin 2048) (z : Fin 1) : idx_main_v30 (ix5 b g r i z) = ix4 b g r i := by
  funext a; fin_cases a <;> rfl

theorem at_total (b : Fin 2) (g r : Fin 4) (i : Fin 2048) (z : Fin 1) : idx_main_v35 (ix5 b g r i z) = ix4 b g r i := by
  funext a; fin_cases a <;> rfl

theorem logsum_eq (b : Fin 2) (g r : Fin 4) (i : Fin 2048) :
    val_main_v38 (F := Ideal) (up X0) (ix4 b g r i) = (logsum X0 b g r i : EReal) := by
  rw [val_main_v38_apply, at_logsum, val_main_v37_apply, val_main_v30_apply, at_top, top_real, val_main_v36_apply,
    val_main_v35_apply, at_total, total_eq]
  show (top X0 b g r i : EReal) + Ideal.log (total X0 b g r i : EReal) = _
  rw [log_coe (total_pos X0 b g r i), ← EReal.coe_add, logsum]

/-- The sink of query head `4 g + r`. -/
theorem sink_eq (z z' : Fin 1) (g r : Fin 4) :
    val_main_v39 (F := Ideal) (up X1) (ix4 z g r z') = (X1 (ix1 ⟨g * 4 + r, by omega⟩) : EReal) := by
  rw [val_main_v39_apply]
  have h : idx_main_v39 (ix4 z g r z') = ix1 ⟨g * 4 + r, by omega⟩ := by
    funext a
    have h0 := z.isLt
    have h3 := z'.isLt
    fin_cases a
    apply Fin.ext
    show ((z.val * 4 + g.val) * 4 + r.val) * 1 + z'.val = g.val * 4 + r.val
    omega
  rw [h]

/-- The row's log-sum with the sink. -/
def lse (b : Fin 2) (g r : Fin 4) (i : Fin 2048) : ℝ :=
  (logadd_real (logsum X0 b g r i) (X1 (ix1 ⟨g * 4 + r, by omega⟩))).choose

theorem une_self {t : FTy} (x : EReal) : FloatOps.cmpf (F := Ideal) (φ := t) .une x x = 0#1 := by
  show Ideal.cmp .une x x = 0#1
  simp [Ideal.cmp]

theorem pos_inf : Ideal.ofBits FTy.f32 0x7F800000#32 = (⊤ : EReal) := by
  unfold Ideal.ofBits Ideal.ieee
  dsimp only
  rw [if_pos (by decide), if_pos (by decide), if_neg (by decide)]

theorem oeq_inf (x : ℝ) : FloatOps.cmpf (F := Ideal) (φ := .f32) .oeq (x : EReal) (Ideal.ofBits FTy.f32 0x7F800000#32) = 0#1 := by
  rw [pos_inf]
  show Ideal.cmp .oeq (x : EReal) ⊤ = 0#1
  simp [Ideal.cmp]

theorem at_sink (b : Fin 2) (g r : Fin 4) (i : Fin 2048) : idx_main_v43 (ix4 b g r i) = ix4 0 g r 0 := by
  funext a; fin_cases a <;> rfl

theorem at_sink' (b : Fin 2) (g r : Fin 4) (i : Fin 2048) : idx_main_v41 (ix4 b g r i) = ix4 0 g r 0 := by
  funext a; fin_cases a <;> rfl

theorem gap_eq (b : Fin 2) (g r : Fin 4) (i : Fin 2048) :
    val_main_v44 (F := Ideal) (up X0) (up X1) (ix4 b g r i)
      = (logsum X0 b g r i : EReal) - (X1 (ix1 ⟨g * 4 + r, by omega⟩) : EReal) := by
  rw [val_main_v44_apply, val_main_v43_apply, at_sink, logsum_eq, sink_eq]
  rfl

theorem lse_eq (b : Fin 2) (g r : Fin 4) (i : Fin 2048) :
    val_main_v53 (F := Ideal) (up X0) (up X1) (ix4 b g r i) = (lse X0 X1 b g r i : EReal) := by
  rw [val_main_v53_apply, val_main_v45_apply, val_main_v52_apply, val_main_v51_apply, val_main_v50_apply, val_main_v49_apply,
    val_main_v48_apply, val_main_v42_apply, val_main_v41_apply, gap_eq, at_sink', logsum_eq, sink_eq]
  rw [une_self]
  exact (logadd_real (logsum X0 b g r i) (X1 (ix1 ⟨g * 4 + r, by omega⟩))).choose_spec

/-- The factor that the sink leaves of a row. -/
theorem left_eq (b : Fin 2) (g r : Fin 4) (i : Fin 2048) :
    val_main_v63 (F := Ideal) (up X0) (up X1) (ix4 b g r i) = (Real.exp (logsum X0 b g r i - lse X0 X1 b g r i) : EReal) := by
  rw [val_main_v63_apply, val_main_v62_apply, val_main_v57_apply, val_main_v55_apply, val_main_v54_apply, val_main_v61_apply,
    val_main_v59_apply, val_main_v58_apply, val_main_cst_5_apply, val_main_cst_7_apply, logsum_eq, lse_eq]
  show FloatOps.hostUnary .exp (FloatOps.subf (Scalar.select (FloatOps.cmpf (F := Ideal) (φ := .f32) .oeq _ (Ideal.ofBits FTy.f32 0x7F800000#32)) _ _)
    (Scalar.select (FloatOps.cmpf (F := Ideal) (φ := .f32) .oeq _ (Ideal.ofBits FTy.f32 0x7F800000#32)) _ _)) = _
  rw [oeq_inf, oeq_inf]
  show Ideal.exp ((logsum X0 b g r i : EReal) - (lse X0 X1 b g r i : EReal)) = _
  rw [← EReal.coe_sub, exp_coe]

/-- The weight of a pair. -/
theorem weight_eq (b : Fin 2) (g r : Fin 4) (i j : Fin 2048) :
    val_main_v80 (F := Ideal) (up X0) (up X1) (ix5 b g r i j) = (weight (sees i j) (score X0 b g r i j) (lse X0 X1 b g r i) : EReal) := by
  pointwise [val_main_v80, val_main_v79, val_main_v78, val_main_v77, masked_eq, lse_eq]
  rw [exp_masked]

/-- The product of the incoming gradient with the values. -/
def outer (b : Fin 2) (g r : Fin 4) (i j : Fin 2048) : ℝ :=
  ∑ x : Fin 128, X2 (ix2 ⟨b * 2048 + i, by omega⟩ ⟨g * 512 + r * 128 + x, by omega⟩) * X0 (ix3 b j ⟨2560 + (g * 128 + x), by omega⟩)

theorem outer_eq (b : Fin 2) (g r : Fin 4) (i j : Fin 2048) :
    val_main_v86 (F := Ideal) (up X0) (up X2) (ix5 b g r i j) = (outer X0 X2 b g r i j : EReal) := by
  pointwise [val_main_v86, val_main_v85, val_main_v84, val_main_v7, val_main_v6, val_main_v3, val_main_v0]
  simp only [outer, up, ← EReal.coe_mul, coe_sum]

/-- The sum over a row that the gradient of the scores takes away. -/
abbrev delta (b : Fin 2) (g r : Fin 4) (i : Fin 2048) : ℝ :=
  rowDelta (sees i) (score X0 b g r i) (outer X0 X2 b g r i) (lse X0 X1 b g r i)

theorem minus_eq (b : Fin 2) (g r : Fin 4) (i : Fin 2048) :
    val_main_v91 (F := Ideal) (up X0) (up X1) (up X2) (ix4 b g r i) = ((-(delta X0 X1 X2 b g r i) : ℝ) : EReal) := by
  pointwise [val_main_v91, val_main_v90, val_main_v89, val_main_cst_13, outer_eq, weight_eq]
  simp only [← EReal.coe_mul, ← EReal.coe_neg, coe_sum]
  rw [delta, rowDelta, Finset.sum_neg_distrib]

theorem at_minus (b : Fin 2) (g r : Fin 4) (i : Fin 2048) (z : Fin 1) :
    idx_main_v92 (idx_main_v93 (ix4 b g r i) z) = ix4 b g r i := by
  funext a
  have h0 := b.isLt
  have h1 := g.isLt
  have h2 := r.isLt
  have h3 := i.isLt
  have h4 := z.isLt
  fin_cases a
  all_goals apply Fin.ext
  · show ((((b.val * 4 + g.val) * 4 + r.val) * 2048 + i.val) * 1 + z.val) / 32768 = b.val; omega
  · show ((((b.val * 4 + g.val) * 4 + r.val) * 2048 + i.val) * 1 + z.val) / 8192 % 4 = g.val; omega
  · show ((((b.val * 4 + g.val) * 4 + r.val) * 2048 + i.val) * 1 + z.val) / 2048 % 4 = r.val; omega
  · show ((((b.val * 4 + g.val) * 4 + r.val) * 2048 + i.val) * 1 + z.val) % 2048 = i.val; omega

theorem minus_eq' (b : Fin 2) (g r : Fin 4) (i : Fin 2048) :
    val_main_v93 (F := Ideal) (up X0) (up X1) (up X2) (ix4 b g r i) = ((-(delta X0 X1 X2 b g r i) : ℝ) : EReal) := by
  rw [val_main_v93_apply, Fin.sum_univ_one, val_main_v92_apply, at_minus, minus_eq, val_main_cst_14_apply]
  show Ideal.ofBits FTy.f32 0x00000000#32 + _ = _
  rw [Ideal.ofBits_zero_f32, zero_add]

theorem at_left (b : Fin 2) (g r : Fin 4) (i : Fin 2048) (z : Fin 1) :
    idx_main_v95 (idx_main_v97 (ix4 b g r i) z) = ix4 b g r i := by
  funext a; fin_cases a <;> rfl

theorem at_norm (b : Fin 2) (g r : Fin 4) (i : Fin 2048) (z : Fin 1) :
    idx_main_v35 (idx_main_v97 (ix4 b g r i) z) = ix4 b g r i := by
  funext a; fin_cases a <;> rfl

theorem back_eq (b : Fin 2) (g r : Fin 4) (i : Fin 2048) :
    val_main_v97 (F := Ideal) (up X0) (up X1) (up X2) (ix4 b g r i)
      = ((-(delta X0 X1 X2 b g r i) * Real.exp (logsum X0 b g r i - lse X0 X1 b g r i) / total X0 b g r i : ℝ) : EReal) := by
  rw [val_main_v97_apply, Fin.sum_univ_one, val_main_v96_apply, val_main_v95_apply, at_left, val_main_v94_apply, minus_eq',
    left_eq, val_main_v35_apply, at_norm, total_eq, val_main_cst_15_apply]
  show Ideal.ofBits FTy.f32 0x00000000#32 + Ideal.div (_ * _) _ = _
  rw [Ideal.ofBits_zero_f32, zero_add, ← EReal.coe_mul, div_real (total_pos X0 b g r i).ne']

/-- The gradient of one score. -/
abbrev grad (b : Fin 2) (g r : Fin 4) (i j : Fin 2048) : ℝ :=
  rowGrad (sees i) (score X0 b g r i) (outer X0 X2 b g r i) (lse X0 X1 b g r i) j

theorem scored_eq (b : Fin 2) (g r : Fin 4) (i j : Fin 2048) :
    val_main_v100 (F := Ideal) (up X0) (up X1) (up X2) (ix5 b g r i j) = (grad X0 X1 X2 b g r i j : EReal) := by
  pointwise [val_main_v100, val_main_v99, val_main_v98, val_main_v89, outer_eq, weight_eq, back_eq, part_eq]
  rw [← EReal.coe_mul, ← EReal.coe_mul, ← EReal.coe_add, grad, ← grad_eq _ _ _ _ (sees_self i) (top X0 b g r i)]
  rfl

theorem bit_eq (b : Fin 2) (g r : Fin 4) (i j : Fin 2048) {α : Type} (x y : α) :
    Scalar.select (val_main_v23_1 (F := Ideal) (ix5 b g r i j)) x y = if sees i j then x else y := by
  pointwise [val_main_v23_1, val_main_v22, val_main_v21, val_main_v20, val_main_v19, val_main_v18, val_main_v17, val_main_v16, val_main_v15, val_main_v14, val_main_v13, val_main_c]
  rw [word_sees]

theorem grads_eq (b : Fin 2) (g r : Fin 4) (i j : Fin 2048) :
    val_main_v103 (F := Ideal) (up X0) (up X1) (up X2) (ix5 b g r i j) = ((grad X0 X1 X2 b g r i j * scale : ℝ) : EReal) := by
  pointwise [val_main_v103, val_main_v102, val_main_v101, val_main_call1_v0, val_main_call1_cst, val_main_cst_16, scored_eq]
  rw [bit_eq, scale_eq, EReal.coe_mul]
  split
  · rfl
  · rename_i h
    rw [show grad X0 X1 X2 b g r i j = 0 from rowGrad_masked _ _ _ _ h, EReal.coe_zero, zero_mul]

theorem dq_eq (b : Fin 2) (i y : Fin 2048) :
    val_main_v111 (F := Ideal) (up X0) (up X1) (up X2) (ix3 b i y)
      = ((∑ j : Fin 2048, grad X0 X1 X2 b ⟨y / 512, by omega⟩ ⟨y / 128 % 4, by omega⟩ i j * scale
          * X0 (ix3 b j ⟨2048 + (y / 512 * 128 + y % 128), by omega⟩) : ℝ) : EReal) := by
  pointwise [val_main_v111, val_main_v110, val_main_v109, val_main_v106, val_main_v105, val_main_v104, val_main_v5, val_main_v2, val_main_v0, grads_eq]
  simp only [up, ← EReal.coe_mul, coe_sum]

end Cert.ReferenceIdeal.Row
-- ==== Proof.Attn.Host.lean ====
module

public import proofs.«01_k».proof.Proof.Gen.KernelIdeal.Value
public import proofs.«01_k».proof.Proof.Attn.Row
public import Idealize.ShloMosaic.Lib.Pointwise
public import Idealize.ShloMosaic.Lib.Pipeline.ValueKit
public import Idealize.ShloMosaic.Lib.Claim

/-! What the kernel's host code prepares: the log-sums, the row sums of the gradient, the gradient by batch. -/

@[expose] public section

set_option maxRecDepth 16384

noncomputable section

namespace Cert.KernelIdeal.Host

open Cert.KernelIdeal Cert.KernelIdeal.Gen
open Cert.ReferenceIdeal.Read (val_main_v6 val_main_v12 val_main_v21 val_main_v22 val_main_v23_0 val_main_v38 val_main_v53 val_main_v80 val_main_v81 val_main_v83 val_main_v7)
open Idealize.ShloMosaic Idealize.ShloMosaic.TcCoe Idealize.SL.Sem Idealize.ShloMosaic.StableHlo

/-! ## The host lines one after another, over any contents -/

section Lines

variable (W : Valuation τ sig (Elt Ideal))

theorem line_v6 : after hostOps0_1 (after hostOps0 W) (Proc.devRef .tc main_v6) = val_main_v6 (F := Ideal) (W (Proc.devRef .tc main_arg0)) := by
  after_results_simp
  rfl

theorem line_where : after hostOps0_1 (after hostOps0 W) (Proc.devRef .tc main_v22) = val_main_v23_0 (F := Ideal) (W (Proc.devRef .tc main_arg0)) := by
  after_results_simp
  rfl

theorem line_lse (X0 : S2x2048x3072.Idx → EReal) (X1 : S16.Idx → EReal)
    (h0 : W (Proc.devRef .tc main_v22) = val_main_v23_0 (F := Ideal) X0) (h1 : W (Proc.devRef .tc main_arg1) = X1) :
    after hostOps0_2 W (Proc.devRef .tc main_v58) = shapeCast _ (val_main_v53 (F := Ideal) X0 X1) shapeCasts_S2x4x4x2048_S2x16x2048x1 := by
  after_results_simp
  rw [h0, h1]
  rfl

/-- The row sums, from the gradient by head and the forward's output by head. -/
def sums (A B : FVec Ideal S2x2048x16x128 .f32) : FVec Ideal S2x16x2048x1 .f32 :=
  broadcastInDim S2x16x2048x1 ![0, 1, 2] bcast_S2x16x2048_S2x16x2048x1_0_1_2
    (transpose S2x16x2048 [0, 2, 1] (shapeCast S2x2048x16 (transpose S2x1x2048x16 [0, 2, 1, 3]
      (shapeCast S2x2048x1x16 (shapeCast S4096x16 (Host.reduceAdd (mulf A B) (constant S_ .f32 0x00000000#32) reducesTo_S2x2048x16x128_S2x2048x16_d3 h_S_)
        shapeCasts_S2x2048x16_S4096x16) shapeCasts_S4096x16_S2x2048x1x16)
      transposes_S2x2048x1x16_S2x1x2048x16_0_2_1_3) shapeCasts_S2x1x2048x16_S2x2048x16) transposes_S2x2048x16_S2x16x2048_0_2_1)

theorem line_sums (X0 : S2x2048x3072.Idx → EReal) (X1 : S16.Idx → EReal) (X2 : S4096x2048.Idx → EReal)
    (h0 : W (Proc.devRef .tc main_v22) = val_main_v23_0 (F := Ideal) X0) (h1 : W (Proc.devRef .tc main_arg1) = X1)
    (h2 : W (Proc.devRef .tc main_arg2) = X2) (h6 : W (Proc.devRef .tc main_v6) = val_main_v6 (F := Ideal) X0) :
    after hostOps0_2 W (Proc.devRef .tc main_v63) = sums (val_main_v7 (F := Ideal) X2) (val_main_v83 (F := Ideal) X0 X1) := by
  after_results_simp
  rw [h0, h1, h2, h6]
  rfl

theorem line_do (X2 : S4096x2048.Idx → EReal) (h2 : W (Proc.devRef .tc main_arg2) = X2) :
    after hostOps0_2 W (Proc.devRef .tc main_v64) = shapeCast S2x2048x2048 X2 shapeCasts_S4096x2048_S2x2048x2048 := by
  after_results_simp
  rw [h2]
  rfl

end Lines

variable (m : (ℓ : Loc nD τ sig) → Buf (Elt Ideal) ℓ)

theorem V_lines (c : Dev nD) (b : Ref sig .tc) :
    V m c b = after hostOps0_2 (after hostOps0_1 (after hostOps0 (fun b => m (c, b)))) (Proc.devRef .tc b) := by
  show after (hostOps0 ++ (hostOps0_1 ++ (hostOps0_2 ++ []))) _ _ = _
  rw [List.append_nil, after_append, after_append]

theorem lse_entry (c : Dev nD) : V m c main_v58
    = shapeCast _ (val_main_v53 (F := Ideal) (m ((c : Thread nD τ).loc main_arg0)) (m ((c : Thread nD τ).loc main_arg1))) shapeCasts_S2x4x4x2048_S2x16x2048x1 := by
  rw [V_lines]
  refine line_lse _ _ _ (line_where _) ?_
  after_results_simp

theorem sums_entry (c : Dev nD) : V m c main_v63
    = sums (val_main_v7 (F := Ideal) (m ((c : Thread nD τ).loc main_arg2))) (val_main_v83 (F := Ideal) (m ((c : Thread nD τ).loc main_arg0)) (m ((c : Thread nD τ).loc main_arg1))) := by
  rw [V_lines]
  refine line_sums _ _ _ _ (line_where _) ?_ ?_ (line_v6 _) <;> after_results_simp

theorem do_entry (c : Dev nD) : V m c main_v64
    = shapeCast S2x2048x2048 (m ((c : Thread nD τ).loc main_arg2)) shapeCasts_S4096x2048_S2x2048x2048 := by
  rw [V_lines]
  refine line_do _ _ ?_
  after_results_simp

/-! ## Their entries -/

open Cert.ReferenceIdeal.Row

variable (X0 : S2x2048x3072.Idx → ℝ) (X1 : S16.Idx → ℝ) (X2 : S4096x2048.Idx → ℝ)

theorem lse_at (b : Fin 2) (h : Fin 16) (i : Fin 2048) (z : Fin 1) :
    (shapeCast _ (val_main_v53 (F := Ideal) (up X0) (up X1)) shapeCasts_S2x4x4x2048_S2x16x2048x1 : FVec Ideal S2x16x2048x1 .f32) (ix4 b h i z)
      = (lse X0 X1 b ⟨h / 4, by omega⟩ ⟨h % 4, by omega⟩ i : EReal) := by
  pointwise [lse_eq]

theorem out_at (b : Fin 2) (i : Fin 2048) (h : Fin 16) (d : Fin 128) :
    val_main_v83 (F := Ideal) (up X0) (up X1) (ix4 b i h d)
      = ((∑ j : Fin 2048, X0 (ix3 b j ⟨2560 + (h / 4 * 128 + d), by omega⟩)
          * Cert.Attn.weight (sees i j) (score X0 b ⟨h / 4, by omega⟩ ⟨h % 4, by omega⟩ i j) (lse X0 X1 b ⟨h / 4, by omega⟩ ⟨h % 4, by omega⟩ i) : ℝ) : EReal) := by
  pointwise [val_main_v83, Cert.ReferenceIdeal.Read.val_main_v82, val_main_v81, weight_eq, val_main_v6, Cert.ReferenceIdeal.Read.val_main_v3, Cert.ReferenceIdeal.Read.val_main_v0]
  simp only [up, ← EReal.coe_mul, Cert.Attn.coe_sum]

theorem do_at (b : Fin 2) (i : Fin 2048) (h : Fin 16) (d : Fin 128) :
    val_main_v7 (F := Ideal) (up X2) (ix4 b i h d) = (X2 (ix2 ⟨b * 2048 + i, by omega⟩ ⟨h * 128 + d, by omega⟩) : EReal) := by
  pointwise [val_main_v7]

theorem sums_at (A B : FVec Ideal S2x2048x16x128 .f32) (b : Fin 2) (h : Fin 16) (i : Fin 2048) (z : Fin 1) :
    sums A B (ix4 b h i z) = ∑ d : Fin 128, A (ix4 b i h d) * B (ix4 b i h d) := by
  pointwise [sums]

/-- The row sums are the sums that the gradient of the scores takes away. -/
theorem delta_at (b : Fin 2) (h : Fin 16) (i : Fin 2048) (z : Fin 1) :
    sums (val_main_v7 (F := Ideal) (up X2)) (val_main_v83 (F := Ideal) (up X0) (up X1)) (ix4 b h i z)
      = (delta X0 X1 X2 b ⟨h / 4, by omega⟩ ⟨h % 4, by omega⟩ i : EReal) := by
  rw [sums_at]
  simp only [do_at, out_at, ← EReal.coe_mul, Cert.Attn.coe_sum]
  congr 1
  unfold delta Cert.Attn.rowDelta outer
  simp only [Finset.mul_sum, Finset.sum_mul]
  rw [Finset.sum_comm]
  refine Finset.sum_congr rfl fun j _ => Finset.sum_congr rfl fun d _ => ?_
  have e : (⟨h * 128 + d, by omega⟩ : Fin 2048) = ⟨h / 4 * 512 + h % 4 * 128 + d, by omega⟩ := Fin.ext (by show h.val * 128 + d.val = h / 4 * 512 + h % 4 * 128 + d; omega)
  rw [e, mul_assoc]

end Cert.KernelIdeal.Host
-- ==== Proof.Attn.Band.lean ====
module

public import proofs.«01_k».proof.Proof.Attn.Row

/-! The band of a query row: the 384 lanes of three neighbouring key blocks against all 2048 keys. -/

@[expose] public section

noncomputable section

namespace Cert.Attn

open Cert.ReferenceIdeal.Row (sees)
open Idealize.ShloMosaic

/-- Lane `l` beside query block `I` holds a key, at most 128 away from the query's row `r`. -/
def inBand (I : Fin 16) (r : Fin 128) (l : Fin 384) : Prop :=
  (r : ℕ) ≤ l ∧ (l : ℕ) ≤ r + 256 ∧ 128 ≤ I * 128 + (l : ℕ) ∧ I * 128 + (l : ℕ) < 2176

instance (I : Fin 16) (r : Fin 128) : DecidablePred (inBand I r) := fun l => inferInstanceAs (Decidable (_ ∧ _))

/-- The key row that lane `l` beside query block `I` reads: at the ends the neighbour is the block itself. -/
def key (I : Fin 16) (l : Fin 384) : Fin 2048 :=
  ⟨if l.val < 128 then (I.val - 1) * 128 + l else if l.val - 128 < 128 then I.val * 128 + (l - 128) else min (I.val + 1) 15 * 128 + (l - 128 - 128), by
    split
    · omega
    · split <;> omega⟩

theorem key_val {I : Fin 16} {l : Fin 384} (h : 128 ≤ I * 128 + (l : ℕ)) (h' : I * 128 + (l : ℕ) < 2176) : (key I l).val = I * 128 + l - 128 := by
  show (if l.val < 128 then (I.val - 1) * 128 + l.val else if l.val - 128 < 128 then I.val * 128 + (l - 128) else min (I.val + 1) 15 * 128 + (l - 128 - 128)) = _
  split
  · omega
  · split <;> omega

theorem band_sum (I : Fin 16) (r : Fin 128) (i : Fin 2048) (hi : i.val = I * 128 + r) (f : Fin 2048 → ℝ) :
    ∑ l, (if inBand I r l then f (key I l) else 0) = ∑ j, if sees i j then f j else 0 := by
  rw [← Finset.sum_filter, ← Finset.sum_filter]
  refine Finset.sum_nbij (key I) ?_ ?_ ?_ fun _ _ => rfl
  · intro l hl
    obtain ⟨h1, h2, h3, h4⟩ := (Finset.mem_filter.1 hl).2
    refine Finset.mem_filter.2 ⟨Finset.mem_univ _, ?_⟩
    unfold sees
    rw [key_val h3 h4]
    omega
  · intro l hl l' hl' e
    obtain ⟨h1, h2, h3, h4⟩ := (Finset.mem_filter.1 (Finset.mem_coe.1 hl)).2
    obtain ⟨h1', h2', h3', h4'⟩ := (Finset.mem_filter.1 (Finset.mem_coe.1 hl')).2
    have := congrArg Fin.val e
    rw [key_val h3 h4, key_val h3' h4'] at this
    exact Fin.ext (by omega)
  · intro j hj
    have hs := (Finset.mem_filter.1 (Finset.mem_coe.1 hj)).2
    unfold sees at hs
    have hl : j.val + 128 - I * 128 < 384 := by omega
    have h3 : 128 ≤ I * 128 + ((⟨j.val + 128 - I * 128, hl⟩ : Fin 384) : ℕ) := by show 128 ≤ I * 128 + (j.val + 128 - I * 128); omega
    have h4 : I * 128 + ((⟨j.val + 128 - I * 128, hl⟩ : Fin 384) : ℕ) < 2176 := by show I * 128 + (j.val + 128 - I * 128) < 2176; omega
    refine ⟨⟨j.val + 128 - I * 128, hl⟩, Finset.mem_coe.2 (Finset.mem_filter.2 ⟨Finset.mem_univ _, ?_, ?_, h3, h4⟩), Fin.ext ?_⟩
    · show r.val ≤ j.val + 128 - I * 128; omega
    · show j.val + 128 - I * 128 ≤ r.val + 256; omega
    · rw [key_val h3 h4]; show I.val * 128 + (j.val + 128 - I * 128) - 128 = j.val; omega

/-- The mask's bit, computed on index words, is the band. -/
theorem band_bit (I : Fin 16) (r : Fin 128) (l : Fin 384) {α : Type} (a b : α) :
    Scalar.select (IntOp.andi
      (IntOp.andi
        (IntOp.cmpi CmpIPredicate.sle
          (IntOp.absi
            (IntOp.subi (IntOp.addi (IntOp.muli (BitVec.ofNat 32 I.val) 128#32) (BitVec.ofNat 32 r.val))
              (IntOp.addi (IntOp.muli (IntOp.subi (BitVec.ofNat 32 I.val) 1#32) 128#32) (BitVec.ofNat 32 l.val))))
          128#32)
        (IntOp.cmpi CmpIPredicate.sge
          (IntOp.addi (IntOp.muli (IntOp.subi (BitVec.ofNat 32 I.val) 1#32) 128#32) (BitVec.ofNat 32 l.val)) 0#32))
      (IntOp.cmpi CmpIPredicate.slt
        (IntOp.addi (IntOp.muli (IntOp.subi (BitVec.ofNat 32 I.val) 1#32) 128#32) (BitVec.ofNat 32 l.val)) 2048#32)) a b
      = if inBand I r l then a else b := by
  have hI := I.isLt
  have hr := r.isLt
  have hl := l.isLt
  rw [show (128#32 : BitVec 32) = BitVec.ofInt 32 128 from rfl, show (1#32 : BitVec 32) = BitVec.ofInt 32 1 from rfl,
    show (0#32 : BitVec 32) = BitVec.ofInt 32 0 from rfl, show (2048#32 : BitVec 32) = BitVec.ofInt 32 2048 from rfl]
  simp only [ofNat_eq_ofInt, subi_ofInt, muli_ofInt, addi_ofInt]
  rw [absi_ofInt (by omega), sle_ofInt (by omega) (by omega), sge_ofInt (by omega) (by omega), slt_ofInt (by omega) (by omega)]
  have e : ∀ p q : Prop, ∀ [Decidable p] [Decidable q], IntOp.andi (BitVec.ofBool (decide p)) (BitVec.ofBool (decide q)) = BitVec.ofBool (decide (p ∧ q)) := by
    intro p q _ _
    by_cases hp : p <;> by_cases hq : q <;> simp [hp, hq, IntOp.andi]
  rw [e, e, select_ofBool]
  refine if_congr ?_ rfl rfl
  unfold inBand
  omega

end Cert.Attn
-- ==== Proof.Attn.Final.lean ====
module

public import proofs.«01_k».proof.Proof.Attn.Reads
public import proofs.«01_k».proof.Proof.Attn.Host
public import proofs.«01_k».proof.Proof.Attn.Band

/-! The array that the kernel leaves is the gradient of the queries. -/

@[expose] public section

set_option maxRecDepth 16384

noncomputable section

namespace Cert.KernelIdeal.Final

open Cert.KernelIdeal Cert.KernelIdeal.Gen Cert.KernelIdeal.Head Cert.KernelIdeal.Reads Cert.KernelIdeal.Host
open Cert.Attn (inBand key weight masked band_sum band_bit exp_masked rowGrad coe_sum)
open Cert.ReferenceIdeal.Row
open Idealize.ShloMosaic Idealize.ShloMosaic.TcCoe Idealize.SL.Sem

abbrev blockNo (t : Fin cfg0.N) : Fin 16 := ⟨t.val % 16, by omega⟩

theorem ok_bit (t : Fin cfg0.N) (r : Fin 128) (l : Fin 384) (a b : EReal) :
    Scalar.select (k0_pay2 (grid0.coords t) (ix2 r l)) a b = if inBand (blockNo t) r l then a else b := by
  pointwise [k0_pay2]
  rw [(idx t).1]
  exact band_bit (blockNo t) r l a b

theorem by_batch (X2 : S4096x2048.Idx → ℝ) (b : Fin 2) (i e : Fin 2048) :
    (shapeCast S2x2048x2048 (up X2) shapeCasts_S4096x2048_S2x2048x2048 : FVec Ideal S2x2048x2048 .f32) (ix3 b i e)
      = up X2 (ix2 ⟨b * 2048 + i, by omega⟩ e) := by
  pointwise

section Arrays

variable (m : (ℓ : Loc nD τ sig) → Buf (Elt Ideal) ℓ) (c : Dev nD)
variable (X0 : S2x2048x3072.Idx → ℝ) (X1 : S16.Idx → ℝ) (X2 : S4096x2048.Idx → ℝ)

theorem keys_at (h0 : m ((c : Thread nD τ).loc main_arg0) = up X0) (t : Fin cfg0.N) (l : Fin 384) (e : Fin 512) :
    near (iblk m c 1 t) (iblk m c 2 t) (iblk m c 3 t) l e = up X0 (ix3 (bat t) (key (blockNo t) l) ⟨2048 + e, by omega⟩) := by
  unfold near
  split
  · rename_i h
    rw [k_prev, h0]
    congr 2
    exact Fin.ext (by simp only [key, if_pos h])
  · rename_i h
    split
    · rename_i h'
      rw [k_here, h0]
      congr 2
      exact Fin.ext (by simp only [key, if_neg h, if_pos h'])
    · rename_i h'
      rw [k_next, h0]
      congr 2
      exact Fin.ext (by simp only [key, if_neg h, if_neg h'])

theorem values_at (h0 : m ((c : Thread nD τ).loc main_arg0) = up X0) (t : Fin cfg0.N) (l : Fin 384) (e : Fin 512) :
    near (iblk m c 4 t) (iblk m c 5 t) (iblk m c 6 t) l e = up X0 (ix3 (bat t) (key (blockNo t) l) ⟨2560 + e, by omega⟩) := by
  unfold near
  split
  · rename_i h
    rw [v_prev, h0]
    congr 2
    exact Fin.ext (by simp only [key, if_pos h])
  · rename_i h
    split
    · rename_i h'
      rw [v_here, h0]
      congr 2
      exact Fin.ext (by simp only [key, if_neg h, if_pos h'])
    · rename_i h'
      rw [v_next, h0]
      congr 2
      exact Fin.ext (by simp only [key, if_neg h, if_neg h'])

theorem out_grad_at (h2 : m ((c : Thread nD τ).loc main_arg2) = up X2) (t : Fin cfg0.N) (z : Fin 1) (r : Fin 128) (e : Fin 2048) :
    iblk m c 7 t (ix3 z r e) = up X2 (ix2 ⟨bat t * 2048 + row t r, by omega⟩ e) := by
  rw [do_read, do_entry, h2]
  exact by_batch X2 _ _ _

theorem stat_at (h0 : m ((c : Thread nD τ).loc main_arg0) = up X0) (h1 : m ((c : Thread nD τ).loc main_arg1) = up X1)
    (t : Fin cfg0.N) (z : Fin 1) (h : Fin 16) (r : Fin 128) (w : Fin 1) :
    iblk m c 8 t (ix4 z h r w) = (lse X0 X1 (bat t) ⟨h / 4, by omega⟩ ⟨h % 4, by omega⟩ (row t r) : EReal) := by
  rw [lse_read, lse_entry, h0, h1]
  exact lse_at X0 X1 _ _ _ _

theorem delta_read (h0 : m ((c : Thread nD τ).loc main_arg0) = up X0) (h1 : m ((c : Thread nD τ).loc main_arg1) = up X1)
    (h2 : m ((c : Thread nD τ).loc main_arg2) = up X2) (t : Fin cfg0.N) (z : Fin 1) (h : Fin 16) (r : Fin 128) (w : Fin 1) :
    iblk m c 9 t (ix4 z h r w) = (delta X0 X1 X2 (bat t) ⟨h / 4, by omega⟩ ⟨h % 4, by omega⟩ (row t r) : EReal) := by
  rw [sums_read, sums_entry, h0, h1, h2]
  exact delta_at X0 X1 X2 _ _ _ _

/-- What one key of a query row's band adds to the row's gradient, before the last scaling. -/
def pull (t : Fin cfg0.N) (r : Fin 128) (e j : Fin 2048) : ℝ :=
  Real.exp (score X0 (bat t) ⟨e.val / 512, by omega⟩ ⟨e.val / 128 % 4, by omega⟩ (row t r) j
      - lse X0 X1 (bat t) ⟨e.val / 512, by omega⟩ ⟨e.val / 128 % 4, by omega⟩ (row t r))
    * (outer X0 X2 (bat t) ⟨e.val / 512, by omega⟩ ⟨e.val / 128 % 4, by omega⟩ (row t r) j
      - delta X0 X1 X2 (bat t) ⟨e.val / 512, by omega⟩ ⟨e.val / 128 % 4, by omega⟩ (row t r))
    * X0 (ix3 (bat t) j ⟨2048 + (e.val / 512 * 128 + e.val % 128), by omega⟩)

/-- What a grid point writes, over real arguments: the gradient of one query row and head, by the keys of its band. -/
theorem entry_eq (h0 : m ((c : Thread nD τ).loc main_arg0) = up X0) (h1 : m ((c : Thread nD τ).loc main_arg1) = up X1)
    (h2 : m ((c : Thread nD τ).loc main_arg2) = up X2) (t : Fin cfg0.N) (r : Fin 128) (e : Fin 2048) :
    entry (k0_pay2 (grid0.coords t)) (X0_0 m c t) (near (iblk m c 1 t) (iblk m c 2 t) (iblk m c 3 t))
      (near (iblk m c 4 t) (iblk m c 5 t) (iblk m c 6 t)) (iblk m c 7 t) (iblk m c 8 t) (iblk m c 9 t) r e
    = ((∑ j : Fin 2048, grad X0 X1 X2 (bat t) ⟨e / 512, by omega⟩ ⟨e / 128 % 4, by omega⟩ (row t r) j * scale
        * X0 (ix3 (bat t) j ⟨2048 + (e / 512 * 128 + e % 128), by omega⟩) : ℝ) : EReal) := by
  have hg : (e.val / 128 / 4) = e.val / 512 := by omega
  have mask : Named.named (F := Ideal) (φ := .f32) κ "mask" 0xF149F2CA#32 = (⊥ : EReal) := rfl
  have col : ∀ x : Fin 128, (⟨e.val / 128 * 128 + x.val, by omega⟩ : Fin 2048) = ⟨e.val / 512 * 512 + e.val / 128 % 4 * 128 + x.val, by omega⟩ :=
    fun x => Fin.ext (by show e.val / 128 * 128 + x.val = e.val / 512 * 512 + e.val / 128 % 4 * 128 + x.val; omega)
  unfold entry
  simp only [ok_bit, mask, keys_at m c X0 h0, values_at m c X0 h0, out_grad_at m c X2 h2, stat_at m c X0 X1 h0 h1, delta_read m c X0 X1 X2 h0 h1 h2,
    q_at, h0, hg, scale_eq, col]
  have term : ∀ l : Fin 384,
      Ideal.exp ((if inBand (blockNo t) r l then
          (∑ x : Fin 128, up X0 (ix3 (bat t) (row t r) ⟨e.val / 512 * 512 + e.val / 128 % 4 * 128 + x.val, by omega⟩)
            * up X0 (ix3 (bat t) (key (blockNo t) l) ⟨2048 + (e.val / 512 * 128 + x.val), by omega⟩)) * (scale : EReal) else ⊥)
          - (lse X0 X1 (bat t) ⟨e.val / 512, by omega⟩ ⟨e.val / 128 % 4, by omega⟩ (row t r) : EReal))
        * ((∑ x : Fin 128, up X2 (ix2 ⟨bat t * 2048 + row t r, by omega⟩ ⟨e.val / 512 * 512 + e.val / 128 % 4 * 128 + x.val, by omega⟩)
            * up X0 (ix3 (bat t) (key (blockNo t) l) ⟨2560 + (e.val / 512 * 128 + x.val), by omega⟩))
          - (delta X0 X1 X2 (bat t) ⟨e.val / 512, by omega⟩ ⟨e.val / 128 % 4, by omega⟩ (row t r) : EReal))
        * up X0 (ix3 (bat t) (key (blockNo t) l) ⟨2048 + (e.val / 512 * 128 + e.val % 128), by omega⟩)
      = (((if inBand (blockNo t) r l then
          pull X0 X1 X2 t r e (key (blockNo t) l) else 0) : ℝ) : EReal) := by
    intro l
    have hs : (∑ x : Fin 128, up X0 (ix3 (bat t) (row t r) ⟨e.val / 512 * 512 + e.val / 128 % 4 * 128 + x.val, by omega⟩)
            * up X0 (ix3 (bat t) (key (blockNo t) l) ⟨2048 + (e.val / 512 * 128 + x.val), by omega⟩)) * (scale : EReal)
        = (score X0 (bat t) ⟨e.val / 512, by omega⟩ ⟨e.val / 128 % 4, by omega⟩ (row t r) (key (blockNo t) l) : EReal) := by
      simp only [up, ← EReal.coe_mul, coe_sum, score]
      congr 2
      exact Finset.sum_congr rfl fun x _ => mul_comm _ _
    have ho : (∑ x : Fin 128, up X2 (ix2 ⟨bat t * 2048 + row t r, by omega⟩ ⟨e.val / 512 * 512 + e.val / 128 % 4 * 128 + x.val, by omega⟩)
            * up X0 (ix3 (bat t) (key (blockNo t) l) ⟨2560 + (e.val / 512 * 128 + x.val), by omega⟩))
        = (outer X0 X2 (bat t) ⟨e.val / 512, by omega⟩ ⟨e.val / 128 % 4, by omega⟩ (row t r) (key (blockNo t) l) : EReal) := by
      simp only [up, ← EReal.coe_mul, coe_sum, outer]
    rw [hs, ho, show (if inBand (blockNo t) r l then
        (score X0 (bat t) ⟨e.val / 512, by omega⟩ ⟨e.val / 128 % 4, by omega⟩ (row t r) (key (blockNo t) l) : EReal) else ⊥)
      = masked (inBand (blockNo t) r l) (score X0 (bat t) ⟨e.val / 512, by omega⟩ ⟨e.val / 128 % 4, by omega⟩ (row t r) (key (blockNo t) l)) from rfl, exp_masked]
    rw [← EReal.coe_sub, ← EReal.coe_mul, ← EReal.coe_mul]
    congr 1
    unfold weight pull
    split
    · rfl
    · rw [zero_mul, zero_mul]
  refine (congrArg (· * (scale : EReal)) (Finset.sum_congr rfl fun l _ => term l)).trans ?_
  show (∑ l, _) * (scale : EReal) = _
  rw [coe_sum]
  refine (congrArg (fun x : ℝ => (x : EReal) * (scale : EReal)) (band_sum (blockNo t) r (row t r) rfl (pull X0 X1 X2 t r e))).trans ?_
  rw [← EReal.coe_mul, Finset.sum_mul]
  congr 1
  refine Finset.sum_congr rfl fun j _ => ?_
  unfold pull grad rowGrad weight
  split
  · ring
  · simp

theorem placed (A : FVec Ideal S2x2048x2048 .bf16) (t : Fin cfg0.N) (y : S1x128x2048.Idx) :
    A ((win0_10.blk t).view.emb y) = A (ix3 (bat t) (row t (y 1)) (y 2)) := by
  blk_ext [idx t]

/-- The kernel's result is the reference's. -/
theorem final (h0 : m ((c : Thread nD τ).loc main_arg0) = up X0) (h1 : m ((c : Thread nD τ).loc main_arg1) = up X1)
    (h2 : m ((c : Thread nD τ).loc main_arg2) = up X2) :
    (dats m 0 c).arrAt 10 cfg0.N = Cert.ReferenceIdeal.Read.val_main_v111 (F := Ideal) (up X0) (up X1) (up X2) := by
  refine (dats m 0 c).arrAt_eq_of_covers 10 _ (by decide +kernel) fun t _ y => ?_
  blk_simp
  rw [after0_10, point]
  refine (entry_eq m c X0 X1 X2 h0 h1 h2 t _ _).trans ((dq_eq X0 X1 X2 _ _ _).symm.trans ?_)
  exact (placed _ t y).symm

end Arrays

end Cert.KernelIdeal.Final
-- ==== Proof.Attn.Finite.lean ====
module

public import proofs.«01_k».proof.Defs
public import proofs.«01_k».proof.Proof.Attn.Row
public import Idealize.ShloMosaic.Lib.Pointwise

/-! The precondition says that every argument's entry is a real number. -/

@[expose] public section

set_option maxRecDepth 16384

noncomputable section

namespace Cert.Attn

open Idealize.ShloMosaic
open Cert.ReferenceIdeal.Row (up pos_inf)

theorem finite_facts : Cert.Pre_finite.Facts where
  bitsLt_bf16_f32 := by decide
  bcast_S_S2x2048x3072 := by decide
  bcast_S_S16 := by decide
  bcast_S_S4096x2048 := by decide

/-- An entry whose absolute value is below infinity is a real. -/
theorem real_of_lt (x : EReal) (h : Ideal.cmp .olt (max x (-x)) (Ideal.ofBits FTy.f32 0x7F800000#32) = 1#1) :
    x = ((x.toReal : ℝ) : EReal) := by
  rw [pos_inf] at h
  have h' : max x (-x) < ⊤ := by
    by_contra hn
    simp [Ideal.cmp, hn] at h
  have h1 : x ≠ ⊤ := fun e => by simp [e] at h'
  have h2 : x ≠ ⊥ := fun e => by simp [e] at h'
  exact (EReal.coe_toReal h1 h2).symm

attribute [local instance] finite_facts

variable (X0 : Cert.Pre_finite.S2x2048x3072.Idx → EReal) (X1 : Cert.Pre_finite.S16.Idx → EReal) (X2 : Cert.Pre_finite.S4096x2048.Idx → EReal)

theorem input_real (h : (Cert.Pre_finite.fn (F := Ideal) X0 X1 X2).1 = fun _ => 1#1) : X0 = up fun i => (X0 i).toReal :=
  funext fun i => real_of_lt _ (congrFun h i)

theorem sink_real (h : (Cert.Pre_finite.fn (F := Ideal) X0 X1 X2).2.1 = fun _ => 1#1) : X1 = up fun i => (X1 i).toReal :=
  funext fun i => real_of_lt _ (congrFun h i)

theorem outgrad_real (h : (Cert.Pre_finite.fn (F := Ideal) X0 X1 X2).2.2 = fun _ => 1#1) : X2 = up fun i => (X2 i).toReal :=
  funext fun i => real_of_lt _ (congrFun h i)

end Cert.Attn
-- ==== Proof.lean ====
/- The certificate: the kernel's runs, the reference's runs, and the equality of their results. -/
module

public import proofs.«01_k».proof.Proof.Mm.Claims
public import proofs.«01_k».proof.Proof.Adam.Claims
public import proofs.«01_k».proof.Proof.Rows.Claims
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Attn.Final
public import proofs.«01_k».proof.Proof.Attn.Finite
public import Idealize.ShloMosaic.Lib.Claim

@[expose] public section

set_option maxRecDepth 16384

noncomputable section

namespace Cert.Proof

open Idealize.ShloMosaic Idealize.ShloMosaic.TcCoe Idealize.SL.Sem

attribute [local instance] Cert.Attn.finite_facts

/-- The reference declares no semaphore, and no operation of it writes an argument. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

set_option maxHeartbeats 1600000 in
/-- The kernel's result and the reference's are one array. -/
theorem algebraic : Cert.algebraic_KernelIdeal_ReferenceIdeal_pre_finite := by
  pair_intro
  · refine (θ_run Cert.KernelIdeal.defs _ _).mono (fun r h c => ?_) (Cert.KernelIdeal.Value.run_blocks m g)
    exact (h c)
  · run_from Cert.ReferenceIdeal.Value.run m' g'
    have h := Cert.KernelIdeal.Final.final m c _ _ _ (Cert.Attn.input_real _ _ _ (hpre c).1) (Cert.Attn.sink_real _ _ _ (hpre c).2.1)
      (Cert.Attn.outgrad_real _ _ _ (hpre c).2.2)
    rw [← Cert.Attn.input_real _ _ _ (hpre c).1, ← Cert.Attn.sink_real _ _ _ (hpre c).2.1, ← Cert.Attn.outgrad_real _ _ _ (hpre c).2.2] at h
    refine (Cert.ReferenceIdeal.Read.val_main_v111_eq (StableHlo.launchContents m' c)).trans (Eq.trans ?_ h.symm)
    obtain ⟨e0, e1, e2⟩ := hagree c
    show Cert.ReferenceIdeal.Read.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2]

theorem claim : Cert.Claim :=
  ⟨Cert.Kernel.Gen.facts,
    Cert.KernelIdeal.Gen.facts,
    Cert.ReferenceIdeal.Gen.facts,
    Cert.GwMain.Gen.facts,
    Cert.GwMainIdeal.Gen.facts,
    Cert.GwMainRefIdeal.Gen.facts,
    Cert.Dh.Gen.facts,
    Cert.DhIdeal.Gen.facts,
    Cert.DhRefIdeal.Gen.facts,
    Cert.Dup.Gen.facts,
    Cert.DupIdeal.Gen.facts,
    Cert.DupRefIdeal.Gen.facts,
    Cert.GwDown.Gen.facts,
    Cert.GwDownIdeal.Gen.facts,
    Cert.GwDownRefIdeal.Gen.facts,
    Cert.Dhm.Gen.facts,
    Cert.DhmIdeal.Gen.facts,
    Cert.DhmRefIdeal.Gen.facts,
    Cert.GwUp.Gen.facts,
    Cert.GwUpIdeal.Gen.facts,
    Cert.GwUpRefIdeal.Gen.facts,
    Cert.Dmerged.Gen.facts,
    Cert.DmergedIdeal.Gen.facts,
    Cert.DmergedRefIdeal.Gen.facts,
    Cert.GwOut.Gen.facts,
    Cert.GwOutIdeal.Gen.facts,
    Cert.GwOutRefIdeal.Gen.facts,
    Cert.Dya.Gen.facts,
    Cert.DyaIdeal.Gen.facts,
    Cert.DyaRefIdeal.Gen.facts,
    Cert.GwA.Gen.facts,
    Cert.GwAIdeal.Gen.facts,
    Cert.GwARefIdeal.Gen.facts,
    Cert.Dyb.Gen.facts,
    Cert.DybIdeal.Gen.facts,
    Cert.DybRefIdeal.Gen.facts,
    Cert.GwB.Gen.facts,
    Cert.GwBIdeal.Gen.facts,
    Cert.GwBRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Out.Gen.facts,
    Cert.OutIdeal.Gen.facts,
    Cert.OutRefIdeal.Gen.facts,
    Cert.Pa.Gen.facts,
    Cert.PaIdeal.Gen.facts,
    Cert.PaRefIdeal.Gen.facts,
    Cert.Pb.Gen.facts,
    Cert.PbIdeal.Gen.facts,
    Cert.PbRefIdeal.Gen.facts,
    Cert.AdamUp.Gen.facts,
    Cert.AdamUpIdeal.Gen.facts,
    Cert.AdamUpRefIdeal.Gen.facts,
    Cert.AdamA.Gen.facts,
    Cert.AdamAIdeal.Gen.facts,
    Cert.AdamARefIdeal.Gen.facts,
    Cert.AdamB.Gen.facts,
    Cert.AdamBIdeal.Gen.facts,
    Cert.AdamBRefIdeal.Gen.facts,
    Cert.AdamIn.Gen.facts,
    Cert.AdamInIdeal.Gen.facts,
    Cert.AdamInRefIdeal.Gen.facts,
    Cert.AdamSmall.Gen.facts,
    Cert.AdamSmallIdeal.Gen.facts,
    Cert.AdamSmallRefIdeal.Gen.facts,
    Cert.Proj.Gen.facts,
    Cert.ProjIdeal.Gen.facts,
    Cert.ProjRefIdeal.Gen.facts,
    Cert.Norm.Gen.facts,
    Cert.NormIdeal.Gen.facts,
    Cert.NormRefIdeal.Gen.facts,
    Cert.Gate.Gen.facts,
    Cert.GateIdeal.Gen.facts,
    Cert.GateRefIdeal.Gen.facts,
    Cert.NormBwd.Gen.facts,
    Cert.NormBwdIdeal.Gen.facts,
    Cert.NormBwdRefIdeal.Gen.facts,
    Cert.Attn.finite_facts,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.GwMain.Gen.frame m g,
    fun m g _ => Cert.GwMainIdeal.Gen.frame m g,
    Cert.Mm.gwMain_reference,
    fun m g _ => Cert.Dh.Gen.frame m g,
    fun m g _ => Cert.DhIdeal.Gen.frame m g,
    Cert.Mm.dh_reference,
    fun m g _ => Cert.Dup.Gen.frame m g,
    fun m g _ => Cert.DupIdeal.Gen.frame m g,
    Cert.Mm.dup_reference,
    fun m g _ => Cert.GwDown.Gen.frame m g,
    fun m g _ => Cert.GwDownIdeal.Gen.frame m g,
    Cert.Mm.gwDown_reference,
    fun m g _ => Cert.Dhm.Gen.frame m g,
    fun m g _ => Cert.DhmIdeal.Gen.frame m g,
    Cert.Mm.dhm_reference,
    fun m g _ => Cert.GwUp.Gen.frame m g,
    fun m g _ => Cert.GwUpIdeal.Gen.frame m g,
    Cert.Mm.gwUp_reference,
    fun m g _ => Cert.Dmerged.Gen.frame m g,
    fun m g _ => Cert.DmergedIdeal.Gen.frame m g,
    Cert.Mm.dmerged_reference,
    fun m g _ => Cert.GwOut.Gen.frame m g,
    fun m g _ => Cert.GwOutIdeal.Gen.frame m g,
    Cert.Mm.gwOut_reference,
    fun m g _ => Cert.Dya.Gen.frame m g,
    fun m g _ => Cert.DyaIdeal.Gen.frame m g,
    Cert.Mm.dya_reference,
    fun m g _ => Cert.GwA.Gen.frame m g,
    fun m g _ => Cert.GwAIdeal.Gen.frame m g,
    Cert.Mm.gwA_reference,
    fun m g _ => Cert.Dyb.Gen.frame m g,
    fun m g _ => Cert.DybIdeal.Gen.frame m g,
    Cert.Mm.dyb_reference,
    fun m g _ => Cert.GwB.Gen.frame m g,
    fun m g _ => Cert.GwBIdeal.Gen.frame m g,
    Cert.Mm.gwB_reference,
    fun m g _ => Cert.Up.Gen.frame m g,
    fun m g _ => Cert.UpIdeal.Gen.frame m g,
    Cert.Mm.up_reference,
    fun m g _ => Cert.Down.Gen.frame m g,
    fun m g _ => Cert.DownIdeal.Gen.frame m g,
    Cert.Mm.down_reference,
    fun m g _ => Cert.Out.Gen.frame m g,
    fun m g _ => Cert.OutIdeal.Gen.frame m g,
    Cert.Mm.out_reference,
    fun m g _ => Cert.Pa.Gen.frame m g,
    fun m g _ => Cert.PaIdeal.Gen.frame m g,
    Cert.Mm.pa_reference,
    fun m g _ => Cert.Pb.Gen.frame m g,
    fun m g _ => Cert.PbIdeal.Gen.frame m g,
    Cert.Mm.pb_reference,
    fun m g _ => Cert.AdamUp.Gen.frame m g,
    fun m g _ => Cert.AdamUpIdeal.Gen.frame m g,
    Cert.Adam.adamUp_reference,
    fun m g _ => Cert.AdamA.Gen.frame m g,
    fun m g _ => Cert.AdamAIdeal.Gen.frame m g,
    Cert.Adam.adamA_reference,
    fun m g _ => Cert.AdamB.Gen.frame m g,
    fun m g _ => Cert.AdamBIdeal.Gen.frame m g,
    Cert.Adam.adamB_reference,
    fun m g _ => Cert.AdamIn.Gen.frame m g,
    fun m g _ => Cert.AdamInIdeal.Gen.frame m g,
    Cert.Adam.adamIn_reference,
    fun m g _ => Cert.AdamSmall.Gen.frame m g,
    fun m g _ => Cert.AdamSmallIdeal.Gen.frame m g,
    Cert.Adam.adamSmall_reference,
    fun m g _ => Cert.Proj.Gen.frame m g,
    fun m g _ => Cert.ProjIdeal.Gen.frame m g,
    Cert.Mm.proj_reference,
    fun m g _ => Cert.Norm.Gen.frame m g,
    fun m g _ => Cert.NormIdeal.Gen.frame m g,
    Cert.Rows.norm_reference,
    fun m g _ => Cert.Gate.Gen.frame m g,
    fun m g _ => Cert.GateIdeal.Gen.frame m g,
    Cert.Rows.gate_reference,
    fun m g _ => Cert.NormBwd.Gen.frame m g,
    fun m g _ => Cert.NormBwdIdeal.Gen.frame m g,
    Cert.Rows.normBwd_reference,
    IdealRules.named_const.statement _ _ _ _ _ rfl,
    algebraic,
    trivial,
    Cert.Mm.gwMain_algebraic,
    trivial,
    Cert.Mm.dh_algebraic,
    trivial,
    Cert.Mm.dup_algebraic,
    trivial,
    Cert.Mm.gwDown_algebraic,
    trivial,
    Cert.Mm.dhm_algebraic,
    trivial,
    Cert.Mm.gwUp_algebraic,
    trivial,
    Cert.Mm.dmerged_algebraic,
    trivial,
    Cert.Mm.gwOut_algebraic,
    trivial,
    Cert.Mm.dya_algebraic,
    trivial,
    Cert.Mm.gwA_algebraic,
    trivial,
    Cert.Mm.dyb_algebraic,
    trivial,
    Cert.Mm.gwB_algebraic,
    trivial,
    Cert.Mm.up_algebraic,
    trivial,
    Cert.Mm.down_algebraic,
    trivial,
    Cert.Mm.out_algebraic,
    trivial,
    Cert.Mm.pa_algebraic,
    trivial,
    Cert.Mm.pb_algebraic,
    ⟨IdealRules.named_const.statement _ _ _ _ _ rfl, IdealRules.named_const.statement _ _ _ _ _ rfl⟩,
    Cert.Adam.adamUp_algebraic,
    ⟨IdealRules.named_const.statement _ _ _ _ _ rfl, IdealRules.named_const.statement _ _ _ _ _ rfl⟩,
    Cert.Adam.adamA_algebraic,
    ⟨IdealRules.named_const.statement _ _ _ _ _ rfl, IdealRules.named_const.statement _ _ _ _ _ rfl⟩,
    Cert.Adam.adamB_algebraic,
    ⟨IdealRules.named_const.statement _ _ _ _ _ rfl, IdealRules.named_const.statement _ _ _ _ _ rfl⟩,
    Cert.Adam.adamIn_algebraic,
    ⟨IdealRules.named_const.statement _ _ _ _ _ rfl, IdealRules.named_const.statement _ _ _ _ _ rfl⟩,
    Cert.Adam.adamSmall_algebraic,
    trivial,
    Cert.Mm.proj_algebraic,
    trivial,
    Cert.Rows.norm_algebraic,
    trivial,
    Cert.Rows.gate_algebraic,
    trivial,
    Cert.Rows.normBwd_algebraic⟩

end Cert.Proof

end
